-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_a_logs [hPre_a_logs : Cert.Pre_a_logs.Facts] (m : (ℓ : Loc Cert.KernelIdeal.nD Cert.KernelIdeal.τ Cert.KernelIdeal.sig) → Buf (Elt Ideal) ℓ) : Prop :=
  ∀ c : Dev Cert.KernelIdeal.nD,
    (Cert.Pre_a_logs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_a_logs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_a_logs [hPre_a_logs : Cert.Pre_a_logs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_a_logs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_a_logs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_a_logs [hKernelIdeal : Cert.KernelIdeal.Facts] [hPre_a_logs : Cert.Pre_a_logs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_a_logs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_a_logs [hReferenceIdeal : Cert.ReferenceIdeal.Facts] [hPre_a_logs : Cert.Pre_a_logs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_a_logs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_a_logs [hKernelIdeal : Cert.KernelIdeal.Facts] [hReferenceIdeal : Cert.ReferenceIdeal.Facts] [hPre_a_logs : Cert.Pre_a_logs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_a_logs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_a_logs : Cert.Pre_a_logs.Facts),
    quiescent_Kernel (hKernel := hKernel)
    ∧ quiescent_KernelIdeal (hKernelIdeal := hKernelIdeal)
    ∧ quiescent_KernelIdeal_pre_a_logs (hKernelIdeal := hKernelIdeal) (hPre_a_logs := hPre_a_logs)
    ∧ quiescent_ReferenceIdeal (hReferenceIdeal := hReferenceIdeal)
    ∧ quiescent_ReferenceIdeal_pre_a_logs (hReferenceIdeal := hReferenceIdeal) (hPre_a_logs := hPre_a_logs)
    ∧ preserves_Kernel_KernelIdeal
    ∧ algebraic_KernelIdeal_ReferenceIdeal_pre_a_logs (hKernelIdeal := hKernelIdeal) (hReferenceIdeal := hReferenceIdeal) (hPre_a_logs := hPre_a_logs)
-- ==== Pre_a_logs.lean ====
abbrev S4x512x1024 : Shape := ⟨3, ![4, 512, 1024]⟩
abbrev S4096x1024 : Shape := ⟨2, ![4096, 1024]⟩
abbrev S2048x1x4 : Shape := ⟨3, ![2048, 1, 4]⟩
abbrev S2048 : Shape := ⟨1, ![2048]⟩
abbrev S96x2048 : Shape := ⟨2, ![96, 2048]⟩
abbrev S2048x64 : Shape := ⟨2, ![2048, 64]⟩
abbrev S2048x16 : Shape := ⟨2, ![2048, 16]⟩
abbrev S1024x2048 : Shape := ⟨2, ![1024, 2048]⟩
abbrev S_ : Shape := ⟨0, ![]⟩

class Facts : Prop where
  bcast_S_S2048x16 : S_.BroadcastsInDim S2048x16 (![] : Fin 0 → Fin S2048x16.rank)

variable [Facts]

def fn {F : FTy → Type} [FloatOps F] (main_arg0 : FVec F S4x512x1024 .f32) (main_arg1 : FVec F S4096x1024 .f32) (main_arg2 : FVec F S2048x1x4 .f32) (main_arg3 : FVec F S2048 .f32) (main_arg4 : FVec F S96x2048 .f32) (main_arg5 : FVec F S2048x64 .f32) (main_arg6 : FVec F S2048 .f32) (main_arg7 : FVec F S2048x16 .f32) (main_arg8 : FVec F S2048 .f32) (main_arg9 : FVec F S2048x1x4 .f32) (main_arg10 : FVec F S2048 .f32) (main_arg11 : FVec F S96x2048 .f32) (main_arg12 : FVec F S2048x64 .f32) (main_arg13 : FVec F S2048 .f32) (main_arg14 : FVec F S2048x16 .f32) (main_arg15 : FVec F S2048 .f32) (main_arg16 : FVec F S1024x2048 .f32) : IVec S2048x16 1 × IVec S2048x16 1 :=
  let main_v0 : IVec S2048x16 32 := iotaInDim S2048x16 32 1
  let main_c : IVec S_ 32 := constantI S_ 32 1#32
  let main_v1 : IVec S2048x16 32 := broadcastInDim S2048x16 ![] bcast_S_S2048x16 main_c
  let main_v2 : IVec S2048x16 32 := addi main_v0 main_v1
  let main_v3 : FVec F S2048x16 .f32 := sitofp .f32 main_v2
  let main_v4 : FVec F S2048x16 .f32 := Host.log main_v3
  let main_v5 : IVec S2048x16 1 := cmpf .oeq main_arg7 main_v4
  let main_v6 : IVec S2048x16 1 := cmpf .oeq main_arg14 main_v4
  (main_v5, main_v6)
-- ==== Kernel.lean ====
abbrev S4x512x1024 : Shape := ⟨3, ![4, 512, 1024]⟩
abbrev S4096x1024 : Shape := ⟨2, ![4096, 1024]⟩
abbrev S2048x1x4 : Shape := ⟨3, ![2048, 1, 4]⟩
abbrev S2048 : Shape := ⟨1, ![2048]⟩
abbrev S96x2048 : Shape := ⟨2, ![96, 2048]⟩
abbrev S2048x64 : Shape := ⟨2, ![2048, 64]⟩
abbrev S2048x16 : Shape := ⟨2, ![2048, 16]⟩
abbrev S1024x2048 : Shape := ⟨2, ![1024, 2048]⟩
abbrev S2048x4 : Shape := ⟨2, ![2048, 4]⟩
abbrev S4x2048 : Shape := ⟨2, ![4, 2048]⟩
abbrev S1x2048 : Shape := ⟨2, ![1, 2048]⟩
abbrev S2048x96 : Shape := ⟨2, ![2048, 96]⟩
abbrev S1x2048x96 : Shape := ⟨3, ![1, 2048, 96]⟩
abbrev S2x2048x96 : Shape := ⟨3, ![2, 2048, 96]⟩
abbrev S64x2048 : Shape := ⟨2, ![64, 2048]⟩
abbrev S1x64x2048 : Shape := ⟨3, ![1, 64, 2048]⟩
abbrev S2x64x2048 : Shape := ⟨3, ![2, 64, 2048]⟩
abbrev S1x1x2048 : Shape := ⟨3, ![1, 1, 2048]⟩
abbrev S2x1x2048 : Shape := ⟨3, ![2, 1, 2048]⟩
abbrev S512x512 : Shape := ⟨2, ![512, 512]⟩
abbrev S_ : Shape := ⟨0, ![]⟩
abbrev S4x2x512x2048 : Shape := ⟨4, ![4, 2, 512, 2048]⟩
abbrev S512x4x1x2048 : Shape := ⟨4, ![512, 4, 1, 2048]⟩
abbrev S1x512x1024 : Shape := ⟨3, ![1, 512, 1024]⟩
abbrev S1024x1024 : Shape := ⟨2, ![1024, 1024]⟩
abbrev S4x1024 : Shape := ⟨2, ![4, 1024]⟩
abbrev S1x1024 : Shape := ⟨2, ![1, 1024]⟩
abbrev S1x2x512x1024 : Shape := ⟨4, ![1, 2, 512, 1024]⟩
abbrev S512x1x1x1024 : Shape := ⟨4, ![512, 1, 1, 1024]⟩
abbrev S512x1024 : Shape := ⟨2, ![512, 1024]⟩
abbrev S511x1024 : Shape := ⟨2, ![511, 1024]⟩
abbrev S1x1x512x1024 : Shape := ⟨4, ![1, 1, 512, 1024]⟩
abbrev S512x8x1x2048 : Shape := ⟨4, ![512, 8, 1, 2048]⟩
abbrev S512x8x1x16 : Shape := ⟨4, ![512, 8, 1, 16]⟩
abbrev S1x1x512x2048 : Shape := ⟨4, ![1, 1, 512, 2048]⟩
abbrev S512x1x1x2048 : Shape := ⟨4, ![512, 1, 1, 2048]⟩
abbrev S512x1x1x16 : Shape := ⟨4, ![512, 1, 1, 16]⟩
abbrev S512x2048 : Shape := ⟨2, ![512, 2048]⟩
abbrev S512x96 : Shape := ⟨2, ![512, 96]⟩
abbrev S512x64 : Shape := ⟨2, ![512, 64]⟩
abbrev S512x16 : Shape := ⟨2, ![512, 16]⟩
abbrev S16x16 : Shape := ⟨2, ![16, 16]⟩
abbrev S16x16x128 : Shape := ⟨3, ![16, 16, 128]⟩
abbrev S16x2048 : Shape := ⟨2, ![16, 2048]⟩
abbrev S512x1x8x2048 : Shape := ⟨4, ![512, 1, 8, 2048]⟩
abbrev S512x1x8x16 : Shape := ⟨4, ![512, 1, 8, 16]⟩
abbrev S128x1x8x128 : Shape := ⟨4, ![128, 1, 8, 128]⟩
abbrev S128x1x8x16 : Shape := ⟨4, ![128, 1, 8, 16]⟩
abbrev S8x2048 : Shape := ⟨2, ![8, 2048]⟩
abbrev S128x8x2048 : Shape := ⟨3, ![128, 8, 2048]⟩
abbrev S1024x16 : Shape := ⟨2, ![1024, 16]⟩
abbrev S8x128 : Shape := ⟨2, ![8, 128]⟩
abbrev S1x1x8x128 : Shape := ⟨4, ![1, 1, 8, 128]⟩
abbrev S1x8x1024 : Shape := ⟨3, ![1, 8, 1024]⟩
abbrev S8x1024 : Shape := ⟨2, ![8, 1024]⟩

abbrev nBuf : Space → Nat
  | .hbm => 71
  | .vmem => 68
  | .smem => 0
  | _ => 0

abbrev bufTy : (tb : Table) → Fin (tcTables nBuf tb) → BufTy
  | .hbm, ⟨0, _⟩ => ⟨S4x512x1024, .f32⟩
  | .hbm, ⟨1, _⟩ => ⟨S4096x1024, .f32⟩
  | .hbm, ⟨2, _⟩ => ⟨S2048x1x4, .f32⟩
  | .hbm, ⟨3, _⟩ => ⟨S2048, .f32⟩
  | .hbm, ⟨4, _⟩ => ⟨S96x2048, .f32⟩
  | .hbm, ⟨5, _⟩ => ⟨S2048x64, .f32⟩
  | .hbm, ⟨6, _⟩ => ⟨S2048, .f32⟩
  | .hbm, ⟨7, _⟩ => ⟨S2048x16, .f32⟩
  | .hbm, ⟨8, _⟩ => ⟨S2048, .f32⟩
  | .hbm, ⟨9, _⟩ => ⟨S2048x1x4, .f32⟩
  | .hbm, ⟨10, _⟩ => ⟨S2048, .f32⟩
  | .hbm, ⟨11, _⟩ => ⟨S96x2048, .f32⟩
  | .hbm, ⟨12, _⟩ => ⟨S2048x64, .f32⟩
  | .hbm, ⟨13, _⟩ => ⟨S2048, .f32⟩
  | .hbm, ⟨14, _⟩ => ⟨S2048x16, .f32⟩
  | .hbm, ⟨15, _⟩ => ⟨S2048, .f32⟩
  | .hbm, ⟨16, _⟩ => ⟨S1024x2048, .f32⟩
  | .hbm, ⟨17, _⟩ => ⟨S2048x4, .f32⟩
  | .hbm, ⟨18, _⟩ => ⟨S4x2048, .f32⟩
  | .hbm, ⟨19, _⟩ => ⟨S2048x4, .f32⟩
  | .hbm, ⟨20, _⟩ => ⟨S4x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S2048x96, .f32⟩
  | .hbm, ⟨26, _⟩ => ⟨S2048x96, .f32⟩
  | .hbm, ⟨27, _⟩ => ⟨S1x2048x96, .f32⟩
  | .hbm, ⟨28, _⟩ => ⟨S1x2048x96, .f32⟩
  | .hbm, ⟨29, _⟩ => ⟨S2x2048x96, .f32⟩
  | .hbm, ⟨30, _⟩ => ⟨S64x2048, .f32⟩
  | .hbm, ⟨31, _⟩ => ⟨S64x2048, .f32⟩
  | .hbm, ⟨32, _⟩ => ⟨S1x64x2048, .f32⟩
  | .hbm, ⟨33, _⟩ => ⟨S1x64x2048, .f32⟩
  | .hbm, ⟨34, _⟩ => ⟨S2x64x2048, .f32⟩
  | .hbm, ⟨35, _⟩ => ⟨S1x2048, .f32⟩
  | .hbm, ⟨36, _⟩ => ⟨S1x2048, .f32⟩
  | .hbm, ⟨37, _⟩ => ⟨S1x1x2048, .f32⟩
  | .hbm, ⟨38, _⟩ => ⟨S1x1x2048, .f32⟩
  | .hbm, ⟨39, _⟩ => ⟨S2x1x2048, .f32⟩
  | .hbm, ⟨40, _⟩ => ⟨S512x512, .i32⟩
  | .hbm, ⟨41, _⟩ => ⟨S512x512, .i32⟩
  | .hbm, ⟨42, _⟩ => ⟨S_, .i32⟩
  | .hbm, ⟨43, _⟩ => ⟨S512x512, .i32⟩
  | .hbm, ⟨44, _⟩ => ⟨S512x512, .i32⟩
  | .hbm, ⟨45, _⟩ => ⟨S512x512, .i1⟩
  | .hbm, ⟨46, _⟩ => ⟨S512x512, .f32⟩
  | .hbm, ⟨47, _⟩ => ⟨S512x512, .f32⟩
  | .hbm, ⟨48, _⟩ => ⟨S4x2x512x2048, .f32⟩
  | .hbm, ⟨49, _⟩ => ⟨S512x4x1x2048, .f32⟩
  | .hbm, ⟨50, _⟩ => ⟨S512x4x1x2048, .f32⟩
  | .hbm, ⟨51, _⟩ => ⟨S512x8x1x2048, .f32⟩
  | .hbm, ⟨52, _⟩ => ⟨S512x8x1x2048, .f32⟩
  | .hbm, ⟨53, _⟩ => ⟨S512x8x1x16, .f32⟩
  | .hbm, ⟨54, _⟩ => ⟨S512x8x1x16, .f32⟩
  | .hbm, ⟨55, _⟩ => ⟨S16x16, .i32⟩
  | .hbm, ⟨56, _⟩ => ⟨S16x16, .i32⟩
  | .hbm, ⟨57, _⟩ => ⟨S_, .i32⟩
  | .hbm, ⟨58, _⟩ => ⟨S16x16, .i32⟩
  | .hbm, ⟨59, _⟩ => ⟨S16x16, .i32⟩
  | .hbm, ⟨60, _⟩ => ⟨S16x16, .i1⟩
  | .hbm, ⟨61, _⟩ => ⟨S16x16, .f32⟩
  | .hbm, ⟨62, _⟩ => ⟨S16x16x128, .f32⟩
  | .hbm, ⟨63, _⟩ => ⟨S16x2048, .f32⟩
  | .hbm, ⟨64, _⟩ => ⟨S512x1x8x2048, .f32⟩
  | .hbm, ⟨65, _⟩ => ⟨S512x1x8x2048, .f32⟩
  | .hbm, ⟨66, _⟩ => ⟨S512x1x8x16, .f32⟩
  | .hbm, ⟨67, _⟩ => ⟨S512x1x8x16, .f32⟩
  | .hbm, ⟨68, _⟩ => ⟨S512x1x8x2048, .f32⟩
  | .hbm, ⟨69, _⟩ => ⟨S512x8x1x2048, .f32⟩
  | .hbm, ⟨70, _⟩ => ⟨S4x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S4x1024, .f32⟩
  | .local _ .vmem, ⟨7, _⟩ => ⟨S4x1024, .f32⟩
  | .local _ .vmem, ⟨8, _⟩ => ⟨S1x1024, .f32⟩
  | .local _ .vmem, ⟨9, _⟩ => ⟨S1x1024, .f32⟩
  | .local _ .vmem, ⟨10, _⟩ => ⟨S4x1024, .f32⟩
  | .local _ .vmem, ⟨11, _⟩ => ⟨S4x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x2x512x1024, .f32⟩
  | .local _ .vmem, ⟨19, _⟩ => ⟨S1x2x512x1024, .f32⟩
  | .local _ .vmem, ⟨20, _⟩ => ⟨S512x1x1x1024, .f32⟩
  | .local _ .vmem, ⟨21, _⟩ => ⟨S512x1x1x1024, .f32⟩
  | .local _ .vmem, ⟨22, _⟩ => ⟨S512x1x1x1024, .f32⟩
  | .local _ .vmem, ⟨23, _⟩ => ⟨S512x1x1x1024, .f32⟩
  | .local _ .vmem, ⟨24, _⟩ => ⟨S1x1x512x2048, .f32⟩
  | .local _ .vmem, ⟨25, _⟩ => ⟨S1x1x512x2048, .f32⟩
  | .local _ .vmem, ⟨26, _⟩ => ⟨S512x512, .f32⟩
  | .local _ .vmem, ⟨27, _⟩ => ⟨S1x2048x96, .f32⟩
  | .local _ .vmem, ⟨28, _⟩ => ⟨S1x2048x96, .f32⟩
  | .local _ .vmem, ⟨29, _⟩ => ⟨S1x64x2048, .f32⟩
  | .local _ .vmem, ⟨30, _⟩ => ⟨S1x64x2048, .f32⟩
  | .local _ .vmem, ⟨31, _⟩ => ⟨S1x1x2048, .f32⟩
  | .local _ .vmem, ⟨32, _⟩ => ⟨S1x1x2048, .f32⟩
  | .local _ .vmem, ⟨33, _⟩ => ⟨S512x1x1x2048, .f32⟩
  | .local _ .vmem, ⟨34, _⟩ => ⟨S512x1x1x2048, .f32⟩
  | .local _ .vmem, ⟨35, _⟩ => ⟨S512x1x1x2048, .f32⟩
  | .local _ .vmem, ⟨36, _⟩ => ⟨S512x1x1x2048, .f32⟩
  | .local _ .vmem, ⟨37, _⟩ => ⟨S512x1x1x16, .f32⟩
  | .local _ .vmem, ⟨38, _⟩ => ⟨S512x1x1x16, .f32⟩
  | .local _ .vmem, ⟨39, _⟩ => ⟨S512x1x1x16, .f32⟩
  | .local _ .vmem, ⟨40, _⟩ => ⟨S512x1x1x16, .f32⟩
  | .local _ .vmem, ⟨41, _⟩ => ⟨S512x2048, .f32⟩
  | .local _ .vmem, ⟨42, _⟩ => ⟨S128x1x8x128, .f32⟩
  | .local _ .vmem, ⟨43, _⟩ => ⟨S128x1x8x128, .f32⟩
  | .local _ .vmem, ⟨44, _⟩ => ⟨S128x1x8x128, .f32⟩
  | .local _ .vmem, ⟨45, _⟩ => ⟨S128x1x8x128, .f32⟩
  | .local _ .vmem, ⟨46, _⟩ => ⟨S128x1x8x16, .f32⟩
  | .local _ .vmem, ⟨47, _⟩ => ⟨S128x1x8x16, .f32⟩
  | .local _ .vmem, ⟨48, _⟩ => ⟨S128x1x8x16, .f32⟩
  | .local _ .vmem, ⟨49, _⟩ => ⟨S128x1x8x16, .f32⟩
  | .local _ .vmem, ⟨50, _⟩ => ⟨S16x2048, .f32⟩
  | .local _ .vmem, ⟨51, _⟩ => ⟨S128x1x8x128, .f32⟩
  | .local _ .vmem, ⟨52, _⟩ => ⟨S128x1x8x128, .f32⟩
  | .local _ .vmem, ⟨53, _⟩ => ⟨S8x2048, .f32⟩
  | .local _ .vmem, ⟨54, _⟩ => ⟨S128x8x2048, .f32⟩
  | .local _ .vmem, ⟨55, _⟩ => ⟨S128x8x2048, .f32⟩
  | .local _ .vmem, ⟨56, _⟩ => ⟨S512x1x1x2048, .f32⟩
  | .local _ .vmem, ⟨57, _⟩ => ⟨S512x1x1x2048, .f32⟩
  | .local _ .vmem, ⟨58, _⟩ => ⟨S512x1x1x2048, .f32⟩
  | .local _ .vmem, ⟨59, _⟩ => ⟨S512x1x1x2048, .f32⟩
  | .local _ .vmem, ⟨60, _⟩ => ⟨S512x1x1x2048, .f32⟩
  | .local _ .vmem, ⟨61, _⟩ => ⟨S512x1x1x2048, .f32⟩
  | .local _ .vmem, ⟨62, _⟩ => ⟨S512x1x1x2048, .f32⟩
  | .local _ .vmem, ⟨63, _⟩ => ⟨S512x1x1x2048, .f32⟩
  | .local _ .vmem, ⟨64, _⟩ => ⟨S512x512, .f32⟩
  | .local _ .vmem, ⟨65, _⟩ => ⟨S1024x2048, .f32⟩
  | .local _ .vmem, ⟨66, _⟩ => ⟨S1x512x1024, .f32⟩
  | .local _ .vmem, ⟨67, _⟩ => ⟨S1x512x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30_0 : Ref sig .tc := ⟨.hbm, 48, rfl⟩
abbrev main_v30_1 : Ref sig .tc := ⟨.hbm, 49, rfl⟩
abbrev main_v30_2 : Ref sig .tc := ⟨.hbm, 50, rfl⟩
abbrev main_v31_0 : Ref sig .tc := ⟨.hbm, 51, rfl⟩
abbrev main_v31_1 : Ref sig .tc := ⟨.hbm, 52, rfl⟩
abbrev main_v31_2 : Ref sig .tc := ⟨.hbm, 53, rfl⟩
abbrev main_v31_3 : Ref sig .tc := ⟨.hbm, 54, rfl⟩
abbrev main_v32 : Ref sig .tc := ⟨.hbm, 55, rfl⟩
abbrev main_v33 : Ref sig .tc := ⟨.hbm, 56, rfl⟩
abbrev main_c_0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg5_1 : Ref sig .tc := ⟨.vmem, 34, rfl⟩
abbrev cc1_stg6_0 : Ref sig .tc := ⟨.vmem, 35, rfl⟩
abbrev cc1_stg6_1 : Ref sig .tc := ⟨.vmem, 36, rfl⟩
abbrev cc1_stg7_0 : Ref sig .tc := ⟨.vmem, 37, rfl⟩
abbrev cc1_stg7_1 : Ref sig .tc := ⟨.vmem, 38, rfl⟩
abbrev cc1_stg8_0 : Ref sig .tc := ⟨.vmem, 39, rfl⟩
abbrev cc1_stg8_1 : Ref sig .tc := ⟨.vmem, 40, rfl⟩
abbrev cc1_scratch0 : Ref sig .tc := ⟨.vmem, 41, rfl⟩
abbrev cc2_stg0_0 : Ref sig .tc := ⟨.vmem, 42, rfl⟩
abbrev cc2_stg0_1 : Ref sig .tc := ⟨.vmem, 43, rfl⟩
abbrev cc2_stg1_0 : Ref sig .tc := ⟨.vmem, 44, rfl⟩
abbrev cc2_stg1_1 : Ref sig .tc := ⟨.vmem, 45, rfl⟩
abbrev cc2_stg2_0 : Ref sig .tc := ⟨.vmem, 46, rfl⟩
abbrev cc2_stg2_1 : Ref sig .tc := ⟨.vmem, 47, rfl⟩
abbrev cc2_stg3_0 : Ref sig .tc := ⟨.vmem, 48, rfl⟩
abbrev cc2_stg3_1 : Ref sig .tc := ⟨.vmem, 49, rfl⟩
abbrev cc2_stg4_0 : Ref sig .tc := ⟨.vmem, 50, rfl⟩
abbrev cc2_stg5_0 : Ref sig .tc := ⟨.vmem, 51, rfl⟩
abbrev cc2_stg5_1 : Ref sig .tc := ⟨.vmem, 52, rfl⟩
abbrev cc2_scratch0 : Ref sig .tc := ⟨.vmem, 53, rfl⟩
abbrev cc2_scratch1 : Ref sig .tc := ⟨.vmem, 54, rfl⟩
abbrev cc2_scratch2 : Ref sig .tc := ⟨.vmem, 55, rfl⟩
abbrev cc3_stg0_0 : Ref sig .tc := ⟨.vmem, 56, rfl⟩
abbrev cc3_stg0_1 : Ref sig .tc := ⟨.vmem, 57, rfl⟩
abbrev cc3_stg1_0 : Ref sig .tc := ⟨.vmem, 58, rfl⟩
abbrev cc3_stg1_1 : Ref sig .tc := ⟨.vmem, 59, rfl⟩
abbrev cc3_stg2_0 : Ref sig .tc := ⟨.vmem, 60, rfl⟩
abbrev cc3_stg2_1 : Ref sig .tc := ⟨.vmem, 61, rfl⟩
abbrev cc3_stg3_0 : Ref sig .tc := ⟨.vmem, 62, rfl⟩
abbrev cc3_stg3_1 : Ref sig .tc := ⟨.vmem, 63, rfl⟩
abbrev cc3_stg4_0 : Ref sig .tc := ⟨.vmem, 64, rfl⟩
abbrev cc3_stg5_0 : Ref sig .tc := ⟨.vmem, 65, rfl⟩
abbrev cc3_stg6_0 : Ref sig .tc := ⟨.vmem, 66, rfl⟩
abbrev cc3_stg6_1 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc1_sem0_0 : DmaSem sig := 24
abbrev cc1_sem0_1 : DmaSem sig := 25
abbrev cc1_sem1_0 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem5_1 : DmaSem sig := 34
abbrev cc1_sem6_0 : DmaSem sig := 35
abbrev cc1_sem6_1 : DmaSem sig := 36
abbrev cc1_sem7_0 : DmaSem sig := 37
abbrev cc1_sem7_1 : DmaSem sig := 38
abbrev cc1_sem8_0 : DmaSem sig := 39
abbrev cc1_sem8_1 : DmaSem sig := 40
abbrev cc2_sem0_0 : DmaSem sig := 41
abbrev cc2_sem0_1 : DmaSem sig := 42
abbrev cc2_sem1_0 : DmaSem sig := 43
abbrev cc2_sem1_1 : DmaSem sig := 44
abbrev cc2_sem2_0 : DmaSem sig := 45
abbrev cc2_sem2_1 : DmaSem sig := 46
abbrev cc2_sem3_0 : DmaSem sig := 47
abbrev cc2_sem3_1 : DmaSem sig := 48
abbrev cc2_sem4_0 : DmaSem sig := 49
abbrev cc2_sem5_0 : DmaSem sig := 50
abbrev cc2_sem5_1 : DmaSem sig := 51
abbrev cc3_sem0_0 : DmaSem sig := 52
abbrev cc3_sem0_1 : DmaSem sig := 53
abbrev cc3_sem1_0 : DmaSem sig := 54
abbrev cc3_sem1_1 : DmaSem sig := 55
abbrev cc3_sem2_0 : DmaSem sig := 56
abbrev cc3_sem2_1 : DmaSem sig := 57
abbrev cc3_sem3_0 : DmaSem sig := 58
abbrev cc3_sem3_1 : DmaSem sig := 59
abbrev cc3_sem4_0 : DmaSem sig := 60
abbrev cc3_sem5_0 : DmaSem sig := 61
abbrev cc3_sem6_0 : DmaSem sig := 62
abbrev cc3_sem6_1 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.addi c2_i32_3 v9
  let c0_i32_4 : BitVec 32 := 0#32
  let c0_i32_5 : BitVec 32 := 0#32
  ![v10.toNat, c0_i32_4.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_9 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_10 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_11 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_3 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_4 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_5 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.muli v16 c4_i32_4
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_11 : BitVec 32 := 0#32
  let c0_i32_12 : BitVec 32 := 0#32
  let c0_i32_13 : BitVec 32 := 0#32
  let c0_i32_14 : BitVec 32 := 0#32
  ![c0_i32_11.toNat, v28.toNat, c0_i32_12.toNat, c0_i32_13.toNat]

def cc1_transform_6 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.muli v16 c4_i32_4
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_11 : BitVec 32 := 0#32
  let c0_i32_12 : BitVec 32 := 0#32
  let c0_i32_13 : BitVec 32 := 0#32
  let c0_i32_14 : BitVec 32 := 0#32
  ![c0_i32_11.toNat, v28.toNat, c0_i32_12.toNat, c0_i32_13.toNat]

def cc1_transform_7 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.muli v16 c4_i32_4
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_11 : BitVec 32 := 0#32
  let c0_i32_12 : BitVec 32 := 0#32
  let c0_i32_13 : BitVec 32 := 0#32
  let c0_i32_14 : BitVec 32 := 0#32
  ![c0_i32_11.toNat, v28.toNat, c0_i32_12.toNat, c0_i32_13.toNat]

def cc1_transform_8 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.muli v16 c4_i32_4
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_11 : BitVec 32 := 0#32
  let c0_i32_12 : BitVec 32 := 0#32
  let c0_i32_13 : BitVec 32 := 0#32
  let c0_i32_14 : BitVec 32 := 0#32
  ![c0_i32_11.toNat, v28.toNat, c0_i32_12.toNat, c0_i32_13.toNat]

abbrev stage1_0 : Fin 2 → Memref sig .tc .vmem S1x1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x2048x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1x1x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1x1x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1x1x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1x1x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨2, ![16, 4], ![false, false]⟩

@[reducible] def k2_t1_loop : Scf.Loop 32 :=
  let c0_i32_34 : BitVec 32 := 0#32
  let c32_i32 : BitVec 32 := 32#32
  let v40 : BitVec 32 := Scalar.addi c0_i32_34 c32_i32
  let c1_i32 : BitVec 32 := 1#32
  ⟨c0_i32_34, v40, c1_i32⟩
def k2_off1 (k2_t1 : Fin k2_t1_loop.trips) : Fin 4 → Nat :=
  let c0_i32_34 : BitVec 32 := 0#32
  let c1_i32 : BitVec 32 := 1#32
  let arg11 : BitVec 32 := Scf.iv c0_i32_34 c1_i32 k2_t1
  let c4_i32 : BitVec 32 := 4#32
  let v90 : BitVec 32 := Scalar.muli arg11 c4_i32
  let v91 : Index := Scalar.indexCast v90
  let c0_68 : Index := 0#32
  let c0_69 : Index := 0#32
  let c0_70 : Index := 0#32
  ![v91.toNat, 0, 0, 0]
def k2_off2 (k2_t1 : Fin k2_t1_loop.trips) : Fin 3 → Nat :=
  let c0_i32_34 : BitVec 32 := 0#32
  let c1_i32 : BitVec 32 := 1#32
  let arg11 : BitVec 32 := Scf.iv c0_i32_34 c1_i32 k2_t1
  let c4_i32 : BitVec 32 := 4#32
  let v90 : BitVec 32 := Scalar.muli arg11 c4_i32
  let v114 : Index := Scalar.indexCast v90
  let c0_74 : Index := 0#32
  let c0_75 : Index := 0#32
  ![v114.toNat, 0, 0]
def k2_off3 (k2_t1 : Fin k2_t1_loop.trips) : Fin 3 → Nat :=
  let c0_i32_34 : BitVec 32 := 0#32
  let c1_i32 : BitVec 32 := 1#32
  let arg11 : BitVec 32 := Scf.iv c0_i32_34 c1_i32 k2_t1
  let c4_i32 : BitVec 32 := 4#32
  let v90 : BitVec 32 := Scalar.muli arg11 c4_i32
  let v168 : Index := Scalar.indexCast v90
  let c0_78 : Index := 0#32
  let c1024_79 : Index := 1024#32
  ![v168.toNat, 0, 1024]
def k2_off4 (k2_t1 : Fin k2_t1_loop.trips) (c1_i32_86 : BitVec 32) : Fin 4 → Nat :=
  let c0_i32_34 : BitVec 32 := 0#32
  let c1_i32 : BitVec 32 := 1#32
  let arg11 : BitVec 32 := Scf.iv c0_i32_34 c1_i32 k2_t1
  let c4_i32_85 : BitVec 32 := 4#32
  let v240 : BitVec 32 := Scalar.muli arg11 c4_i32_85
  let v241 : BitVec 32 := Scalar.addi v240 c1_i32_86
  let v242 : Index := Scalar.indexCast v241
  let c0_87 : Index := 0#32
  let c0_88 : Index := 0#32
  let c0_89 : Index := 0#32
  ![v242.toNat, 0, 0, 0]
def k2_off5 (k2_t1 : Fin k2_t1_loop.trips) (c1_i32_86 : BitVec 32) : Fin 3 → Nat :=
  let c0_i32_34 : BitVec 32 := 0#32
  let c1_i32 : BitVec 32 := 1#32
  let arg11 : BitVec 32 := Scf.iv c0_i32_34 c1_i32 k2_t1
  let c4_i32_85 : BitVec 32 := 4#32
  let v240 : BitVec 32 := Scalar.muli arg11 c4_i32_85
  let v241 : BitVec 32 := Scalar.addi v240 c1_i32_86
  let v265 : Index := Scalar.indexCast v241
  let c0_93 : Index := 0#32
  let c0_94 : Index := 0#32
  ![v265.toNat, 0, 0]
def k2_off6 (k2_t1 : Fin k2_t1_loop.trips) (c1_i32_86 : BitVec 32) : Fin 3 → Nat :=
  let c0_i32_34 : BitVec 32 := 0#32
  let c1_i32 : BitVec 32 := 1#32
  let arg11 : BitVec 32 := Scf.iv c0_i32_34 c1_i32 k2_t1
  let c4_i32_85 : BitVec 32 := 4#32
  let v240 : BitVec 32 := Scalar.muli arg11 c4_i32_85
  let v241 : BitVec 32 := Scalar.addi v240 c1_i32_86
  let v319 : Index := Scalar.indexCast v241
  let c0_97 : Index := 0#32
  let c1024_98 : Index := 1024#32
  ![v319.toNat, 0, 1024]
def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

abbrev stage2_0 : Fin 2 → Memref sig .tc .vmem S128x1x8x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S128x1x8x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S128x1x8x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S128x1x8x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S16x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S128x1x8x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨1, ![4], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_1 (i : grid3.Coords) : Fin 4 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc3_transform_2 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S512x1x1x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1x1x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1x1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x1x1x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S512x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x2048 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1x512x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]
-- ==== ReferenceIdeal.lean ====
abbrev S4x512x1024 : Shape := ⟨3, ![4, 512, 1024]⟩
abbrev S4096x1024 : Shape := ⟨2, ![4096, 1024]⟩
abbrev S2048x1x4 : Shape := ⟨3, ![2048, 1, 4]⟩
abbrev S2048 : Shape := ⟨1, ![2048]⟩
abbrev S96x2048 : Shape := ⟨2, ![96, 2048]⟩
abbrev S2048x64 : Shape := ⟨2, ![2048, 64]⟩
abbrev S2048x16 : Shape := ⟨2, ![2048, 16]⟩
abbrev S1024x2048 : Shape := ⟨2, ![1024, 2048]⟩
abbrev S1024x4096 : Shape := ⟨2, ![1024, 4096]⟩
abbrev S4x512x4096 : Shape := ⟨3, ![4, 512, 4096]⟩
abbrev S4x512x2048 : Shape := ⟨3, ![4, 512, 2048]⟩
abbrev S_ : Shape := ⟨0, ![]⟩
abbrev S4x515x2048 : Shape := ⟨3, ![4, 515, 2048]⟩
abbrev S2048x1x1 : Shape := ⟨3, ![2048, 1, 1]⟩
abbrev S1x1x2048 : Shape := ⟨3, ![1, 1, 2048]⟩
abbrev S2048x96 : Shape := ⟨2, ![2048, 96]⟩
abbrev S4x512x96 : Shape := ⟨3, ![4, 512, 96]⟩
abbrev S4x512x64 : Shape := ⟨3, ![4, 512, 64]⟩
abbrev S64x2048 : Shape := ⟨2, ![64, 2048]⟩
abbrev S4x512x16 : Shape := ⟨3, ![4, 512, 16]⟩
abbrev S1x4x512x2048 : Shape := ⟨4, ![1, 4, 512, 2048]⟩
abbrev S2x4x512x2048 : Shape := ⟨4, ![2, 4, 512, 2048]⟩
abbrev S1x4x512x16 : Shape := ⟨4, ![1, 4, 512, 16]⟩
abbrev S2x4x512x16 : Shape := ⟨4, ![2, 4, 512, 16]⟩
abbrev S1x2048x16 : Shape := ⟨3, ![1, 2048, 16]⟩
abbrev S2x2048x16 : Shape := ⟨3, ![2, 2048, 16]⟩
abbrev S1x2048 : Shape := ⟨2, ![1, 2048]⟩
abbrev S2x2048 : Shape := ⟨2, ![2, 2048]⟩
abbrev S2x4x2048x16 : Shape := ⟨4, ![2, 4, 2048, 16]⟩
abbrev S512x2x4x2048 : Shape := ⟨4, ![512, 2, 4, 2048]⟩
abbrev S512x2x4x16 : Shape := ⟨4, ![512, 2, 4, 16]⟩
abbrev S1x2x4x2048 : Shape := ⟨4, ![1, 2, 4, 2048]⟩
abbrev S2x4x2048 : Shape := ⟨3, ![2, 4, 2048]⟩
abbrev S1x2x4x16 : Shape := ⟨4, ![1, 2, 4, 16]⟩
abbrev S2x4x16 : Shape := ⟨3, ![2, 4, 16]⟩
abbrev S2x4x2048x1 : Shape := ⟨4, ![2, 4, 2048, 1]⟩
abbrev S2x1x2048x16 : Shape := ⟨4, ![2, 1, 2048, 16]⟩
abbrev S2x4x1x16 : Shape := ⟨4, ![2, 4, 1, 16]⟩
abbrev S2x1x1x2048 : Shape := ⟨4, ![2, 1, 1, 2048]⟩
abbrev S2048x1024 : Shape := ⟨2, ![2048, 1024]⟩

abbrev nBuf : Space → Nat
  | .hbm => 301
  | .vmem => 0
  | .smem => 0
  | _ => 0

abbrev hbmTy0_0 (i : Nat) : BufTy := match i % 128 with
  | 0 => ⟨S4x512x1024, .f32⟩
  | 1 => ⟨S4096x1024, .f32⟩
  | 2 => ⟨S2048x1x4, .f32⟩
  | 3 => ⟨S2048, .f32⟩
  | 4 => ⟨S96x2048, .f32⟩
  | 5 => ⟨S2048x64, .f32⟩
  | 6 => ⟨S2048, .f32⟩
  | 7 => ⟨S2048x16, .f32⟩
  | 8 => ⟨S2048, .f32⟩
  | 9 => ⟨S2048x1x4, .f32⟩
  | 10 => ⟨S2048, .f32⟩
  | 11 => ⟨S96x2048, .f32⟩
  | 12 => ⟨S2048x64, .f32⟩
  | 13 => ⟨S2048, .f32⟩
  | 14 => ⟨S2048x16, .f32⟩
  | 15 => ⟨S2048, .f32⟩
  | 16 => ⟨S1024x2048, .f32⟩
  | 17 => ⟨S1024x4096, .f32⟩
  | 18 => ⟨S4x512x4096, .f32⟩
  | 19 => ⟨S4x512x2048, .f32⟩
  | 20 => ⟨S4x512x2048, .f32⟩
  | 21 => ⟨S_, .i32⟩
  | 22 => ⟨S_, .f32⟩
  | 23 => ⟨S4x515x2048, .f32⟩
  | 24 => ⟨S4x512x2048, .f32⟩
  | 25 => ⟨S2048x1x1, .f32⟩
  | 26 => ⟨S2048, .f32⟩
  | 27 => ⟨S1x1x2048, .f32⟩
  | 28 => ⟨S4x512x2048, .f32⟩
  | 29 => ⟨S4x512x2048, .f32⟩
  | 30 => ⟨S4x512x2048, .f32⟩
  | 31 => ⟨S2048x1x1, .f32⟩
  | 32 => ⟨S2048, .f32⟩
  | 33 => ⟨S1x1x2048, .f32⟩
  | 34 => ⟨S4x512x2048, .f32⟩
  | 35 => ⟨S4x512x2048, .f32⟩
  | 36 => ⟨S4x512x2048, .f32⟩
  | 37 => ⟨S4x512x2048, .f32⟩
  | 38 => ⟨S2048x1x1, .f32⟩
  | 39 => ⟨S2048, .f32⟩
  | 40 => ⟨S1x1x2048, .f32⟩
  | 41 => ⟨S4x512x2048, .f32⟩
  | 42 => ⟨S4x512x2048, .f32⟩
  | 43 => ⟨S4x512x2048, .f32⟩
  | 44 => ⟨S4x512x2048, .f32⟩
  | 45 => ⟨S2048x1x1, .f32⟩
  | 46 => ⟨S2048, .f32⟩
  | 47 => ⟨S1x1x2048, .f32⟩
  | 48 => ⟨S4x512x2048, .f32⟩
  | 49 => ⟨S4x512x2048, .f32⟩
  | 50 => ⟨S4x512x2048, .f32⟩
  | 51 => ⟨S1x1x2048, .f32⟩
  | 52 => ⟨S4x512x2048, .f32⟩
  | 53 => ⟨S4x512x2048, .f32⟩
  | 54 => ⟨S2048x96, .f32⟩
  | 55 => ⟨S4x512x96, .f32⟩
  | 56 => ⟨S4x512x64, .f32⟩
  | 57 => ⟨S64x2048, .f32⟩
  | 58 => ⟨S4x512x2048, .f32⟩
  | 59 => ⟨S1x1x2048, .f32⟩
  | 60 => ⟨S4x512x2048, .f32⟩
  | 61 => ⟨S4x512x2048, .f32⟩
  | 62 => ⟨S4x512x16, .f32⟩
  | 63 => ⟨S4x512x16, .f32⟩
  | 64 => ⟨S_, .f32⟩
  | 65 => ⟨S_, .f32⟩
  | 66 => ⟨S_, .f32⟩
  | 67 => ⟨S4x512x2048, .f32⟩
  | 68 => ⟨S4x512x2048, .f32⟩
  | 69 => ⟨S_, .f32⟩
  | 70 => ⟨S4x512x2048, .f32⟩
  | 71 => ⟨S4x512x2048, .f32⟩
  | 72 => ⟨S_, .f32⟩
  | 73 => ⟨S_, .f32⟩
  | 74 => ⟨S_, .f32⟩
  | 75 => ⟨S4x512x2048, .f32⟩
  | 76 => ⟨S4x512x2048, .f32⟩
  | 77 => ⟨S_, .f32⟩
  | 78 => ⟨S4x512x2048, .f32⟩
  | 79 => ⟨S4x512x2048, .f32⟩
  | 80 => ⟨S1x1x2048, .f32⟩
  | 81 => ⟨S4x512x2048, .f32⟩
  | 82 => ⟨S4x512x2048, .f32⟩
  | 83 => ⟨S_, .f32⟩
  | 84 => ⟨S4x512x2048, .f32⟩
  | 85 => ⟨S4x512x2048, .f32⟩
  | 86 => ⟨S4x512x2048, .f32⟩
  | 87 => ⟨S4x512x2048, .f32⟩
  | 88 => ⟨S4x512x2048, .i1⟩
  | 89 => ⟨S4x512x2048, .f32⟩
  | 90 => ⟨S4x512x2048, .f32⟩
  | 91 => ⟨S4x512x2048, .f32⟩
  | 92 => ⟨S4x512x2048, .f32⟩
  | 93 => ⟨S4x512x2048, .f32⟩
  | 94 => ⟨S4x512x2048, .f32⟩
  | 95 => ⟨S4x512x2048, .f32⟩
  | 96 => ⟨S4x512x2048, .f32⟩
  | 97 => ⟨S4x512x2048, .f32⟩
  | 98 => ⟨S_, .i32⟩
  | 99 => ⟨S_, .f32⟩
  | 100 => ⟨S4x515x2048, .f32⟩
  | 101 => ⟨S4x512x2048, .f32⟩
  | 102 => ⟨S2048x1x1, .f32⟩
  | 103 => ⟨S2048, .f32⟩
  | 104 => ⟨S1x1x2048, .f32⟩
  | 105 => ⟨S4x512x2048, .f32⟩
  | 106 => ⟨S4x512x2048, .f32⟩
  | 107 => ⟨S4x512x2048, .f32⟩
  | 108 => ⟨S2048x1x1, .f32⟩
  | 109 => ⟨S2048, .f32⟩
  | 110 => ⟨S1x1x2048, .f32⟩
  | 111 => ⟨S4x512x2048, .f32⟩
  | 112 => ⟨S4x512x2048, .f32⟩
  | 113 => ⟨S4x512x2048, .f32⟩
  | 114 => ⟨S4x512x2048, .f32⟩
  | 115 => ⟨S2048x1x1, .f32⟩
  | 116 => ⟨S2048, .f32⟩
  | 117 => ⟨S1x1x2048, .f32⟩
  | 118 => ⟨S4x512x2048, .f32⟩
  | 119 => ⟨S4x512x2048, .f32⟩
  | 120 => ⟨S4x512x2048, .f32⟩
  | 121 => ⟨S4x512x2048, .f32⟩
  | 122 => ⟨S2048x1x1, .f32⟩
  | 123 => ⟨S2048, .f32⟩
  | 124 => ⟨S1x1x2048, .f32⟩
  | 125 => ⟨S4x512x2048, .f32⟩
  | 126 => ⟨S4x512x2048, .f32⟩
  | 127 => ⟨S4x512x2048, .f32⟩
  | _ => ⟨S4x512x1024, .f32⟩

abbrev hbmTy0_1 (i : Nat) : BufTy := match i % 128 with
  | 0 => ⟨S1x1x2048, .f32⟩
  | 1 => ⟨S4x512x2048, .f32⟩
  | 2 => ⟨S4x512x2048, .f32⟩
  | 3 => ⟨S2048x96, .f32⟩
  | 4 => ⟨S4x512x96, .f32⟩
  | 5 => ⟨S4x512x64, .f32⟩
  | 6 => ⟨S64x2048, .f32⟩
  | 7 => ⟨S4x512x2048, .f32⟩
  | 8 => ⟨S1x1x2048, .f32⟩
  | 9 => ⟨S4x512x2048, .f32⟩
  | 10 => ⟨S4x512x2048, .f32⟩
  | 11 => ⟨S4x512x16, .f32⟩
  | 12 => ⟨S4x512x16, .f32⟩
  | 13 => ⟨S_, .f32⟩
  | 14 => ⟨S_, .f32⟩
  | 15 => ⟨S_, .f32⟩
  | 16 => ⟨S4x512x2048, .f32⟩
  | 17 => ⟨S4x512x2048, .f32⟩
  | 18 => ⟨S_, .f32⟩
  | 19 => ⟨S4x512x2048, .f32⟩
  | 20 => ⟨S4x512x2048, .f32⟩
  | 21 => ⟨S_, .f32⟩
  | 22 => ⟨S_, .f32⟩
  | 23 => ⟨S_, .f32⟩
  | 24 => ⟨S4x512x2048, .f32⟩
  | 25 => ⟨S4x512x2048, .f32⟩
  | 26 => ⟨S_, .f32⟩
  | 27 => ⟨S4x512x2048, .f32⟩
  | 28 => ⟨S4x512x2048, .f32⟩
  | 29 => ⟨S1x1x2048, .f32⟩
  | 30 => ⟨S4x512x2048, .f32⟩
  | 31 => ⟨S4x512x2048, .f32⟩
  | 32 => ⟨S_, .f32⟩
  | 33 => ⟨S4x512x2048, .f32⟩
  | 34 => ⟨S4x512x2048, .f32⟩
  | 35 => ⟨S4x512x2048, .f32⟩
  | 36 => ⟨S4x512x2048, .f32⟩
  | 37 => ⟨S4x512x2048, .i1⟩
  | 38 => ⟨S4x512x2048, .f32⟩
  | 39 => ⟨S4x512x2048, .f32⟩
  | 40 => ⟨S4x512x2048, .f32⟩
  | 41 => ⟨S4x512x2048, .f32⟩
  | 42 => ⟨S4x512x2048, .f32⟩
  | 43 => ⟨S4x512x2048, .f32⟩
  | 44 => ⟨S4x512x2048, .f32⟩
  | 45 => ⟨S4x512x2048, .f32⟩
  | 46 => ⟨S1x4x512x2048, .f32⟩
  | 47 => ⟨S1x4x512x2048, .f32⟩
  | 48 => ⟨S2x4x512x2048, .f32⟩
  | 49 => ⟨S1x4x512x2048, .f32⟩
  | 50 => ⟨S1x4x512x2048, .f32⟩
  | 51 => ⟨S2x4x512x2048, .f32⟩
  | 52 => ⟨S1x4x512x16, .f32⟩
  | 53 => ⟨S1x4x512x16, .f32⟩
  | 54 => ⟨S2x4x512x16, .f32⟩
  | 55 => ⟨S1x4x512x16, .f32⟩
  | 56 => ⟨S1x4x512x16, .f32⟩
  | 57 => ⟨S2x4x512x16, .f32⟩
  | 58 => ⟨S1x2048x16, .f32⟩
  | 59 => ⟨S1x2048x16, .f32⟩
  | 60 => ⟨S2x2048x16, .f32⟩
  | 61 => ⟨S2x2048x16, .f32⟩
  | 62 => ⟨S2x2048x16, .f32⟩
  | 63 => ⟨S1x2048, .f32⟩
  | 64 => ⟨S1x2048, .f32⟩
  | 65 => ⟨S2x2048, .f32⟩
  | 66 => ⟨S_, .f32⟩
  | 67 => ⟨S2x4x2048x16, .f32⟩
  | 68 => ⟨S512x2x4x2048, .f32⟩
  | 69 => ⟨S512x2x4x2048, .f32⟩
  | 70 => ⟨S512x2x4x16, .f32⟩
  | 71 => ⟨S512x2x4x16, .f32⟩
  | 72 => ⟨S_, .f32⟩
  | 73 => ⟨S512x2x4x2048, .f32⟩
  | 74 => ⟨S_, .i32⟩
  | 75 => ⟨S512x2x4x2048, .f32⟩
  | 76 => ⟨S512x2x4x2048, .f32⟩
  | 77 => ⟨S512x2x4x16, .f32⟩
  | 78 => ⟨S512x2x4x16, .f32⟩
  | 79 => ⟨S2x2048x16, .f32⟩
  | 80 => ⟨S_, .i32⟩
  | 81 => ⟨S2x4x2048x16, .f32⟩
  | 82 => ⟨S512x2x4x2048, .f32⟩
  | 83 => ⟨S_, .i32⟩
  | 84 => ⟨S_, .i1⟩
  | 85 => ⟨S_, .i32⟩
  | 86 => ⟨S_, .i32⟩
  | 87 => ⟨S_, .i32⟩
  | 88 => ⟨S1x2x4x2048, .f32⟩
  | 89 => ⟨S2x4x2048, .f32⟩
  | 90 => ⟨S_, .i32⟩
  | 91 => ⟨S_, .i32⟩
  | 92 => ⟨S_, .i32⟩
  | 93 => ⟨S1x2x4x2048, .f32⟩
  | 94 => ⟨S2x4x2048, .f32⟩
  | 95 => ⟨S_, .i32⟩
  | 96 => ⟨S_, .i32⟩
  | 97 => ⟨S_, .i32⟩
  | 98 => ⟨S1x2x4x16, .f32⟩
  | 99 => ⟨S2x4x16, .f32⟩
  | 100 => ⟨S_, .i32⟩
  | 101 => ⟨S_, .i32⟩
  | 102 => ⟨S_, .i32⟩
  | 103 => ⟨S1x2x4x16, .f32⟩
  | 104 => ⟨S2x4x16, .f32⟩
  | 105 => ⟨S2x4x2048x1, .f32⟩
  | 106 => ⟨S2x1x2048x16, .f32⟩
  | 107 => ⟨S2x4x2048x16, .f32⟩
  | 108 => ⟨S2x4x2048x16, .f32⟩
  | 109 => ⟨S2x4x2048x16, .f32⟩
  | 110 => ⟨S2x4x2048x16, .f32⟩
  | 111 => ⟨S2x4x2048x16, .f32⟩
  | 112 => ⟨S2x4x2048, .f32⟩
  | 113 => ⟨S2x4x2048x1, .f32⟩
  | 114 => ⟨S2x4x1x16, .f32⟩
  | 115 => ⟨S2x4x2048x16, .f32⟩
  | 116 => ⟨S2x4x2048x16, .f32⟩
  | 117 => ⟨S2x4x2048x16, .f32⟩
  | 118 => ⟨S2x4x2048x16, .f32⟩
  | 119 => ⟨S2x4x1x16, .f32⟩
  | 120 => ⟨S2x4x2048x16, .f32⟩
  | 121 => ⟨S2x4x2048x16, .f32⟩
  | 122 => ⟨S_, .f32⟩
  | 123 => ⟨S2x4x2048, .f32⟩
  | 124 => ⟨S1x2x4x2048, .f32⟩
  | 125 => ⟨S_, .i32⟩
  | 126 => ⟨S_, .i32⟩
  | 127 => ⟨S_, .i32⟩
  | _ => ⟨S4x512x1024, .f32⟩

abbrev hbmTy0_2 (i : Nat) : BufTy := match i % 128 with
  | 0 => ⟨S512x2x4x2048, .f32⟩
  | 1 => ⟨S_, .i32⟩
  | 2 => ⟨S_, .i32⟩
  | 3 => ⟨S2x4x512x2048, .f32⟩
  | 4 => ⟨S2x1x1x2048, .f32⟩
  | 5 => ⟨S2x4x512x2048, .f32⟩
  | 6 => ⟨S2x4x512x2048, .f32⟩
  | 7 => ⟨S2x4x512x2048, .f32⟩
  | 8 => ⟨S1x4x512x2048, .f32⟩
  | 9 => ⟨S4x512x2048, .f32⟩
  | 10 => ⟨S1x4x512x2048, .f32⟩
  | 11 => ⟨S4x512x2048, .f32⟩
  | 12 => ⟨S4x512x2048, .f32⟩
  | 13 => ⟨S4x512x2048, .f32⟩
  | 14 => ⟨S4x512x2048, .f32⟩
  | 15 => ⟨S4x512x2048, .f32⟩
  | 16 => ⟨S_, .f32⟩
  | 17 => ⟨S4x512x2048, .f32⟩
  | 18 => ⟨S4x512x2048, .f32⟩
  | 19 => ⟨S_, .f32⟩
  | 20 => ⟨S4x512x2048, .f32⟩
  | 21 => ⟨S4x512x2048, .f32⟩
  | 22 => ⟨S4x512x2048, .f32⟩
  | 23 => ⟨S4x512x2048, .f32⟩
  | 24 => ⟨S2048x1024, .f32⟩
  | 25 => ⟨S4x512x1024, .f32⟩
  | 26 => ⟨S_, .f32⟩
  | 27 => ⟨S_, .f32⟩
  | 28 => ⟨S_, .f32⟩
  | 29 => ⟨S4x512x1024, .i1⟩
  | 30 => ⟨S_, .f32⟩
  | 31 => ⟨S4x512x1024, .f32⟩
  | 32 => ⟨S4x512x1024, .f32⟩
  | 33 => ⟨S_, .f32⟩
  | 34 => ⟨S4x512x1024, .f32⟩
  | 35 => ⟨S4x512x1024, .i1⟩
  | 36 => ⟨S_, .f32⟩
  | 37 => ⟨S4x512x1024, .f32⟩
  | 38 => ⟨S4x512x1024, .f32⟩
  | 39 => ⟨S_, .f32⟩
  | 40 => ⟨S4x512x1024, .f32⟩
  | 41 => ⟨S4x512x1024, .i1⟩
  | 42 => ⟨S_, .f32⟩
  | 43 => ⟨S4x512x1024, .f32⟩
  | 44 => ⟨S4x512x1024, .f32⟩
  | _ => ⟨S4x512x1024, .f32⟩

abbrev hbmTy (i : Nat) : BufTy := match i / 128 with
  | 0 => hbmTy0_0 i
  | 1 => hbmTy0_1 i
  | 2 => hbmTy0_2 i
  | _ => ⟨S4x512x1024, .f32⟩

abbrev bufTy : (tb : Table) → Fin (tcTables nBuf tb) → BufTy
  | .hbm, ⟨i, _⟩ => hbmTy i
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst : Ref sig .tc := ⟨.hbm, 64, rfl⟩
abbrev main_cst_0 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v45 : Ref sig .tc := ⟨.hbm, 71, rfl⟩
abbrev main_cst_1 : Ref sig .tc := ⟨.hbm, 72, rfl⟩
abbrev main_cst_2 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_call3_cst : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_v50 : Ref sig .tc := ⟨.hbm, 96, rfl⟩
abbrev main_v51 : Ref sig .tc := ⟨.hbm, 97, rfl⟩
abbrev main_c_3 : Ref sig .tc := ⟨.hbm, 98, rfl⟩
abbrev main_call4_v0 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_4 : Ref sig .tc := ⟨.hbm, 141, rfl⟩
abbrev main_cst_5 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_v93 : Ref sig .tc := ⟨.hbm, 148, rfl⟩
abbrev main_cst_6 : Ref sig .tc := ⟨.hbm, 149, rfl⟩
abbrev main_cst_7 : Ref sig .tc := ⟨.hbm, 150, rfl⟩
abbrev main_call6_v0 : Ref sig .tc := ⟨.hbm, 151, rfl⟩
abbrev main_call6_v1 : Ref sig .tc := ⟨.hbm, 152, rfl⟩
abbrev main_call6_v2 : Ref sig .tc := ⟨.hbm, 153, rfl⟩
abbrev main_call6_v3 : Ref sig .tc := ⟨.hbm, 154, rfl⟩
abbrev main_call6_v4 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_call7_cst : Ref sig .tc := ⟨.hbm, 160, rfl⟩
abbrev main_call7_v0 : Ref sig .tc := ⟨.hbm, 161, rfl⟩
abbrev main_call7_v1 : Ref sig .tc := ⟨.hbm, 162, rfl⟩
abbrev main_call7_v2 : Ref sig .tc := ⟨.hbm, 163, rfl⟩
abbrev main_call7_v3 : Ref sig .tc := ⟨.hbm, 164, rfl⟩
abbrev main_call7_v4 : Ref sig .tc := ⟨.hbm, 165, rfl⟩
abbrev main_call7_v5 : Ref sig .tc := ⟨.hbm, 166, rfl⟩
abbrev main_call7_v6 : Ref sig .tc := ⟨.hbm, 167, rfl⟩
abbrev main_call7_v7 : Ref sig .tc := ⟨.hbm, 168, rfl⟩
abbrev main_call7_v8 : Ref sig .tc := ⟨.hbm, 169, rfl⟩
abbrev main_call7_v9 : Ref sig .tc := ⟨.hbm, 170, rfl⟩
abbrev main_call7_v10 : Ref sig .tc := ⟨.hbm, 171, rfl⟩
abbrev main_call7_v11 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_cst_8 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_cst_9 : Ref sig .tc := ⟨.hbm, 200, rfl⟩
abbrev main_v124 : Ref sig .tc := ⟨.hbm, 201, rfl⟩
abbrev main_c_10 : Ref sig .tc := ⟨.hbm, 202, rfl⟩
abbrev main_v125_0 : Ref sig .tc := ⟨.hbm, 203, rfl⟩
abbrev main_v125_1 : Ref sig .tc := ⟨.hbm, 204, rfl⟩
abbrev main_v125_2 : Ref sig .tc := ⟨.hbm, 205, rfl⟩
abbrev main_v125_3 : Ref sig .tc := ⟨.hbm, 206, rfl⟩
abbrev main_v125_4 : Ref sig .tc := ⟨.hbm, 207, rfl⟩
abbrev main_v125_5 : Ref sig .tc := ⟨.hbm, 208, rfl⟩
abbrev main_v125_6 : Ref sig .tc := ⟨.hbm, 209, rfl⟩
abbrev main_v125_7 : Ref sig .tc := ⟨.hbm, 210, rfl⟩
abbrev main_while0c_c_21 : Ref sig .tc := ⟨.hbm, 211, rfl⟩
abbrev main_while0c_v142 : Ref sig .tc := ⟨.hbm, 212, rfl⟩
abbrev main_while0b_call8_c : Ref sig .tc := ⟨.hbm, 213, rfl⟩
abbrev main_while0b_call8_c_0 : Ref sig .tc := ⟨.hbm, 214, rfl⟩
abbrev main_while0b_call8_c_1 : Ref sig .tc := ⟨.hbm, 215, rfl⟩
abbrev main_while0b_call8_v0 : Ref sig .tc := ⟨.hbm, 216, rfl⟩
abbrev main_while0b_v142 : Ref sig .tc := ⟨.hbm, 217, rfl⟩
abbrev main_while0b_call9_c : Ref sig .tc := ⟨.hbm, 218, rfl⟩
abbrev main_while0b_call9_c_0 : Ref sig .tc := ⟨.hbm, 219, rfl⟩
abbrev main_while0b_call9_c_1 : Ref sig .tc := ⟨.hbm, 220, rfl⟩
abbrev main_while0b_call9_v0 : Ref sig .tc := ⟨.hbm, 221, rfl⟩
abbrev main_while0b_v143 : Ref sig .tc := ⟨.hbm, 222, rfl⟩
abbrev main_while0b_call10_c : Ref sig .tc := ⟨.hbm, 223, rfl⟩
abbrev main_while0b_call10_c_0 : Ref sig .tc := ⟨.hbm, 224, rfl⟩
abbrev main_while0b_call10_c_1 : Ref sig .tc := ⟨.hbm, 225, rfl⟩
abbrev main_while0b_call10_v0 : Ref sig .tc := ⟨.hbm, 226, rfl⟩
abbrev main_while0b_v144 : Ref sig .tc := ⟨.hbm, 227, rfl⟩
abbrev main_while0b_call11_c : Ref sig .tc := ⟨.hbm, 228, rfl⟩
abbrev main_while0b_call11_c_0 : Ref sig .tc := ⟨.hbm, 229, rfl⟩
abbrev main_while0b_call11_c_1 : Ref sig .tc := ⟨.hbm, 230, rfl⟩
abbrev main_while0b_call11_v0 : Ref sig .tc := ⟨.hbm, 231, rfl⟩
abbrev main_while0b_v145 : Ref sig .tc := ⟨.hbm, 232, rfl⟩
abbrev main_while0b_v146 : Ref sig .tc := ⟨.hbm, 233, rfl⟩
abbrev main_while0b_v147 : Ref sig .tc := ⟨.hbm, 234, rfl⟩
abbrev main_while0b_v148 : Ref sig .tc := ⟨.hbm, 235, rfl⟩
abbrev main_while0b_v149 : Ref sig .tc := ⟨.hbm, 236, rfl⟩
abbrev main_while0b_v150 : Ref sig .tc := ⟨.hbm, 237, rfl⟩
abbrev main_while0b_v151 : Ref sig .tc := ⟨.hbm, 238, rfl⟩
abbrev main_while0b_v152 : Ref sig .tc := ⟨.hbm, 239, rfl⟩
abbrev main_while0b_v153 : Ref sig .tc := ⟨.hbm, 240, rfl⟩
abbrev main_while0b_v154 : Ref sig .tc := ⟨.hbm, 241, rfl⟩
abbrev main_while0b_v155 : Ref sig .tc := ⟨.hbm, 242, rfl⟩
abbrev main_while0b_v156 : Ref sig .tc := ⟨.hbm, 243, rfl⟩
abbrev main_while0b_v157 : Ref sig .tc := ⟨.hbm, 244, rfl⟩
abbrev main_while0b_v158 : Ref sig .tc := ⟨.hbm, 245, rfl⟩
abbrev main_while0b_v159 : Ref sig .tc := ⟨.hbm, 246, rfl⟩
abbrev main_while0b_v160 : Ref sig .tc := ⟨.hbm, 247, rfl⟩
abbrev main_while0b_v161 : Ref sig .tc := ⟨.hbm, 248, rfl⟩
abbrev main_while0b_v162 : Ref sig .tc := ⟨.hbm, 249, rfl⟩
abbrev main_while0b_cst_21 : Ref sig .tc := ⟨.hbm, 250, rfl⟩
abbrev main_while0b_v163 : Ref sig .tc := ⟨.hbm, 251, rfl⟩
abbrev main_while0b_call12_v0 : Ref sig .tc := ⟨.hbm, 252, rfl⟩
abbrev main_while0b_call12_c : Ref sig .tc := ⟨.hbm, 253, rfl⟩
abbrev main_while0b_call12_c_0 : Ref sig .tc := ⟨.hbm, 254, rfl⟩
abbrev main_while0b_call12_c_1 : Ref sig .tc := ⟨.hbm, 255, rfl⟩
abbrev main_while0b_v164 : Ref sig .tc := ⟨.hbm, 256, rfl⟩
abbrev main_while0b_c_22 : Ref sig .tc := ⟨.hbm, 257, rfl⟩
abbrev main_while0b_v165 : Ref sig .tc := ⟨.hbm, 258, rfl⟩
abbrev main_v126 : Ref sig .tc := ⟨.hbm, 259, rfl⟩
abbrev main_v127 : Ref sig .tc := ⟨.hbm, 260, rfl⟩
abbrev main_v128 : Ref sig .tc := ⟨.hbm, 261, rfl⟩
abbrev main_v129 : Ref sig .tc := ⟨.hbm, 262, rfl⟩
abbrev main_v130 : Ref sig .tc := ⟨.hbm, 263, rfl⟩
abbrev main_v131 : Ref sig .tc := ⟨.hbm, 264, rfl⟩
abbrev main_v132 : Ref sig .tc := ⟨.hbm, 265, rfl⟩
abbrev main_v133 : Ref sig .tc := ⟨.hbm, 266, rfl⟩
abbrev main_v134 : Ref sig .tc := ⟨.hbm, 267, rfl⟩
abbrev main_v135 : Ref sig .tc := ⟨.hbm, 268, rfl⟩
abbrev main_v136 : Ref sig .tc := ⟨.hbm, 269, rfl⟩
abbrev main_call13_v0 : Ref sig .tc := ⟨.hbm, 270, rfl⟩
abbrev main_call13_v1 : Ref sig .tc := ⟨.hbm, 271, rfl⟩
abbrev main_call13_cst : Ref sig .tc := ⟨.hbm, 272, rfl⟩
abbrev main_call13_v2 : Ref sig .tc := ⟨.hbm, 273, rfl⟩
abbrev main_call13_v3 : Ref sig .tc := ⟨.hbm, 274, rfl⟩
abbrev main_call13_cst_0 : Ref sig .tc := ⟨.hbm, 275, rfl⟩
abbrev main_call13_v4 : Ref sig .tc := ⟨.hbm, 276, rfl⟩
abbrev main_call13_v5 : Ref sig .tc := ⟨.hbm, 277, rfl⟩
abbrev main_v137 : Ref sig .tc := ⟨.hbm, 278, rfl⟩
abbrev main_v138 : Ref sig .tc := ⟨.hbm, 279, rfl⟩
abbrev main_v139 : Ref sig .tc := ⟨.hbm, 280, rfl⟩
abbrev main_v140 : Ref sig .tc := ⟨.hbm, 281, rfl⟩
abbrev main_cst_11 : Ref sig .tc := ⟨.hbm, 282, rfl⟩
abbrev main_cst_12 : Ref sig .tc := ⟨.hbm, 283, rfl⟩
abbrev main_cst_13 : Ref sig .tc := ⟨.hbm, 284, rfl⟩
abbrev main_call14_v0 : Ref sig .tc := ⟨.hbm, 285, rfl⟩
abbrev main_call14_v1 : Ref sig .tc := ⟨.hbm, 286, rfl⟩
abbrev main_call14_call0_v0 : Ref sig .tc := ⟨.hbm, 287, rfl⟩
abbrev main_call14_v2 : Ref sig .tc := ⟨.hbm, 288, rfl⟩
abbrev main_call14_cst : Ref sig .tc := ⟨.hbm, 289, rfl⟩
abbrev main_call14_v3 : Ref sig .tc := ⟨.hbm, 290, rfl⟩
abbrev main_call14_v4 : Ref sig .tc := ⟨.hbm, 291, rfl⟩
abbrev main_call14_v5 : Ref sig .tc := ⟨.hbm, 292, rfl⟩
abbrev main_call14_call1_v0 : Ref sig .tc := ⟨.hbm, 293, rfl⟩
abbrev main_call14_v6 : Ref sig .tc := ⟨.hbm, 294, rfl⟩
abbrev main_call14_cst_0 : Ref sig .tc := ⟨.hbm, 295, rfl⟩
abbrev main_call14_v7 : Ref sig .tc := ⟨.hbm, 296, rfl⟩
abbrev main_call14_v8 : Ref sig .tc := ⟨.hbm, 297, rfl⟩
abbrev main_call14_v9 : Ref sig .tc := ⟨.hbm, 298, rfl⟩
abbrev main_call14_call2_v0 : Ref sig .tc := ⟨.hbm, 299, rfl⟩
abbrev main_v141 : Ref sig .tc := ⟨.hbm, 300, rfl⟩

abbrev nD : Nat := 1
abbrev τ : Topo := Topo.v7x

variable {F : FTy → Type} [FloatOps F]

abbrev main_while0_count : Scf.Loop 32 := ⟨0#32, 512#32, 1#32⟩
-- ==== Proof.KI.Region0.lean ====
/- Call 0 (the two input projections and the two depthwise convolutions) as a region: what its body leaves in
   each output block, and the obligation of one grid point, at the contents `V` the region is entered with. -/
module

public import proofs.«01_k».proof.Proof.Gen.KernelIdeal.Launch
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_vim_a1_proj_conv` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x512x1024 := Rect.unit (s := S1x512x1024) ![0, 0, 0] S1x512x1024.size inb_S1x512x1024_S1x512x1024_0_0_0
abbrev r0_1 : Rect S1024x1024 := Rect.unit (s := S1024x1024) ![0, 0] S1024x1024.size inb_S1024x1024_S1024x1024_0_0
abbrev r0_2 : Rect S4x1024 := Rect.unit (s := S4x1024) ![3, 0] S1x1024.size inb_S4x1024_S1x1024_3_0
abbrev r0_3 : Rect S4x1024 := Rect.unit (s := S4x1024) ![2, 0] S1x1024.size inb_S4x1024_S1x1024_2_0
abbrev r0_4 : Rect S4x1024 := Rect.unit (s := S4x1024) ![1, 0] S1x1024.size inb_S4x1024_S1x1024_1_0
abbrev r0_5 : Rect S4x1024 := Rect.unit (s := S4x1024) ![0, 0] S1x1024.size inb_S4x1024_S1x1024_0_0
abbrev r0_6 : Rect S1x1024 := Rect.unit (s := S1x1024) ![0, 0] S1x1024.size inb_S1x1024_S1x1024_0_0
abbrev r0_7 : Rect S1x2x512x1024 := Rect.unit (s := S1x2x512x1024) ![0, 0, 0, 0] S1x1x512x1024.size inb_S1x2x512x1024_S1x1x512x1024_0_0_0_0
abbrev r0_8 : Rect S1x2x512x1024 := Rect.unit (s := S1x2x512x1024) ![0, 1, 0, 0] S1x1x512x1024.size inb_S1x2x512x1024_S1x1x512x1024_0_1_0_0
abbrev r0_9 : Rect S512x1x1x1024 := Rect.unit (s := S512x1x1x1024) ![0, 0, 0, 0] S512x1x1x1024.size inb_S512x1x1x1024_S512x1x1x1024_0_0_0_0

/-! ## What the body leaves in each output window's buffer -/

/-! ### Values of the body that the stores' payloads, spelt out, would write more than once

    Each is a vector the body binds, stated over the input windows' blocks and numbered on from the payload
    functions (`k0_pay12` …, after `k0_pay11`); the comment after each is the printed function's name for it. -/

def k0_pay12 (x0 : Vec F S1x512x1024 .f32) (x1 : Vec F S1024x1024 .f32) (x2 : Vec F S1024x1024 .f32) (x3 : Vec F S4x1024 .f32) (x4 : Vec F S1x1024 .f32) (x5 : Vec F S4x1024 .f32) (x6 : Vec F S1x1024 .f32) (x7 : Vec F S1x1024 .f32) (x8 : Vec F S1x1024 .f32) : FVec F S512x1024 .f32 :=
  k0_pay2 (View.ld x0 r0_0) (View.ld x1 r0_1) -- `v3`
def k0_pay13 (x0 : Vec F S1x512x1024 .f32) (x1 : Vec F S1024x1024 .f32) (x2 : Vec F S1024x1024 .f32) (x3 : Vec F S4x1024 .f32) (x4 : Vec F S1x1024 .f32) (x5 : Vec F S4x1024 .f32) (x6 : Vec F S1x1024 .f32) (x7 : Vec F S1x1024 .f32) (x8 : Vec F S1x1024 .f32) : FVec F S1x1024 .f32 :=
  k0_pay4 (F := F) -- `v8`
def k0_pay14 (x0 : Vec F S1x512x1024 .f32) (x1 : Vec F S1024x1024 .f32) (x2 : Vec F S1024x1024 .f32) (x3 : Vec F S4x1024 .f32) (x4 : Vec F S1x1024 .f32) (x5 : Vec F S4x1024 .f32) (x6 : Vec F S1x1024 .f32) (x7 : Vec F S1x1024 .f32) (x8 : Vec F S1x1024 .f32) : FVec F S512x1024 .f32 :=
  k0_pay5 (View.ld x0 r0_0) (View.ld x1 r0_1) (View.ld x3 r0_2) (View.ld x3 r0_3) (View.ld x3 r0_4) (View.ld x3 r0_5) -- `v33`
def k0_pay15 (x0 : Vec F S1x512x1024 .f32) (x1 : Vec F S1024x1024 .f32) (x2 : Vec F S1024x1024 .f32) (x3 : Vec F S4x1024 .f32) (x4 : Vec F S1x1024 .f32) (x5 : Vec F S4x1024 .f32) (x6 : Vec F S1x1024 .f32) (x7 : Vec F S1x1024 .f32) (x8 : Vec F S1x1024 .f32) : FVec F S1x1024 .f32 :=
  k0_pay6 (View.ld x4 r0_6) -- `v35`

/-- Window 9's staging buffer after the body, from the input windows' blocks: its 2 stores as pieces, LAST
    FIRST. -/
def out0_9 (x0 : Vec F S1x512x1024 .f32) (x1 : Vec F S1024x1024 .f32) (x2 : Vec F S1024x1024 .f32) (x3 : Vec F S4x1024 .f32) (x4 : Vec F S1x1024 .f32) (x5 : Vec F S4x1024 .f32) (x6 : Vec F S1x1024 .f32) (x7 : Vec F S1x1024 .f32) (x8 : Vec F S1x1024 .f32) : Vec F S1x2x512x1024 .f32 :=
  View.canon [⟨r0_8, k0_pay10 (k0_pay12 x0 x1 x2 x3 x4 x5 x6 x7 x8) (k0_pay13 x0 x1 x2 x3 x4 x5 x6 x7 x8) (View.ld x5 r0_2) (View.ld x5 r0_3) (View.ld x5 r0_4) (View.ld x5 r0_5) (View.ld x6 r0_6)⟩,
    ⟨r0_7, k0_pay9 (k0_pay14 x0 x1 x2 x3 x4 x5 x6 x7 x8) (k0_pay15 x0 x1 x2 x3 x4 x5 x6 x7 x8)⟩]

/-- Its stores tile the buffer (checked by evaluation), so they cover it. -/
theorem cover0_9 (p0 : Vec F S1x1x512x1024 .f32) (p1 : Vec F S1x1x512x1024 .f32) (y : S1x2x512x1024.Idx) :
    ∃ pc ∈ ([⟨r0_8, p0⟩, ⟨r0_7, p1⟩] : List (View.Piece (Elt F) S1x2x512x1024 .f32)), y ∈ pc.1.set :=
  View.cover_of_tiled [⟨r0_8, p0⟩, ⟨r0_7, p1⟩] S1x1x512x1024.size (by rfl) y

/-- Window 10's staging buffer after the body, from the input windows' blocks: its 1 store as pieces, LAST
    FIRST. -/
def out0_10 (x0 : Vec F S1x512x1024 .f32) (x1 : Vec F S1024x1024 .f32) (x2 : Vec F S1024x1024 .f32) (x3 : Vec F S4x1024 .f32) (x4 : Vec F S1x1024 .f32) (x5 : Vec F S4x1024 .f32) (x6 : Vec F S1x1024 .f32) (x7 : Vec F S1x1024 .f32) (x8 : Vec F S1x1024 .f32) : Vec F S512x1x1x1024 .f32 :=
  View.canon [⟨r0_9, k0_pay11 (k0_pay3 (View.ld x0 r0_0) (View.ld x2 r0_1))⟩]

/-- Its stores tile the buffer (checked by evaluation), so they cover it. -/
theorem cover0_10 (p0 : Vec F S512x1x1x1024 .f32) (y : S512x1x1x1024.Idx) :
    ∃ pc ∈ ([⟨r0_9, p0⟩] : List (View.Piece (Elt F) S512x1x1x1024 .f32)), y ∈ pc.1.set :=
  View.cover_of_tiled [⟨r0_9, p0⟩] S512x1x1x1024.size (by rfl) y

/-- Window 11's staging buffer after the body, from the input windows' blocks: its 1 store as pieces, LAST
    FIRST. -/
def out0_11 (x0 : Vec F S1x512x1024 .f32) (x1 : Vec F S1024x1024 .f32) (x2 : Vec F S1024x1024 .f32) (x3 : Vec F S4x1024 .f32) (x4 : Vec F S1x1024 .f32) (x5 : Vec F S4x1024 .f32) (x6 : Vec F S1x1024 .f32) (x7 : Vec F S1x1024 .f32) (x8 : Vec F S1x1024 .f32) : Vec F S512x1x1x1024 .f32 :=
  View.canon [⟨r0_9, k0_pay1 (k0_pay7 (k0_pay14 x0 x1 x2 x3 x4 x5 x6 x7 x8) (k0_pay15 x0 x1 x2 x3 x4 x5 x6 x7 x8)) (k0_pay8 (k0_pay12 x0 x1 x2 x3 x4 x5 x6 x7 x8) (k0_pay13 x0 x1 x2 x3 x4 x5 x6 x7 x8) (View.ld x5 r0_2) (View.ld x5 r0_3) (View.ld x5 r0_4) (View.ld x5 r0_5) (View.ld x6 r0_6)) (View.ld x7 r0_6) (View.ld x8 r0_6)⟩]

/-- Its stores tile the buffer (checked by evaluation), so they cover it. -/
theorem cover0_11 (p0 : Vec F S512x1x1x1024 .f32) (y : S512x1x1x1024.Idx) :
    ∃ pc ∈ ([⟨r0_9, p0⟩] : List (View.Piece (Elt F) S512x1x1x1024 .f32)), y ∈ pc.1.set :=
  View.cover_of_tiled [⟨r0_9, p0⟩] S512x1x1x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (i : grid0.Coords) (arg1 : Memref sig .tc .vmem S1x512x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x2x512x1024 .f32) (harg10 : arg10.IsWhole) (arg11 : Memref sig .tc .vmem S512x1x1x1024 .f32) (harg11 : arg11.IsWhole) (arg12 : Memref sig .tc .vmem S512x1x1x1024 .f32) (harg12 : arg12.IsWhole)
    (x0 : Vec F S1x512x1024 .f32) (x1 : Vec F S1024x1024 .f32) (x2 : Vec F S1024x1024 .f32) (x3 : Vec F S4x1024 .f32) (x4 : Vec F S1x1024 .f32) (x5 : Vec F S4x1024 .f32) (x6 : Vec F S1x1024 .f32) (x7 : Vec F S1x1024 .f32) (x8 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8)) -∗ K ⟨⟩))
      ⊢ wp frame (wpE (defs₀ (F := F)) Variants.none c none) E (cc0_vim_a1_proj_conv i arg1 harg1 arg2 harg2 arg3 harg3 arg4 harg4 arg5 harg5 arg6 harg6 arg7 harg7 arg8 harg8 arg9 harg9 arg10 harg10 arg11 harg11 arg12 harg12) K := by
  simp only [cc0_vim_a1_proj_conv_eq_skeleton]; unfold cc0_vim_a1_proj_conv_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_9 _ _)).trans ?_
    rfl
  isplitl [H10]
  · iexists _; isplitr
    swap; · iexact H10
    ipureintro
    refine (View.read_writes_eq_canon _ _ _ (cover0_10 _)).trans ?_
    rfl
  iexists _; isplitr
  swap; · iexact H11
  ipureintro
  refine (View.read_writes_eq_canon _ _ _ (cover0_11 _)).trans ?_
  rfl

/-! ## The pipeline's proof data -/

/-- The proof data of pipeline 0 on core `c`: the arrays as the region finds them (`V`); after the body at
    point `t` each input's buffer at its block and each output's at `out0_W` of the input blocks; the invariant the
    class's; nothing owed;
    each input's share of its array
    (`Pipeline.shareOf`: the full share of an array several windows stage, dealt among them). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q w := Pipeline.shareOf spec0 w
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Whole

end
-- ==== Proof.KI.Region1.lean ====
/- Call 1 (for each direction: the projections to the step size, to B and to C, and the discretised decay) as a
   region: what its body leaves in each output block, and the obligation of one grid point, at the contents `V` the
   region is entered with. The scratch buffer is written before it is read at every point, so nothing of it is carried. -/
module

public import proofs.«01_k».proof.Proof.Gen.KernelIdeal.Launch
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # Call 1, at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates. -/
abbrev cond1_0 (i : grid1.Coords) : Prop := (Scalar.cmpi .ne (Scalar.extui (Scalar.cmpi .eq (Scalar.select (Scalar.andi (Scalar.cmpi .ne (Scalar.subi (Scalar.extui (Scalar.cmpi .sgt (BitVec.ofNat 32 (i 0).val) 0#32)) (Scalar.extui (Scalar.cmpi .slt (BitVec.ofNat 32 (i 0).val) 0#32))) (Scalar.subi (Scalar.extui (Scalar.cmpi .sgt 4#32 0#32)) (Scalar.extui (Scalar.cmpi .slt 4#32 0#32)))) (Scalar.cmpi .ne (Scalar.remsi (BitVec.ofNat 32 (i 0).val) 4#32) 0#32)) (Scalar.subi (Scalar.divsi (BitVec.ofNat 32 (i 0).val) 4#32) 1#32) (Scalar.divsi (BitVec.ofNat 32 (i 0).val) 4#32)) 0#32)) 0#32) = 1#1
/-- It holds at the points before point 4 — decided over the grid. -/
theorem hcond1_0 : ∀ t : Fin cfg1.N, cond1_0 (grid1.coords t) ↔ t.val < 4 :=
  (by decide +kernel : ∀ t : Fin grid1.N, cond1_0 (grid1.coords t) ↔ t.val < 4)

/-- The condition of the body's `scf.if` 1 (`k1_h2`), from the grid coordinates. -/
abbrev cond1_1 (i : grid1.Coords) : Prop := (Scalar.cmpi .ne (Scalar.extui (Scalar.cmpi .eq (Scalar.select (Scalar.andi (Scalar.cmpi .ne (Scalar.subi (Scalar.extui (Scalar.cmpi .sgt (BitVec.ofNat 32 (i 0).val) 0#32)) (Scalar.extui (Scalar.cmpi .slt (BitVec.ofNat 32 (i 0).val) 0#32))) (Scalar.subi (Scalar.extui (Scalar.cmpi .sgt 4#32 0#32)) (Scalar.extui (Scalar.cmpi .slt 4#32 0#32)))) (Scalar.cmpi .ne (Scalar.remsi (BitVec.ofNat 32 (i 0).val) 4#32) 0#32)) (Scalar.subi (Scalar.divsi (BitVec.ofNat 32 (i 0).val) 4#32) 1#32) (Scalar.divsi (BitVec.ofNat 32 (i 0).val) 4#32)) 1#32)) 0#32) = 1#1
/-- It holds at the points from point 4 on — decided over the grid. -/
theorem hcond1_1 : ∀ t : Fin cfg1.N, cond1_1 (grid1.coords t) ↔ 4 ≤ t.val :=
  (by decide +kernel : ∀ t : Fin grid1.N, cond1_1 (grid1.coords t) ↔ 4 ≤ t.val)

/-! ## The body's accesses -/

abbrev r1_0 : Rect S1x1x512x2048 := Rect.unit (s := S1x1x512x2048) ![0, 0, 0, 0] S1x1x512x2048.size inb_S1x1x512x2048_S1x1x512x2048_0_0_0_0
abbrev r1_1 : Rect S512x512 := Rect.unit (s := S512x512) ![0, 0] S512x512.size inb_S512x512_S512x512_0_0
abbrev r1_2 : Rect S1x2048x96 := Rect.unit (s := S1x2048x96) ![0, 0, 0] S1x2048x96.size inb_S1x2048x96_S1x2048x96_0_0_0
abbrev r1_3 : Rect S1x64x2048 := Rect.unit (s := S1x64x2048) ![0, 0, 0] S1x64x2048.size inb_S1x64x2048_S1x64x2048_0_0_0
abbrev r1_4 : Rect S1x1x2048 := Rect.unit (s := S1x1x2048) ![0, 0, 0] S1x1x2048.size inb_S1x1x2048_S1x1x2048_0_0_0
abbrev r1_5 : Rect S512x1x1x2048 := Rect.unit (s := S512x1x1x2048) ![0, 0, 0, 0] S512x1x1x2048.size inb_S512x1x1x2048_S512x1x1x2048_0_0_0_0
abbrev r1_6 : Rect S512x1x1x16 := Rect.unit (s := S512x1x1x16) ![0, 0, 0, 0] S512x1x1x16.size inb_S512x1x1x16_S512x1x1x16_0_0_0_0
abbrev r1_s : Rect S512x2048 := Rect.unit (s := S512x2048) ![0, 0] S512x2048.size inb_S512x2048_S512x2048_0_0

/-! ## What the body leaves -/

/-- What the scratch holds at a forward point: the input block's rows. -/
def xs1A (x0 : Vec F S1x1x512x2048 .f32) : Vec F S512x2048 .f32 := k1_pay1 (View.ld x0 r1_0)
/-- What the scratch holds at a backward point: the input block's rows times the reversal matrix. -/
def xs1B (x0 : Vec F S1x1x512x2048 .f32) (x1 : Vec F S512x512 .f32) : Vec F S512x2048 .f32 := k1_pay2 (View.ld x1 r1_1) (View.ld x0 r1_0)

/-- The decay block, from the scratch and the input blocks. -/
def out1_5 (xs : Vec F S512x2048 .f32) (x2 : Vec F S1x2048x96 .f32) (x3 : Vec F S1x64x2048 .f32) (x4 : Vec F S1x1x2048 .f32) : Vec F S512x1x1x2048 .f32 :=
  View.canon [⟨r1_5, k1_pay7 (k1_pay4 xs (View.ld x2 r1_2) (View.ld x3 r1_3)) (k1_pay5 (View.ld x4 r1_4)) (View.ld x4 r1_4)⟩]
/-- The block of step size times input. -/
def out1_6 (xs : Vec F S512x2048 .f32) (x2 : Vec F S1x2048x96 .f32) (x3 : Vec F S1x64x2048 .f32) (x4 : Vec F S1x1x2048 .f32) : Vec F S512x1x1x2048 .f32 :=
  View.canon [⟨r1_5, k1_pay8 xs (k1_pay4 xs (View.ld x2 r1_2) (View.ld x3 r1_3)) (k1_pay5 (View.ld x4 r1_4)) (View.ld x4 r1_4)⟩]
/-- The block of B. -/
def out1_7 (xs : Vec F S512x2048 .f32) (x2 : Vec F S1x2048x96 .f32) : Vec F S512x1x1x16 .f32 :=
  View.canon [⟨r1_6, k1_pay9 (k1_pay3 xs (View.ld x2 r1_2))⟩]
/-- The block of C. -/
def out1_8 (xs : Vec F S512x2048 .f32) (x2 : Vec F S1x2048x96 .f32) : Vec F S512x1x1x16 .f32 :=
  View.canon [⟨r1_6, k1_pay10 (k1_pay3 xs (View.ld x2 r1_2))⟩]

/-- One store of a whole block covers it. -/
theorem cover1_5 (p0 : Vec F S512x1x1x2048 .f32) (y : S512x1x1x2048.Idx) :
    ∃ pc ∈ ([⟨r1_5, p0⟩] : List (View.Piece (Elt F) S512x1x1x2048 .f32)), y ∈ pc.1.set :=
  View.cover_of_tiled [⟨r1_5, p0⟩] S512x1x1x2048.size (by rfl) y
theorem cover1_6 (p0 : Vec F S512x1x1x16 .f32) (y : S512x1x1x16.Idx) :
    ∃ pc ∈ ([⟨r1_6, p0⟩] : List (View.Piece (Elt F) S512x1x1x16 .f32)), y ∈ pc.1.set :=
  View.cover_of_tiled [⟨r1_6, p0⟩] S512x1x1x16.size (by rfl) y

/-- Each window's current staging memref at point `t`, spelled as the pipeline passes it (`bodyAt1`), and its wholeness. -/
abbrev ms1_0 (t : Fin cfg1.N) : Memref sig .tc .vmem S1x1x512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x96 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x2048 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1x1x2048 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1x1x2048 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x1x1x16 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x1x1x16 .f32 := win1_8.stage (cfg1.slots t 8)
abbrev hs1_8 (t : Fin cfg1.N) : (ms1_8 t).IsWhole := hstage1_8 ((cfg1.slots t 8).cast nbuf1_8)
/-- The scratch operands: whole scoped buffers of the kernel's own, passed beside the windows. -/
abbrev scM1_0 : Memref sig .tc .vmem S512x2048 .f32 := Memref.whole cc1_scratch0

/-- `Gen.scopedRest1_split` as ONE chain: the kernel's own scratch buffers, each whole at some contents, then every
    other scoped buffer, unopened (`Pipeline.scopedRestBut`). -/
theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ Pipeline.scopedRestBut spec1 c [cc1_scratch0]) := by
  rw [scopedRest1_split]

/-- The region's invariant with the scratch operands as memrefs owned at some contents (`scopedRest1_flat`,
    `owns_whole`): what the body obligation hands the run and takes back. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_flat]; simp only [scM1_0, owns_whole]; try rfl

/-! ## The body's triple -/

section
variable (c : Dev nD) (E : Set ℕ) (i : grid1.Coords) (arg1 : Memref sig .tc .vmem S1x1x512x2048 .f32) (harg1 : arg1.IsWhole) (arg2 : Memref sig .tc .vmem S512x512 .f32) (harg2 : arg2.IsWhole) (arg3 : Memref sig .tc .vmem S1x2048x96 .f32) (harg3 : arg3.IsWhole) (arg4 : Memref sig .tc .vmem S1x64x2048 .f32) (harg4 : arg4.IsWhole) (arg5 : Memref sig .tc .vmem S1x1x2048 .f32) (harg5 : arg5.IsWhole) (arg6 : Memref sig .tc .vmem S512x1x1x2048 .f32) (harg6 : arg6.IsWhole) (arg7 : Memref sig .tc .vmem S512x1x1x2048 .f32) (harg7 : arg7.IsWhole) (arg8 : Memref sig .tc .vmem S512x1x1x16 .f32) (harg8 : arg8.IsWhole) (arg9 : Memref sig .tc .vmem S512x1x1x16 .f32) (harg9 : arg9.IsWhole) (arg10 : Memref sig .tc .vmem S512x2048 .f32) (harg10 : arg10.IsWhole)

set_option maxHeartbeats 2000000 in
/-- The body at a forward point, on whole staging memrefs: the inputs stay as they were, each output block ends at its
    closed form, the scratch at some contents. -/
theorem sound_kernel1_A (hc0 : cond1_0 i) (hc1 : ¬cond1_1 i)
    (x0 : Vec F S1x1x512x2048 .f32) (x1 : Vec F S512x512 .f32) (x2 : Vec F S1x2048x96 .f32) (x3 : Vec F S1x64x2048 .f32) (x4 : Vec F S1x1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 (xs1A x0) x2 x3 x4) ∗ owns (c : Thread nD τ) arg7 fullShare (out1_6 (xs1A x0) x2 x3 x4) ∗ owns (c : Thread nD τ) arg8 fullShare (out1_7 (xs1A x0) x2) ∗ owns (c : Thread nD τ) arg9 fullShare (out1_8 (xs1A x0) x2) ∗ (∃ d, owns (c : Thread nD τ) arg10 fullShare d)) -∗ K ⟨⟩))
      ⊢ wp frame (wpE (defs₀ (F := F)) Variants.none c none) E (cc1_vim_a2_dirproj i arg1 harg1 arg2 harg2 arg3 harg3 arg4 harg4 arg5 harg5 arg6 harg6 arg7 harg7 arg8 harg8 arg9 harg9 arg10 harg10) K := by
  simp only [cc1_vim_a2_dirproj_eq_skeleton]; unfold cc1_vim_a2_dirproj_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf0 hf1 hf2 hf3 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover1_5 _)).trans ?_
    try delta sound_kernel1_A.sl.r_3
    try delta sound_kernel1_A.sl.r
    try delta sound_kernel1_A.sl.r_1
    try delta sound_kernel1_A.sl.r_2
    try delta sound_kernel1_A.sl.v23
    try delta sound_kernel1_A.sl.H9_1
    rw [View.readCov_cons_toLoadRect]
    rfl
  isplitl [H6]
  · iexists _; isplitr
    swap; · iexact H6
    ipureintro
    refine (View.read_writes_eq_canon _ _ _ (cover1_5 _)).trans ?_
    try delta sound_kernel1_A.sl.r_3
    try delta sound_kernel1_A.sl.r
    try delta sound_kernel1_A.sl.r_1
    try delta sound_kernel1_A.sl.r_2
    try delta sound_kernel1_A.sl.v23
    try delta sound_kernel1_A.sl.H9_1
    rw [View.readCov_cons_toLoadRect]
    rfl
  isplitl [H7]
  · iexists _; isplitr
    swap; · iexact H7
    ipureintro
    refine (View.read_writes_eq_canon _ _ _ (cover1_6 _)).trans ?_
    try delta sound_kernel1_A.sl.r_3
    try delta sound_kernel1_A.sl.r
    try delta sound_kernel1_A.sl.r_1
    try delta sound_kernel1_A.sl.r_2
    try delta sound_kernel1_A.sl.v23
    try delta sound_kernel1_A.sl.H9_1
    rw [View.readCov_cons_toLoadRect]
    rfl
  isplitl [H8]
  · iexists _; isplitr
    swap; · iexact H8
    ipureintro
    refine (View.read_writes_eq_canon _ _ _ (cover1_6 _)).trans ?_
    try delta sound_kernel1_A.sl.r_3
    try delta sound_kernel1_A.sl.r
    try delta sound_kernel1_A.sl.r_1
    try delta sound_kernel1_A.sl.r_2
    try delta sound_kernel1_A.sl.v23
    try delta sound_kernel1_A.sl.H9_1
    rw [View.readCov_cons_toLoadRect]
    rfl
  iexists _, _; isplitr; swap; · iexact H9
  ipureintro; rfl

set_option maxHeartbeats 2000000 in
/-- The body at a backward point, on whole staging memrefs: the inputs stay as they were, each output block ends at its
    closed form, the scratch at some contents. -/
theorem sound_kernel1_B (hc0 : ¬cond1_0 i) (hc1 : cond1_1 i)
    (x0 : Vec F S1x1x512x2048 .f32) (x1 : Vec F S512x512 .f32) (x2 : Vec F S1x2048x96 .f32) (x3 : Vec F S1x64x2048 .f32) (x4 : Vec F S1x1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 (xs1B x0 x1) x2 x3 x4) ∗ owns (c : Thread nD τ) arg7 fullShare (out1_6 (xs1B x0 x1) x2 x3 x4) ∗ owns (c : Thread nD τ) arg8 fullShare (out1_7 (xs1B x0 x1) x2) ∗ owns (c : Thread nD τ) arg9 fullShare (out1_8 (xs1B x0 x1) x2) ∗ (∃ d, owns (c : Thread nD τ) arg10 fullShare d)) -∗ K ⟨⟩))
      ⊢ wp frame (wpE (defs₀ (F := F)) Variants.none c none) E (cc1_vim_a2_dirproj i arg1 harg1 arg2 harg2 arg3 harg3 arg4 harg4 arg5 harg5 arg6 harg6 arg7 harg7 arg8 harg8 arg9 harg9 arg10 harg10) K := by
  simp only [cc1_vim_a2_dirproj_eq_skeleton]; unfold cc1_vim_a2_dirproj_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf0 hf1 hf2 hf3 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover1_5 _)).trans ?_
    try delta sound_kernel1_B.sl.r_3
    try delta sound_kernel1_B.sl.r
    try delta sound_kernel1_B.sl.r_1
    try delta sound_kernel1_B.sl.r_2
    try delta sound_kernel1_B.sl.v23
    try delta sound_kernel1_B.sl.H9_1
    rw [View.readCov_cons_toLoadRect]
    rfl
  isplitl [H6]
  · iexists _; isplitr
    swap; · iexact H6
    ipureintro
    refine (View.read_writes_eq_canon _ _ _ (cover1_5 _)).trans ?_
    try delta sound_kernel1_B.sl.r_3
    try delta sound_kernel1_B.sl.r
    try delta sound_kernel1_B.sl.r_1
    try delta sound_kernel1_B.sl.r_2
    try delta sound_kernel1_B.sl.v23
    try delta sound_kernel1_B.sl.H9_1
    rw [View.readCov_cons_toLoadRect]
    rfl
  isplitl [H7]
  · iexists _; isplitr
    swap; · iexact H7
    ipureintro
    refine (View.read_writes_eq_canon _ _ _ (cover1_6 _)).trans ?_
    try delta sound_kernel1_B.sl.r_3
    try delta sound_kernel1_B.sl.r
    try delta sound_kernel1_B.sl.r_1
    try delta sound_kernel1_B.sl.r_2
    try delta sound_kernel1_B.sl.v23
    try delta sound_kernel1_B.sl.H9_1
    rw [View.readCov_cons_toLoadRect]
    rfl
  isplitl [H8]
  · iexists _; isplitr
    swap; · iexact H8
    ipureintro
    refine (View.read_writes_eq_canon _ _ _ (cover1_6 _)).trans ?_
    try delta sound_kernel1_B.sl.r_3
    try delta sound_kernel1_B.sl.r
    try delta sound_kernel1_B.sl.r_1
    try delta sound_kernel1_B.sl.r_2
    try delta sound_kernel1_B.sl.v23
    try delta sound_kernel1_B.sl.H9_1
    rw [View.readCov_cons_toLoadRect]
    rfl
  iexists _, _; isplitr; swap; · iexact H9
  ipureintro; rfl

end

/-! ## The pipeline's proof data -/

/-- What the scratch holds when the body of point `t` reads it. -/
def xsAt1 (c : Dev nD) (t : Fin cfg1.N) : Vec F S512x2048 .f32 :=
  if t.val < 4 then xs1A (iblk1 V c 0 t) else xs1B (iblk1 V c 0 t) (iblk1 V c 1 t)

/-- The proof data of pipeline 1 on core `c`: the arrays as the region finds them; after the body each input's buffer
    at its block and each output's at its closed form. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (xsAt1 V c t) (iblk1 V c 2 t) (iblk1 V c 3 t) (iblk1 V c 4 t)
    | ⟨6, _⟩ => out1_6 (xsAt1 V c t) (iblk1 V c 2 t) (iblk1 V c 3 t) (iblk1 V c 4 t)
    | ⟨7, _⟩ => out1_7 (xsAt1 V c t) (iblk1 V c 2 t)
    | ⟨8, _⟩ => out1_8 (xsAt1 V c t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (xsAt1 V c t) (iblk1 V c 2 t) (iblk1 V c 3 t) (iblk1 V c 4 t) := by dsimp only [dat1]
theorem after1_6 (c : Dev nD) (t : Fin cfg1.N) : (dat1 V c).after 6 t = out1_6 (xsAt1 V c t) (iblk1 V c 2 t) (iblk1 V c 3 t) (iblk1 V c 4 t) := by dsimp only [dat1]
theorem after1_7 (c : Dev nD) (t : Fin cfg1.N) : (dat1 V c).after 7 t = out1_7 (xsAt1 V c t) (iblk1 V c 2 t) := by dsimp only [dat1]
theorem after1_8 (c : Dev nD) (t : Fin cfg1.N) : (dat1 V c).after 8 t = out1_8 (xsAt1 V c t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))
/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 1600000 in
/-- The body at any point: which of the two cases it is in is decided by the point's number. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  rw [show (dat1 V c).Φ t.castSucc = Pipeline.ΦA spec1 c from rfl, PhiA1_eq]
  by_cases h0 : t.val < 4
  · rw [show xsAt1 V c t = xs1A (iblk1 V c 0 t) from if_pos h0]
    iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel1_A c Set.univ (grid1.coords t) _ _ _ _ _ _ _ _ _ _ _ _ _ _ _ _ _ _ _ _ ((hcond1_0 t).mpr h0) (fun h => absurd ((hcond1_1 t).mp h) (by omega)) (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexact HS0
    iintro ⟨H0, H1, H2, H3, H4, H5, H6, H7, H8, HS0⟩
    isplitl [HS0 HR1 Hg]
    · isplitl [HS0 HR1]
      · isplitl [HS0]
        · iexact HS0
        iexact HR1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [show xsAt1 V c t = xs1B (iblk1 V c 0 t) (iblk1 V c 1 t) from if_neg h0]
    iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel1_B c Set.univ (grid1.coords t) _ _ _ _ _ _ _ _ _ _ _ _ _ _ _ _ _ _ _ _ (fun h => h0 ((hcond1_0 t).mp h)) ((hcond1_1 t).mpr (by omega)) (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexact HS0
    iintro ⟨H0, H1, H2, H3, H4, H5, H6, H7, H8, HS0⟩
    isplitl [HS0 HR1 Hg]
    · isplitl [HS0 HR1]
      · isplitl [HS0]
        · iexact HS0
        iexact HR1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Whole

end
-- ==== Proof.KI.Scan.lean ====
module

public import proofs.«01_k».proof.Proof.Gen.KernelIdeal.Launch
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.UnfoldOut
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What one step, one trip and the whole loop of the scan compute

The scan's body keeps the sixteen states of a block of rows and channels as sixteen vectors; one step of time takes them
on, and four steps make a trip of the loop. These are plain functions of the contents the body loads. -/

/-- The sixteen states, one vector of rows and channels for each. -/
abbrev St (F : FTy → Type) [FloatOps F] : Type := Vec F S8x128 .f32 × Vec F S8x128 .f32 × Vec F S8x128 .f32 × Vec F S8x128 .f32 × Vec F S8x128 .f32 × Vec F S8x128 .f32 × Vec F S8x128 .f32 × Vec F S8x128 .f32 × Vec F S8x128 .f32 × Vec F S8x128 .f32 × Vec F S8x128 .f32 × Vec F S8x128 .f32 × Vec F S8x128 .f32 × Vec F S8x128 .f32 × Vec F S8x128 .f32 × Vec F S8x128 .f32

/-- One step of time's loads: the decay and the step's input, each a row block. -/
abbrev LdP (F : FTy → Type) [FloatOps F] : Type := Vec F S1x1x8x128 .f32
/-- One step of time's loads: half of the expanded B or C. -/
abbrev LdB (F : FTy → Type) [FloatOps F] : Type := Vec F S1x8x1024 .f32

/-! State `n` after one step is `sHn`: the decay's power n + 1 times the state, and the input times B's column. Its share of
the step's output is `sYn`: the new state times C's column. -/

section
variable (vp vd : LdP F) (b0 c0 b1 c1 : LdB F) (h : Vec F S8x128 .f32)
def sH0 : Vec F S8x128 .f32 :=
  addf (mulf (k2_pay4 vp) h) (mulf (k2_pay5 vd) (extractStridedSlice S8x128 ![0, 0] (k2_pay21 b0) slices_S8x1024_o0_0_S8x128))
def sY0 : Vec F S8x128 .f32 := mulf (sH0 vp vd b0 h) (extractStridedSlice S8x128 ![0, 0] (k2_pay21 c0) slices_S8x1024_o0_0_S8x128)
def sH1 : Vec F S8x128 .f32 :=
  addf (mulf (k2_pay6 vp) h) (mulf (k2_pay5 vd) (extractStridedSlice S8x128 ![0, 128] (k2_pay21 b0) slices_S8x1024_o0_128_S8x128))
def sY1 : Vec F S8x128 .f32 := mulf (sH1 vp vd b0 h) (extractStridedSlice S8x128 ![0, 128] (k2_pay21 c0) slices_S8x1024_o0_128_S8x128)
def sH2 : Vec F S8x128 .f32 :=
  addf (mulf (k2_pay9 vp) h) (mulf (k2_pay5 vd) (extractStridedSlice S8x128 ![0, 256] (k2_pay21 b0) slices_S8x1024_o0_256_S8x128))
def sY2 : Vec F S8x128 .f32 := mulf (sH2 vp vd b0 h) (extractStridedSlice S8x128 ![0, 256] (k2_pay21 c0) slices_S8x1024_o0_256_S8x128)
def sH3 : Vec F S8x128 .f32 :=
  addf (mulf (k2_pay7 vp) h) (mulf (k2_pay5 vd) (extractStridedSlice S8x128 ![0, 384] (k2_pay21 b0) slices_S8x1024_o0_384_S8x128))
def sY3 : Vec F S8x128 .f32 := mulf (sH3 vp vd b0 h) (extractStridedSlice S8x128 ![0, 384] (k2_pay21 c0) slices_S8x1024_o0_384_S8x128)
def sH4 : Vec F S8x128 .f32 :=
  addf (mulf (k2_pay10 vp) h) (mulf (k2_pay5 vd) (extractStridedSlice S8x128 ![0, 512] (k2_pay21 b0) slices_S8x1024_o0_512_S8x128))
def sY4 : Vec F S8x128 .f32 := mulf (sH4 vp vd b0 h) (extractStridedSlice S8x128 ![0, 512] (k2_pay21 c0) slices_S8x1024_o0_512_S8x128)
def sH5 : Vec F S8x128 .f32 :=
  addf (mulf (k2_pay11 vp) h) (mulf (k2_pay5 vd) (extractStridedSlice S8x128 ![0, 640] (k2_pay21 b0) slices_S8x1024_o0_640_S8x128))
def sY5 : Vec F S8x128 .f32 := mulf (sH5 vp vd b0 h) (extractStridedSlice S8x128 ![0, 640] (k2_pay21 c0) slices_S8x1024_o0_640_S8x128)
def sH6 : Vec F S8x128 .f32 :=
  addf (mulf (k2_pay12 vp) h) (mulf (k2_pay5 vd) (extractStridedSlice S8x128 ![0, 768] (k2_pay21 b0) slices_S8x1024_o0_768_S8x128))
def sY6 : Vec F S8x128 .f32 := mulf (sH6 vp vd b0 h) (extractStridedSlice S8x128 ![0, 768] (k2_pay21 c0) slices_S8x1024_o0_768_S8x128)
def sH7 : Vec F S8x128 .f32 :=
  addf (mulf (k2_pay8 vp) h) (mulf (k2_pay5 vd) (extractStridedSlice S8x128 ![0, 896] (k2_pay21 b0) slices_S8x1024_o0_896_S8x128))
def sY7 : Vec F S8x128 .f32 := mulf (sH7 vp vd b0 h) (extractStridedSlice S8x128 ![0, 896] (k2_pay21 c0) slices_S8x1024_o0_896_S8x128)
def sH8 : Vec F S8x128 .f32 :=
  addf (mulf (k2_pay13 vp) h) (mulf (k2_pay5 vd) (extractStridedSlice S8x128 ![0, 0] (k2_pay21 b1) slices_S8x1024_o0_0_S8x128))
def sY8 : Vec F S8x128 .f32 := mulf (sH8 vp vd b1 h) (extractStridedSlice S8x128 ![0, 0] (k2_pay21 c1) slices_S8x1024_o0_0_S8x128)
def sH9 : Vec F S8x128 .f32 :=
  addf (mulf (k2_pay14 vp) h) (mulf (k2_pay5 vd) (extractStridedSlice S8x128 ![0, 128] (k2_pay21 b1) slices_S8x1024_o0_128_S8x128))
def sY9 : Vec F S8x128 .f32 := mulf (sH9 vp vd b1 h) (extractStridedSlice S8x128 ![0, 128] (k2_pay21 c1) slices_S8x1024_o0_128_S8x128)
def sH10 : Vec F S8x128 .f32 :=
  addf (mulf (k2_pay15 vp) h) (mulf (k2_pay5 vd) (extractStridedSlice S8x128 ![0, 256] (k2_pay21 b1) slices_S8x1024_o0_256_S8x128))
def sY10 : Vec F S8x128 .f32 := mulf (sH10 vp vd b1 h) (extractStridedSlice S8x128 ![0, 256] (k2_pay21 c1) slices_S8x1024_o0_256_S8x128)
def sH11 : Vec F S8x128 .f32 :=
  addf (mulf (k2_pay16 vp) h) (mulf (k2_pay5 vd) (extractStridedSlice S8x128 ![0, 384] (k2_pay21 b1) slices_S8x1024_o0_384_S8x128))
def sY11 : Vec F S8x128 .f32 := mulf (sH11 vp vd b1 h) (extractStridedSlice S8x128 ![0, 384] (k2_pay21 c1) slices_S8x1024_o0_384_S8x128)
def sH12 : Vec F S8x128 .f32 :=
  addf (mulf (k2_pay17 vp) h) (mulf (k2_pay5 vd) (extractStridedSlice S8x128 ![0, 512] (k2_pay21 b1) slices_S8x1024_o0_512_S8x128))
def sY12 : Vec F S8x128 .f32 := mulf (sH12 vp vd b1 h) (extractStridedSlice S8x128 ![0, 512] (k2_pay21 c1) slices_S8x1024_o0_512_S8x128)
def sH13 : Vec F S8x128 .f32 :=
  addf (mulf (k2_pay18 vp) h) (mulf (k2_pay5 vd) (extractStridedSlice S8x128 ![0, 640] (k2_pay21 b1) slices_S8x1024_o0_640_S8x128))
def sY13 : Vec F S8x128 .f32 := mulf (sH13 vp vd b1 h) (extractStridedSlice S8x128 ![0, 640] (k2_pay21 c1) slices_S8x1024_o0_640_S8x128)
def sH14 : Vec F S8x128 .f32 :=
  addf (mulf (k2_pay19 vp) h) (mulf (k2_pay5 vd) (extractStridedSlice S8x128 ![0, 768] (k2_pay21 b1) slices_S8x1024_o0_768_S8x128))
def sY14 : Vec F S8x128 .f32 := mulf (sH14 vp vd b1 h) (extractStridedSlice S8x128 ![0, 768] (k2_pay21 c1) slices_S8x1024_o0_768_S8x128)
def sH15 : Vec F S8x128 .f32 :=
  addf (mulf (k2_pay20 vp) h) (mulf (k2_pay5 vd) (extractStridedSlice S8x128 ![0, 896] (k2_pay21 b1) slices_S8x1024_o0_896_S8x128))
def sY15 : Vec F S8x128 .f32 := mulf (sH15 vp vd b1 h) (extractStridedSlice S8x128 ![0, 896] (k2_pay21 c1) slices_S8x1024_o0_896_S8x128)
end

/-- The sixteen states after one step. -/
def sSt (vp vd : LdP F) (b0 b1 : LdB F) (st : St F) : St F :=
  (sH0 vp vd b0 (st.1),
    sH1 vp vd b0 (st.2.1),
    sH2 vp vd b0 (st.2.2.1),
    sH3 vp vd b0 (st.2.2.2.1),
    sH4 vp vd b0 (st.2.2.2.2.1),
    sH5 vp vd b0 (st.2.2.2.2.2.1),
    sH6 vp vd b0 (st.2.2.2.2.2.2.1),
    sH7 vp vd b0 (st.2.2.2.2.2.2.2.1),
    sH8 vp vd b1 (st.2.2.2.2.2.2.2.2.1),
    sH9 vp vd b1 (st.2.2.2.2.2.2.2.2.2.1),
    sH10 vp vd b1 (st.2.2.2.2.2.2.2.2.2.2.1),
    sH11 vp vd b1 (st.2.2.2.2.2.2.2.2.2.2.2.1),
    sH12 vp vd b1 (st.2.2.2.2.2.2.2.2.2.2.2.2.1),
    sH13 vp vd b1 (st.2.2.2.2.2.2.2.2.2.2.2.2.2.1),
    sH14 vp vd b1 (st.2.2.2.2.2.2.2.2.2.2.2.2.2.2.1),
    sH15 vp vd b1 (st.2.2.2.2.2.2.2.2.2.2.2.2.2.2.2))

/-- One step's output: the sixteen shares, added in pairs. -/
def sOut (vp vd : LdP F) (b0 c0 b1 c1 : LdB F) (st : St F) : Vec F S1x1x8x128 .f32 :=
  shapeCast S1x1x8x128 (addf (addf (addf (addf (sY0 vp vd b0 c0 (st.1)) (sY1 vp vd b0 c0 (st.2.1))) (addf (sY2 vp vd b0 c0 (st.2.2.1)) (sY3 vp vd b0 c0 (st.2.2.2.1)))) (addf (addf (sY4 vp vd b0 c0 (st.2.2.2.2.1)) (sY5 vp vd b0 c0 (st.2.2.2.2.2.1))) (addf (sY6 vp vd b0 c0 (st.2.2.2.2.2.2.1)) (sY7 vp vd b0 c0 (st.2.2.2.2.2.2.2.1))))) (addf (addf (addf (sY8 vp vd b1 c1 (st.2.2.2.2.2.2.2.2.1)) (sY9 vp vd b1 c1 (st.2.2.2.2.2.2.2.2.2.1))) (addf (sY10 vp vd b1 c1 (st.2.2.2.2.2.2.2.2.2.2.1)) (sY11 vp vd b1 c1 (st.2.2.2.2.2.2.2.2.2.2.2.1)))) (addf (addf (sY12 vp vd b1 c1 (st.2.2.2.2.2.2.2.2.2.2.2.2.1)) (sY13 vp vd b1 c1 (st.2.2.2.2.2.2.2.2.2.2.2.2.2.1))) (addf (sY14 vp vd b1 c1 (st.2.2.2.2.2.2.2.2.2.2.2.2.2.2.1)) (sY15 vp vd b1 c1 (st.2.2.2.2.2.2.2.2.2.2.2.2.2.2.2)))))) shapeCasts_S8x128_S1x1x8x128

/-! The rectangles the four steps of trip `k` load and store. -/

abbrev rP0 (k : Fin k2_t1_loop.trips) : Rect S128x1x8x128 := Rect.unit (s := S128x1x8x128) (k2_off1 k) S1x1x8x128.size (k2_off1_inb k)
abbrev rL0 (k : Fin k2_t1_loop.trips) : Rect S128x8x2048 := Rect.unit (s := S128x8x2048) (k2_off2 k) S1x8x1024.size (k2_off2_inb k)
abbrev rR0 (k : Fin k2_t1_loop.trips) : Rect S128x8x2048 := Rect.unit (s := S128x8x2048) (k2_off3 k) S1x8x1024.size (k2_off3_inb k)
abbrev rP1 (k : Fin k2_t1_loop.trips) : Rect S128x1x8x128 := Rect.unit (s := S128x1x8x128) (k2_off4 k 1#32) S1x1x8x128.size (k2_off4_inb k 0)
abbrev rL1 (k : Fin k2_t1_loop.trips) : Rect S128x8x2048 := Rect.unit (s := S128x8x2048) (k2_off5 k 1#32) S1x8x1024.size (k2_off5_inb k 0)
abbrev rR1 (k : Fin k2_t1_loop.trips) : Rect S128x8x2048 := Rect.unit (s := S128x8x2048) (k2_off6 k 1#32) S1x8x1024.size (k2_off6_inb k 0)
abbrev rP2 (k : Fin k2_t1_loop.trips) : Rect S128x1x8x128 := Rect.unit (s := S128x1x8x128) (k2_off4 k 2#32) S1x1x8x128.size (k2_off4_inb k 1)
abbrev rL2 (k : Fin k2_t1_loop.trips) : Rect S128x8x2048 := Rect.unit (s := S128x8x2048) (k2_off5 k 2#32) S1x8x1024.size (k2_off5_inb k 1)
abbrev rR2 (k : Fin k2_t1_loop.trips) : Rect S128x8x2048 := Rect.unit (s := S128x8x2048) (k2_off6 k 2#32) S1x8x1024.size (k2_off6_inb k 1)
abbrev rP3 (k : Fin k2_t1_loop.trips) : Rect S128x1x8x128 := Rect.unit (s := S128x1x8x128) (k2_off4 k 3#32) S1x1x8x128.size (k2_off4_inb k 2)
abbrev rL3 (k : Fin k2_t1_loop.trips) : Rect S128x8x2048 := Rect.unit (s := S128x8x2048) (k2_off5 k 3#32) S1x8x1024.size (k2_off5_inb k 2)
abbrev rR3 (k : Fin k2_t1_loop.trips) : Rect S128x8x2048 := Rect.unit (s := S128x8x2048) (k2_off6 k 3#32) S1x8x1024.size (k2_off6_inb k 2)

/-- The states after step 0 of trip `k`. -/
def tS0 (p d : Vec F S128x1x8x128 .f32) (be : Vec F S128x8x2048 .f32) (k : Fin k2_t1_loop.trips) (st : St F) : St F :=
  sSt (View.ld p (rP0 k)) (View.ld d (rP0 k)) (View.ld be (rL0 k)) (View.ld be (rR0 k)) st
/-- The output of step 0 of trip `k`. -/
def tO0 (p d : Vec F S128x1x8x128 .f32) (be ce : Vec F S128x8x2048 .f32) (k : Fin k2_t1_loop.trips) (st : St F) : Vec F S1x1x8x128 .f32 :=
  sOut (View.ld p (rP0 k)) (View.ld d (rP0 k)) (View.ld be (rL0 k)) (View.ld ce (rL0 k)) (View.ld be (rR0 k)) (View.ld ce (rR0 k)) st

/-- The states after step 1 of trip `k`. -/
def tS1 (p d : Vec F S128x1x8x128 .f32) (be : Vec F S128x8x2048 .f32) (k : Fin k2_t1_loop.trips) (st : St F) : St F :=
  sSt (View.ld p (rP1 k)) (View.ld d (rP1 k)) (View.ld be (rL1 k)) (View.ld be (rR1 k)) (tS0 p d be k st)
/-- The output of step 1 of trip `k`. -/
def tO1 (p d : Vec F S128x1x8x128 .f32) (be ce : Vec F S128x8x2048 .f32) (k : Fin k2_t1_loop.trips) (st : St F) : Vec F S1x1x8x128 .f32 :=
  sOut (View.ld p (rP1 k)) (View.ld d (rP1 k)) (View.ld be (rL1 k)) (View.ld ce (rL1 k)) (View.ld be (rR1 k)) (View.ld ce (rR1 k)) (tS0 p d be k st)

/-- The states after step 2 of trip `k`. -/
def tS2 (p d : Vec F S128x1x8x128 .f32) (be : Vec F S128x8x2048 .f32) (k : Fin k2_t1_loop.trips) (st : St F) : St F :=
  sSt (View.ld p (rP2 k)) (View.ld d (rP2 k)) (View.ld be (rL2 k)) (View.ld be (rR2 k)) (tS1 p d be k st)
/-- The output of step 2 of trip `k`. -/
def tO2 (p d : Vec F S128x1x8x128 .f32) (be ce : Vec F S128x8x2048 .f32) (k : Fin k2_t1_loop.trips) (st : St F) : Vec F S1x1x8x128 .f32 :=
  sOut (View.ld p (rP2 k)) (View.ld d (rP2 k)) (View.ld be (rL2 k)) (View.ld ce (rL2 k)) (View.ld be (rR2 k)) (View.ld ce (rR2 k)) (tS1 p d be k st)

/-- The states after step 3 of trip `k`. -/
def tS3 (p d : Vec F S128x1x8x128 .f32) (be : Vec F S128x8x2048 .f32) (k : Fin k2_t1_loop.trips) (st : St F) : St F :=
  sSt (View.ld p (rP3 k)) (View.ld d (rP3 k)) (View.ld be (rL3 k)) (View.ld be (rR3 k)) (tS2 p d be k st)
/-- The output of step 3 of trip `k`. -/
def tO3 (p d : Vec F S128x1x8x128 .f32) (be ce : Vec F S128x8x2048 .f32) (k : Fin k2_t1_loop.trips) (st : St F) : Vec F S1x1x8x128 .f32 :=
  sOut (View.ld p (rP3 k)) (View.ld d (rP3 k)) (View.ld be (rL3 k)) (View.ld ce (rL3 k)) (View.ld be (rR3 k)) (View.ld ce (rR3 k)) (tS2 p d be k st)

/-- The pieces trip `k` writes, last first. -/
def tL (p d : Vec F S128x1x8x128 .f32) (be ce : Vec F S128x8x2048 .f32) (k : Fin k2_t1_loop.trips) (st : St F) : List (View.Piece (Elt F) S128x1x8x128 .f32) :=
  [⟨rP3 k, tO3 p d be ce k st⟩, ⟨rP2 k, tO2 p d be ce k st⟩, ⟨rP1 k, tO1 p d be ce k st⟩, ⟨rP0 k, tO0 p d be ce k st⟩]

/-- The states before trip `k` and the pieces written by the trips before. -/
def loopSt (p d : Vec F S128x1x8x128 .f32) (be ce : Vec F S128x8x2048 .f32) (init : St F) :
    ℕ → St F × List (View.Piece (Elt F) S128x1x8x128 .f32)
  | 0 => (init, [])
  | k + 1 =>
    if h : k < k2_t1_loop.trips then
      (tS3 p d be ⟨k, h⟩ (loopSt p d be ce init k).1, tL p d be ce ⟨k, h⟩ (loopSt p d be ce init k).1 ++ (loopSt p d be ce init k).2)
    else loopSt p d be ce init k

variable (𝒱 : Variants) (c : Dev nD) (bd : Option 𝒱.V) (i : grid2.Coords) (arg2 : Memref sig .tc .vmem S128x1x8x128 .f32) (harg2 : arg2.IsWhole) (arg3 : Memref sig .tc .vmem S128x1x8x128 .f32) (harg3 : arg3.IsWhole) (arg4 : Memref sig .tc .vmem S128x1x8x16 .f32) (harg4 : arg4.IsWhole) (arg5 : Memref sig .tc .vmem S128x1x8x16 .f32) (harg5 : arg5.IsWhole) (arg6 : Memref sig .tc .vmem S16x2048 .f32) (harg6 : arg6.IsWhole) (arg7 : Memref sig .tc .vmem S128x1x8x128 .f32) (harg7 : arg7.IsWhole) (arg8 : Memref sig .tc .vmem S8x2048 .f32) (harg8 : arg8.IsWhole) (arg9 : Memref sig .tc .vmem S128x8x2048 .f32) (harg9 : arg9.IsWhole) (arg10 : Memref sig .tc .vmem S128x8x2048 .f32) (harg10 : arg10.IsWhole) (v24 v25 v26 : Vec F S8x128 .f32)
    (X2 : BufTy.Contents (Elt F) arg2.view.ty) (X3 : BufTy.Contents (Elt F) arg3.view.ty) (X9 : BufTy.Contents (Elt F) arg9.view.ty) (X10 : BufTy.Contents (Elt F) arg10.view.ty)

set_option maxHeartbeats 4000000 in
/-- A trip's yield is the states after its four steps. -/
theorem tripR_eq (k : Fin k2_t1_loop.trips) (acc : St F) :
    tripR_k2_t1 (F := F) 𝒱 c bd i arg2 harg2 arg3 harg3 arg4 harg4 arg5 harg5 arg6 harg6 arg7 harg7 arg8 harg8 arg9 harg9 arg10 harg10 v24 v25 v26 X2 X3 X9 X10 k acc
      = tS3 (arg2.view.read (Elt F) X2) (arg3.view.read (Elt F) X3) (arg9.view.read (Elt F) X9) k acc := by
  unfold tripR_k2_t1 trip_k2_t1
  rfl

set_option maxHeartbeats 4000000 in
/-- A trip's pieces are its four steps' outputs. -/
theorem tripL_eq (k : Fin k2_t1_loop.trips) (acc : St F) :
    tripL_k2_t1 (F := F) 𝒱 c bd i arg2 harg2 arg3 harg3 arg4 harg4 arg5 harg5 arg6 harg6 arg7 harg7 arg8 harg8 arg9 harg9 arg10 harg10 v24 v25 v26 X2 X3 X9 X10 k acc
      = tL (arg2.view.read (Elt F) X2) (arg3.view.read (Elt F) X3) (arg9.view.read (Elt F) X9) (arg10.view.read (Elt F) X10) k acc := by
  unfold tripL_k2_t1 trip_k2_t1
  rfl

/-- The loop's state before any trip is the plain recursion over the contents read. -/
theorem st_eq (init : St F) (k : ℕ) :
    st_k2_t1 (F := F) 𝒱 c bd i arg2 harg2 arg3 harg3 arg4 harg4 arg5 harg5 arg6 harg6 arg7 harg7 arg8 harg8 arg9 harg9 arg10 harg10 v24 v25 v26 X2 X3 X9 X10 init k
      = loopSt (arg2.view.read (Elt F) X2) (arg3.view.read (Elt F) X3) (arg9.view.read (Elt F) X9) (arg10.view.read (Elt F) X10) init k := by
  induction k with
  | zero => rfl
  | succ k ih =>
    rw [st_k2_t1.eq_2, loopSt]
    unfold st_k2_t1Step
    split
    · rw [tripR_eq, tripL_eq, ih]
    · exact ih

end Cert.KernelIdeal.Whole

end
-- ==== Proof.KI.Region2.lean ====
module

public import proofs.«01_k».proof.Proof.KI.Scan

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_vim_scan` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 1).val) 0#32)) 0#32) = 1#1
/-- It holds at the points ≡ 0 (mod 4) — by arithmetic of the point. -/
theorem hcond2_0 : ∀ t : Fin cfg2.N, cond2_0 (grid2.coords t) ↔ t.val % 4 = 0 :=
  (fun t => by
    have ht : t.val < 64 := Nat.lt_of_lt_of_eq t.isLt N_2
    have e0 : (grid2.coords t 0).val = t.val / 4 % 16 := Pipeline.Grid.coords_val t 0 (by decide) rfl
    have e1 : (grid2.coords t 1).val = t.val / 1 % 4 := Pipeline.Grid.coords_val t 1 (by decide) rfl
    simp only [cond2_0, e0, e1]
    word_cmp
   : ∀ t : Fin grid2.N, cond2_0 (grid2.coords t) ↔ t.val % 4 = 0)

/-! ## The staging memrefs and the scratch operands -/

/-- One staging buffer of output window 5, through which its contents are stated (`View.read_writes_of_cover`: the
    choice does not matter). -/
abbrev VO2_5 : View sig .tc .vmem S128x1x8x128 .f32 := (Memref.whole cc2_stg5_0 : Memref sig .tc .vmem S128x1x8x128 .f32).view
/-- Each window's current staging memref at point `t`, spelled as the pipeline passes it (`bodyAt2`), and its wholeness. -/
abbrev ms2_0 (t : Fin cfg2.N) : Memref sig .tc .vmem S128x1x8x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x1x8x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x1x8x16 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x1x8x16 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S16x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x1x8x128 .f32 := win2_5.stage (cfg2.slots t 5)
abbrev hs2_5 (t : Fin cfg2.N) : (ms2_5 t).IsWhole := hstage2_5 ((cfg2.slots t 5).cast nbuf2_5)
/-- The scratch operands: whole scoped buffers of the kernel's own, passed beside the windows. -/
abbrev scM2_0 : Memref sig .tc .vmem S8x2048 .f32 := Memref.whole cc2_scratch0
abbrev scM2_1 : Memref sig .tc .vmem S128x8x2048 .f32 := Memref.whole cc2_scratch1
abbrev scM2_2 : Memref sig .tc .vmem S128x8x2048 .f32 := Memref.whole cc2_scratch2

/-- `Gen.scopedRest2_split` as ONE chain: the kernel's own scratch buffers, each whole at some contents, then every
    other scoped buffer, unopened (`Pipeline.scopedRestBut`). -/
theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_scratch2), ((c : Thread nD τ).loc cc2_scratch2) ↦{fullShare} f) ∗ Pipeline.scopedRestBut spec2 c [cc2_scratch0, cc2_scratch1, cc2_scratch2]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest2_split, assoc, assoc]

/-- The region's invariant with the scratch operands as memrefs owned at some contents: what the body obligation
    hands the run and takes back. -/
theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ (∃ d, owns (c : Thread nD τ) scM2_2 fullShare d) ∗ Pipeline.scopedRestBut spec2 c [cc2_scratch0, cc2_scratch1, cc2_scratch2]) ∗ (∃ r, prngReg c r)) := by
  unfold Pipeline.ΦA; rw [scopedRest2_flat]; simp only [scM2_0, scM2_1, scM2_2, owns_whole]; try rfl

/-! ## What the body leaves, as functions of the blocks and of the states found in the scratch -/

abbrev rH0 : Rect S8x2048 := Rect.unit (s := S8x2048) ![0, 0] S8x128.size inb_S8x2048_S8x128_0_0
abbrev rH1 : Rect S8x2048 := Rect.unit (s := S8x2048) ![0, 128] S8x128.size inb_S8x2048_S8x128_0_128
abbrev rH2 : Rect S8x2048 := Rect.unit (s := S8x2048) ![0, 256] S8x128.size inb_S8x2048_S8x128_0_256
abbrev rH3 : Rect S8x2048 := Rect.unit (s := S8x2048) ![0, 384] S8x128.size inb_S8x2048_S8x128_0_384
abbrev rH4 : Rect S8x2048 := Rect.unit (s := S8x2048) ![0, 512] S8x128.size inb_S8x2048_S8x128_0_512
abbrev rH5 : Rect S8x2048 := Rect.unit (s := S8x2048) ![0, 640] S8x128.size inb_S8x2048_S8x128_0_640
abbrev rH6 : Rect S8x2048 := Rect.unit (s := S8x2048) ![0, 768] S8x128.size inb_S8x2048_S8x128_0_768
abbrev rH7 : Rect S8x2048 := Rect.unit (s := S8x2048) ![0, 896] S8x128.size inb_S8x2048_S8x128_0_896
abbrev rH8 : Rect S8x2048 := Rect.unit (s := S8x2048) ![0, 1024] S8x128.size inb_S8x2048_S8x128_0_1024
abbrev rH9 : Rect S8x2048 := Rect.unit (s := S8x2048) ![0, 1152] S8x128.size inb_S8x2048_S8x128_0_1152
abbrev rH10 : Rect S8x2048 := Rect.unit (s := S8x2048) ![0, 1280] S8x128.size inb_S8x2048_S8x128_0_1280
abbrev rH11 : Rect S8x2048 := Rect.unit (s := S8x2048) ![0, 1408] S8x128.size inb_S8x2048_S8x128_0_1408
abbrev rH12 : Rect S8x2048 := Rect.unit (s := S8x2048) ![0, 1536] S8x128.size inb_S8x2048_S8x128_0_1536
abbrev rH13 : Rect S8x2048 := Rect.unit (s := S8x2048) ![0, 1664] S8x128.size inb_S8x2048_S8x128_0_1664
abbrev rH14 : Rect S8x2048 := Rect.unit (s := S8x2048) ![0, 1792] S8x128.size inb_S8x2048_S8x128_0_1792
abbrev rH15 : Rect S8x2048 := Rect.unit (s := S8x2048) ![0, 1920] S8x128.size inb_S8x2048_S8x128_0_1920
abbrev rHw : Rect S8x2048 := Rect.unit (s := S8x2048) ![0, 0] S8x2048.size inb_S8x2048_S8x2048_0_0
abbrev rEw : Rect S128x8x2048 := Rect.unit (s := S128x8x2048) ![0, 0, 0] S128x8x2048.size inb_S128x8x2048_S128x8x2048_0_0_0
abbrev rMw : Rect S16x2048 := Rect.unit (s := S16x2048) ![0, 0] S16x2048.size inb_S16x2048_S16x2048_0_0
abbrev rBw : Rect S128x1x8x16 := Rect.unit (s := S128x1x8x16) ![0, 0, 0, 0] S128x1x8x16.size inb_S128x1x8x16_S128x1x8x16_0_0_0_0

/-- B, each column repeated over a block of channels. -/
def bexp (x4 : Vec F S16x2048 .f32) (x2 : Vec F S128x1x8x16 .f32) : Vec F S128x8x2048 .f32 :=
  View.canon [⟨rEw, k2_pay222 (View.ld x4 rMw) (View.ld x2 rBw)⟩]
/-- C, each column repeated over a block of channels. -/
def cexp (x4 : Vec F S16x2048 .f32) (x3 : Vec F S128x1x8x16 .f32) : Vec F S128x8x2048 .f32 :=
  View.canon [⟨rEw, k2_pay223 (View.ld x4 rMw) (View.ld x3 rBw)⟩]
/-- The scratch of states at the start of a row of time. -/
def hzero : Vec F S8x2048 .f32 := View.canon [⟨rHw, k2_pay220 (F := F)⟩]
/-- The sixteen states held in the scratch. -/
def hinit (hs : Vec F S8x2048 .f32) : St F :=
  (View.ld hs rH0, View.ld hs rH1, View.ld hs rH2, View.ld hs rH3, View.ld hs rH4, View.ld hs rH5, View.ld hs rH6, View.ld hs rH7, View.ld hs rH8, View.ld hs rH9, View.ld hs rH10, View.ld hs rH11, View.ld hs rH12, View.ld hs rH13, View.ld hs rH14, View.ld hs rH15)
/-- The sixteen columns' stores, last first, after the stores `T`. -/
abbrev hcols (st : St F) (T : List (View.Piece (Elt F) S8x2048 .f32)) : List (View.Piece (Elt F) S8x2048 .f32) :=
  ⟨rH15, k2_pay3 (st.2.2.2.2.2.2.2.2.2.2.2.2.2.2.2)⟩ :: ⟨rH14, k2_pay2 (st.2.2.2.2.2.2.2.2.2.2.2.2.2.2.1)⟩ :: ⟨rH13, k2_pay1 (st.2.2.2.2.2.2.2.2.2.2.2.2.2.1)⟩ :: ⟨rH12, k2_pay238 (st.2.2.2.2.2.2.2.2.2.2.2.2.1)⟩ :: ⟨rH11, k2_pay237 (st.2.2.2.2.2.2.2.2.2.2.2.1)⟩ :: ⟨rH10, k2_pay236 (st.2.2.2.2.2.2.2.2.2.2.1)⟩ :: ⟨rH9, k2_pay235 (st.2.2.2.2.2.2.2.2.2.1)⟩ :: ⟨rH8, k2_pay234 (st.2.2.2.2.2.2.2.2.1)⟩ :: ⟨rH7, k2_pay233 (st.2.2.2.2.2.2.2.1)⟩ :: ⟨rH6, k2_pay232 (st.2.2.2.2.2.2.1)⟩ :: ⟨rH5, k2_pay231 (st.2.2.2.2.2.1)⟩ :: ⟨rH4, k2_pay230 (st.2.2.2.2.1)⟩ :: ⟨rH3, k2_pay229 (st.2.2.2.1)⟩ :: ⟨rH2, k2_pay228 (st.2.2.1)⟩ :: ⟨rH1, k2_pay227 (st.2.1)⟩ :: ⟨rH0, k2_pay226 (st.1)⟩ :: T
/-- Sixteen states as the scratch holds them. -/
def hstore (st : St F) : Vec F S8x2048 .f32 :=
  View.canon (hcols st [])
/-- The states and pieces after the body's loop. -/
def run2 (x0 x1 : Vec F S128x1x8x128 .f32) (x2 x3 : Vec F S128x1x8x16 .f32) (x4 : Vec F S16x2048 .f32) (hs : Vec F S8x2048 .f32) :=
  loopSt x0 x1 (bexp x4 x2) (cexp x4 x3) (hinit hs) k2_t1_loop.trips
/-- The output block. -/
def out2_5 (x0 x1 : Vec F S128x1x8x128 .f32) (x2 x3 : Vec F S128x1x8x16 .f32) (x4 : Vec F S16x2048 .f32) (hs : Vec F S8x2048 .f32) : Vec F S128x1x8x128 .f32 :=
  View.canon (run2 x0 x1 x2 x3 x4 hs).2
/-- The scratch of states afterwards. -/
def hstep (x0 x1 : Vec F S128x1x8x128 .f32) (x2 x3 : Vec F S128x1x8x16 .f32) (x4 : Vec F S16x2048 .f32) (hs : Vec F S8x2048 .f32) : Vec F S8x2048 .f32 :=
  hstore (run2 x0 x1 x2 x3 x4 hs).1

/-- The whole-array store covers. -/
theorem coverE (p0 : Vec F S128x8x2048 .f32) (y : S128x8x2048.Idx) :
    ∃ pc ∈ ([⟨rEw, p0⟩] : List (View.Piece (Elt F) S128x8x2048 .f32)), y ∈ pc.1.set :=
  View.cover_of_tiled [⟨rEw, p0⟩] S128x8x2048.size (by rfl) y
/-- The sixteen columns cover the scratch. -/
theorem coverH (p0 p1 p2 p3 p4 p5 p6 p7 p8 p9 p10 p11 p12 p13 p14 p15 : Vec F S8x128 .f32) (y : S8x2048.Idx) :
    ∃ pc ∈ ([⟨rH15, p15⟩, ⟨rH14, p14⟩, ⟨rH13, p13⟩, ⟨rH12, p12⟩, ⟨rH11, p11⟩, ⟨rH10, p10⟩, ⟨rH9, p9⟩, ⟨rH8, p8⟩, ⟨rH7, p7⟩, ⟨rH6, p6⟩, ⟨rH5, p5⟩, ⟨rH4, p4⟩, ⟨rH3, p3⟩, ⟨rH2, p2⟩, ⟨rH1, p1⟩, ⟨rH0, p0⟩] : List (View.Piece (Elt F) S8x2048 .f32)), y ∈ pc.1.set :=
  View.cover_of_tiled [⟨rH15, p15⟩, ⟨rH14, p14⟩, ⟨rH13, p13⟩, ⟨rH12, p12⟩, ⟨rH11, p11⟩, ⟨rH10, p10⟩, ⟨rH9, p9⟩, ⟨rH8, p8⟩, ⟨rH7, p7⟩, ⟨rH6, p6⟩, ⟨rH5, p5⟩, ⟨rH4, p4⟩, ⟨rH3, p3⟩, ⟨rH2, p2⟩, ⟨rH1, p1⟩, ⟨rH0, p0⟩] S8x128.size (by rfl) y
/-- An index covered by later writes reads the same whatever was written before them. -/
theorem canon_append {s : Shape} {e : EltTy} (T : List (View.Piece (Elt F) s e)) (y : s.Idx) :
    ∀ L : List (View.Piece (Elt F) s e), (∃ p ∈ L, y ∈ p.1.set) → View.canon (L ++ T) y = View.canon L y
  | [], h => by obtain ⟨_, hm, _⟩ := h; exact absurd hm List.not_mem_nil
  | p :: L, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · have hL : ∃ p' ∈ L, y ∈ p'.1.set := by
        obtain ⟨p', hm, hy'⟩ := h
        rcases List.mem_cons.mp hm with rfl | hm
        · exact absurd hy' hy
        · exact ⟨p', hm, hy'⟩
      rw [List.cons_append, View.canon_cons_of_not_mem p _ hy, View.canon_cons_of_not_mem p L hy]
      exact canon_append T y L hL
/-- The sixteen columns stored, whatever the scratch was written before: the buffer reads as `hstore`. -/
theorem read_hstore {sig' : RefSig} {κ : Kind} {sp : Space} (v : View sig' κ sp S8x2048 .f32) (f : v.ty.Contents (Elt F)) (st st' : St F)
    (T : List (View.Piece (Elt F) S8x2048 .f32)) (h : st' = st) :
    v.read (Elt F) (v.writes (Elt F) f (hcols st' T)) = hstore st := by
  subst h
  have hc (y) : ∃ p ∈ hcols st' [], y ∈ p.1.set := coverH _ _ _ _ _ _ _ _ _ _ _ _ _ _ _ _ y
  refine (View.read_writes_eq_canon v f (hcols st' [] ++ T) ?_).trans ?_
  · intro y
    obtain ⟨p, hp, hy⟩ := hc y
    exact ⟨p, List.mem_append_left T hp, hy⟩
  · exact funext fun y => canon_append T y _ (hc y)
/-- The same with the states as the first half of what the loop carries. -/
theorem read_hstore2 {sig' : RefSig} {κ : Kind} {sp : Space} (v : View sig' κ sp S8x2048 .f32) (f : v.ty.Contents (Elt F)) (z z' : St F × List (View.Piece (Elt F) S128x1x8x128 .f32))
    (T : List (View.Piece (Elt F) S8x2048 .f32)) (h : z' = z) :
    v.read (Elt F) (v.writes (Elt F) f (hcols z'.1 T)) = hstore z.1 :=
  read_hstore v f z.1 z'.1 T (by rw [h])

/-- The loop's pieces tile the output block. -/
theorem coverY (p d : Vec F S128x1x8x128 .f32) (be ce : Vec F S128x8x2048 .f32) (init : St F) (y : S128x1x8x128.Idx) :
    ∃ pc ∈ (loopSt p d be ce init k2_t1_loop.trips).2, y ∈ pc.1.set :=
  View.cover_of_tiledL (loopSt p d be ce init k2_t1_loop.trips).2 S1x1x8x128.size (by sl_kernel_rfl) y

/-- The store of zeros covers the scratch. -/
theorem coverZ (p0 : Vec F S8x2048 .f32) (y : S8x2048.Idx) :
    ∃ pc ∈ ([⟨rHw, p0⟩] : List (View.Piece (Elt F) S8x2048 .f32)), y ∈ pc.1.set :=
  View.cover_of_tiled [⟨rHw, p0⟩] S8x2048.size (by rfl) y

theorem loopSt_congr {p p' d d' : Vec F S128x1x8x128 .f32} {be be' ce ce' : Vec F S128x8x2048 .f32} {init init' : St F} (k : ℕ)
    (hp : p = p') (hd : d = d') (hb : be = be') (hc : ce = ce') (hi : init = init') :
    loopSt p d be ce init k = loopSt p' d' be' ce' init' k := by subst hp hd hb hc hi; rfl

/-- The states read back after the store of zeros. -/
theorem hinit_zero (a0 a1 a2 a3 a4 a5 a6 a7 a8 a9 a10 a11 a12 a13 a14 a15 : Vec F S8x128 .f32)
    (e0 : a0 = View.ld hzero rH0) (e1 : a1 = View.ld hzero rH1) (e2 : a2 = View.ld hzero rH2) (e3 : a3 = View.ld hzero rH3) (e4 : a4 = View.ld hzero rH4) (e5 : a5 = View.ld hzero rH5) (e6 : a6 = View.ld hzero rH6) (e7 : a7 = View.ld hzero rH7) (e8 : a8 = View.ld hzero rH8) (e9 : a9 = View.ld hzero rH9) (e10 : a10 = View.ld hzero rH10) (e11 : a11 = View.ld hzero rH11) (e12 : a12 = View.ld hzero rH12) (e13 : a13 = View.ld hzero rH13) (e14 : a14 = View.ld hzero rH14) (e15 : a15 = View.ld hzero rH15) :
    ((a0, a1, a2, a3, a4, a5, a6, a7, a8, a9, a10, a11, a12, a13, a14, a15) : St F) = hinit hzero := by
  subst e0 e1 e2 e3 e4 e5 e6 e7 e8 e9 e10 e11 e12 e13 e14 e15; rfl

/-! ## The body's triple -/

section
variable (c : Dev nD) (E : Set ℕ) (i : grid2.Coords) (arg2 : Memref sig .tc .vmem S128x1x8x128 .f32) (harg2 : arg2.IsWhole) (arg3 : Memref sig .tc .vmem S128x1x8x128 .f32) (harg3 : arg3.IsWhole) (arg4 : Memref sig .tc .vmem S128x1x8x16 .f32) (harg4 : arg4.IsWhole) (arg5 : Memref sig .tc .vmem S128x1x8x16 .f32) (harg5 : arg5.IsWhole) (arg6 : Memref sig .tc .vmem S16x2048 .f32) (harg6 : arg6.IsWhole) (arg7 : Memref sig .tc .vmem S128x1x8x128 .f32) (harg7 : arg7.IsWhole) (arg8 : Memref sig .tc .vmem S8x2048 .f32) (harg8 : arg8.IsWhole) (arg9 : Memref sig .tc .vmem S128x8x2048 .f32) (harg9 : arg9.IsWhole) (arg10 : Memref sig .tc .vmem S128x8x2048 .f32) (harg10 : arg10.IsWhole)

set_option maxHeartbeats 1000000 in
/-- The body at the first block of time: the inputs stay, the output block and the scratch of states end at their closed forms. -/
theorem sound_kernel2_A (hc0 : cond2_0 i)
    (x0 x1 : Vec F S128x1x8x128 .f32) (x2 x3 : Vec F S128x1x8x16 .f32) (x4 : Vec F S16x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out2_5 x0 x1 x2 x3 x4 hzero) ∗ owns (c : Thread nD τ) arg8 fullShare (hstep x0 x1 x2 x3 x4 hzero) ∗ (∃ d, owns (c : Thread nD τ) arg9 fullShare d) ∗ (∃ d, owns (c : Thread nD τ) arg10 fullShare d)) -∗ K ⟨⟩))
      ⊢ wp frame (wpE (defs₀ (F := F)) Variants.none c none) E (cc2_vim_scan i arg2 harg2 arg3 harg3 arg4 harg4 arg5 harg5 arg6 harg6 arg7 harg7 arg8 harg8 arg9 harg9 arg10 harg10) K := by
  simp only [cc2_vim_scan_eq_skeleton]; unfold cc2_vim_scan_skel
  simp only [k2_part12_eq_skeleton, k2_part13_eq_skeleton, k2_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
  subst hf0 hf1 hf2 hf3 hf4
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [st_eq]
    refine (View.read_writes_eq_canon _ _ _ (coverY _ _ _ _ _)).trans ?_
    unfold out2_5 run2
    refine congrArg (fun z : St F × List (View.Piece (Elt F) S128x1x8x128 .f32) => View.canon z.2) (loopSt_congr _ rfl rfl ?_ ?_ ?_)
    · exact View.read_writes_eq_canon _ _ _ (coverE _)
    · exact View.read_writes_eq_canon _ _ _ (coverE _)
    · apply hinit_zero (F := F) <;> exact View.readCov_eq_canon_ld (Val := Elt F) _ _ _ (coverZ (F := F) _)
  isplitl [HS0]
  · iexists _; isplitr
    swap; · iexact HS0
    ipureintro
    refine read_hstore2 _ _ _ _ _ ?_
    rw [st_eq]
    unfold run2
    refine loopSt_congr _ rfl rfl ?_ ?_ ?_
    · exact View.read_writes_eq_canon _ _ _ (coverE (F := F) _)
    · exact View.read_writes_eq_canon _ _ _ (coverE (F := F) _)
    · apply hinit_zero (F := F) <;> exact View.readCov_eq_canon_ld (Val := Elt F) _ _ _ (coverZ (F := F) _)
  isplitl [HS1]
  · iexists _, _; isplitr; swap; · iexact HS1
    ipureintro; rfl
  iexists _, _; isplitr; swap; · iexact HS2
  ipureintro; rfl

set_option maxHeartbeats 1000000 in
/-- The body at a later block of time: the inputs stay, the output block and the scratch of states end at their closed forms. -/
theorem sound_kernel2_B (hc0 : ¬cond2_0 i)
    (x0 x1 : Vec F S128x1x8x128 .f32) (x2 x3 : Vec F S128x1x8x16 .f32) (x4 : Vec F S16x2048 .f32) (hs : Vec F S8x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare hs ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out2_5 x0 x1 x2 x3 x4 hs) ∗ owns (c : Thread nD τ) arg8 fullShare (hstep x0 x1 x2 x3 x4 hs) ∗ (∃ d, owns (c : Thread nD τ) arg9 fullShare d) ∗ (∃ d, owns (c : Thread nD τ) arg10 fullShare d)) -∗ K ⟨⟩))
      ⊢ wp frame (wpE (defs₀ (F := F)) Variants.none c none) E (cc2_vim_scan i arg2 harg2 arg3 harg3 arg4 harg4 arg5 harg5 arg6 harg6 arg7 harg7 arg8 harg8 arg9 harg9 arg10 harg10) K := by
  simp only [cc2_vim_scan_eq_skeleton]; unfold cc2_vim_scan_skel
  simp only [k2_part12_eq_skeleton, k2_part13_eq_skeleton, k2_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%ds2, %fs2, -, HS2⟩, Hk⟩
  subst hf0 hf1 hf2 hf3 hf4 hfs0
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [st_eq]
    refine (View.read_writes_eq_canon _ _ _ (coverY _ _ _ _ _)).trans ?_
    unfold out2_5 run2
    refine congrArg (fun z : St F × List (View.Piece (Elt F) S128x1x8x128 .f32) => View.canon z.2) (loopSt_congr _ rfl rfl ?_ ?_ ?_)
    · exact View.read_writes_eq_canon _ _ _ (coverE _)
    · exact View.read_writes_eq_canon _ _ _ (coverE _)
    · rfl
  isplitl [HS0]
  · iexists _; isplitr
    swap; · iexact HS0
    ipureintro
    refine read_hstore2 _ _ _ _ _ ?_
    rw [st_eq]
    unfold run2
    refine loopSt_congr _ rfl rfl ?_ ?_ ?_
    · exact View.read_writes_eq_canon _ _ _ (coverE (F := F) _)
    · exact View.read_writes_eq_canon _ _ _ (coverE (F := F) _)
    · rfl
  isplitl [HS1]
  · iexists _, _; isplitr; swap; · iexact HS1
    ipureintro; rfl
  iexists _, _; isplitr; swap; · iexact HS2
  ipureintro; rfl

end

/-! ## The scratch of states, point by point -/

/-- The scratch of states after the body at position `n`: the states it finds there (zero at the first block of time, else
    what the point before left) taken on through the point's blocks. -/
def hAt2 (c : Dev nD) : (n : ℕ) → n < cfg2.N → Vec F S8x2048 .f32
  | 0, hn => hstep (iblk2 V c 0 ⟨0, hn⟩) (iblk2 V c 1 ⟨0, hn⟩) (iblk2 V c 2 ⟨0, hn⟩) (iblk2 V c 3 ⟨0, hn⟩) (iblk2 V c 4 ⟨0, hn⟩) hzero
  | n + 1, hn => hstep (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (if (n + 1) % 4 = 0 then hzero else hAt2 c n (Nat.lt_of_succ_lt hn))

/-- The states the body at position `n` starts from. -/
def hIn2 (c : Dev nD) : (n : ℕ) → n < cfg2.N → Vec F S8x2048 .f32
  | 0, _ => hzero
  | n + 1, hn => if (n + 1) % 4 = 0 then hzero else hAt2 V c n (Nat.lt_of_succ_lt hn)

theorem hAt2_eq (c : Dev nD) (t : Fin cfg2.N) : hAt2 V c t.val t.isLt = hstep (iblk2 V c 0 t) (iblk2 V c 1 t) (iblk2 V c 2 t) (iblk2 V c 3 t) (iblk2 V c 4 t) (hIn2 V c t.val t.isLt) := by
  obtain ⟨n, hn⟩ := t
  cases n <;> rfl

theorem hIn2_A (c : Dev nD) (t : Fin cfg2.N) (h0 : t.val % 4 = 0) : hIn2 V c t.val t.isLt = hzero := by
  obtain ⟨n, hn⟩ := t
  cases n with
  | zero => rfl
  | succ n => exact if_pos h0

/-- The invariant between points: the scratch of states holds what the point before left, where the point ahead reads it;
    the other scratch buffers, the rest of the scope and the generator register are held at anything. -/
def Phi2 (c : Dev nD) (n : ℕ) : sProp 𝕄 :=
  iprop(iprop((∃ d, ⌜∀ (k : ℕ) (hk : k < cfg2.N), n = k + 1 → ¬ n % 4 = 0 → d = hAt2 V c k hk⌝ ∗ owns (c : Thread nD τ) scM2_0 fullShare d) ∗ (∃ d, owns (c : Thread nD τ) scM2_1 fullShare d) ∗ (∃ d, owns (c : Thread nD τ) scM2_2 fullShare d) ∗ Pipeline.scopedRestBut spec2 c [cc2_scratch0, cc2_scratch1, cc2_scratch2]) ∗ (∃ r, prngReg c r))

/-- Where the point ahead does not read the states, the invariant asks nothing of the scratch. -/
theorem Phi2_of (c : Dev nD) (n : ℕ) (h : n % 4 = 0) : (Pipeline.ΦA spec2 c : sProp 𝕄) ⊢ Phi2 V c n := by
  rw [PhiA2_eq]; unfold Phi2
  iintro ⟨⟨⟨%d0, HS0⟩, HS1, HS2, HR⟩, Hg⟩
  isplitl [HS0 HS1 HS2 HR]
  · isplitl [HS0]
    · iexists d0; isplitr
      · ipureintro; exact fun _ _ _ h' => absurd h h'
      iexact HS0
    isplitl [HS1]; · iexact HS1
    isplitl [HS2]; · iexact HS2
    iexact HR
  iexact Hg

/-- The invariant gives up what it knows of the scratch. -/
theorem Phi2_to (c : Dev nD) (n : ℕ) : Phi2 V c n ⊢ (Pipeline.ΦA spec2 c : sProp 𝕄) := by
  rw [PhiA2_eq]; unfold Phi2
  iintro ⟨⟨⟨%d0, -, HS0⟩, HS1, HS2, HR⟩, Hg⟩
  isplitl [HS0 HS1 HS2 HR]
  · isplitl [HS0]; · iexists d0; iexact HS0
    isplitl [HS1]; · iexact HS1
    isplitl [HS2]; · iexact HS2
    iexact HR
  iexact Hg

/-! ## The pipeline's proof data -/

/-- The proof data of the scan's pipeline on core `c`: the arrays as the region finds them; after the body at point `t`
    each input's buffer at its block and the output's at the closed form. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t) (hIn2 V c t.val t.isLt)
  Φ t := Phi2 V c t.val
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) (hIn2 V c t.val t.isLt) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

/-- Past the first block of time the states found are those the point before left. -/
theorem hIn2_B (c : Dev nD) (t : Fin cfg2.N) (h0 : ¬ t.val % 4 = 0) {d : Vec F S8x2048 .f32}
    (hd : ∀ (k : ℕ) (hk : k < cfg2.N), t.val = k + 1 → ¬ t.val % 4 = 0 → d = hAt2 V c k hk) : d = hIn2 V c t.val t.isLt := by
  obtain ⟨n, hn⟩ := t
  cases n with
  | zero => exact absurd (Nat.zero_mod _) h0
  | succ n => exact (hd n (Nat.lt_of_succ_lt hn) rfl h0).trans (if_neg h0).symm

set_option maxHeartbeats 1600000 in
/-- The body at any point: the inputs' memrefs hold their blocks; whether the point is the first of its row of time says
    which triple applies; the invariant hands over the scratch of states and takes it back taken on. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = Phi2 V c (t.val + 1) from rfl,
    show (dat2 V c).owesAt () t.succ = (dat2 V c).owesAt () t.castSucc from rfl,
    after2_0, after2_1, after2_2, after2_3, after2_4, after2_5]
  rw [show (dat2 V c).Φ t.castSucc = Phi2 V c t.val from rfl]
  unfold Phi2
  by_cases h0 : t.val % 4 = 0
  · skip
    iintro ⟨⟨⟨⟨%e0, %he0, HS0⟩, HS1, HS2, HR3⟩, Hg⟩, Ho, ⟨%d0, H0⟩, ⟨%d1, H1⟩, ⟨%d2, H2⟩, ⟨%d3, H3⟩, ⟨%d4, H4⟩, ⟨%d5, H5⟩⟩
    rw [hIn2_A V c t h0]
    iapply (sound_kernel2_A c Set.univ (grid2.coords t) _ _ _ _ _ _ _ _ _ _ _ _ _ _ _ _ _ _ ((hcond2_0 t).mpr h0) (iblk2 V c 0 t) (iblk2 V c 1 t) (iblk2 V c 2 t) (iblk2 V c 3 t) (iblk2 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexact HS1
    isplitl [HS2]; · iexact HS2
    iintro ⟨H0, H1, H2, H3, H4, H5, HS0, HS1, HS2⟩
    isplitl [HS0 HS1 HS2 HR3 Hg]
    · isplitl [HS0 HS1 HS2 HR3]
      · isplitl [HS0]
        · iexists _; isplitr
          swap; · iexact HS0
          ipureintro
          intro k hk hk1 _
          obtain rfl : k = t.val := (Nat.succ.inj hk1).symm
          exact ((hAt2_eq V c t).trans (congrArg _ (hIn2_A V c t h0))).symm
        isplitl [HS1]
        · iexact HS1
        isplitl [HS2]
        · iexact HS2
        iexact HR3
      iexact Hg
    isplitl [Ho]; · iexact Ho
    isplitl [H0]; · iexact H0
    isplitl [H1]; · iexact H1
    isplitl [H2]; · iexact H2
    isplitl [H3]; · iexact H3
    isplitl [H4]; · iexact H4
    iexact H5
  · skip
    iintro ⟨⟨⟨⟨%e0, %he0, HS0⟩, HS1, HS2, HR3⟩, Hg⟩, Ho, ⟨%d0, H0⟩, ⟨%d1, H1⟩, ⟨%d2, H2⟩, ⟨%d3, H3⟩, ⟨%d4, H4⟩, ⟨%d5, H5⟩⟩
    obtain rfl : e0 = hIn2 V c t.val t.isLt := hIn2_B V c t h0 he0
    iapply (sound_kernel2_B c Set.univ (grid2.coords t) _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) _ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 HR3 Hg]
    · isplitl [HS0 HS1 HS2 HR3]
      · isplitl [HS0]
        · iexists _; isplitr
          swap; · iexact HS0
          ipureintro
          intro k hk hk1 _
          obtain rfl : k = t.val := (Nat.succ.inj hk1).symm
          exact ((hAt2_eq V c t).trans (congrArg _ rfl)).symm
        isplitl [HS1]
        · iexact HS1
        isplitl [HS2]
        · iexact HS2
        iexact HR3
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Whole

end
-- ==== Proof.KI.Region3.lean ====
/- Call 3 (the gate and the output projection) as a region: what its body leaves in its output block, and the
   obligation of one grid point, at the contents `V` the region is entered with. -/
module

public import proofs.«01_k».proof.Proof.Gen.KernelIdeal.Launch
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_vim_c_out` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's staging buffer holds its block at every point, fetched there or not. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S512x1x1x2048 := Rect.unit (s := S512x1x1x2048) ![0, 0, 0, 0] S512x1x1x2048.size inb_S512x1x1x2048_S512x1x1x2048_0_0_0_0
abbrev r3_1 : Rect S512x512 := Rect.unit (s := S512x512) ![0, 0] S512x512.size inb_S512x512_S512x512_0_0
abbrev r3_2 : Rect S1024x2048 := Rect.unit (s := S1024x2048) ![0, 0] S1024x2048.size inb_S1024x2048_S1024x2048_0_0
abbrev r3_3 : Rect S1x512x1024 := Rect.unit (s := S1x512x1024) ![0, 0, 0] S1x512x1024.size inb_S1x512x1024_S1x512x1024_0_0_0

/-! ## What the body leaves in each output window's buffer -/

/-- Window 6's staging buffer after the body, from the input windows' blocks: its 1 store as pieces, LAST
    FIRST. -/
def out3_6 (x0 : Vec F S512x1x1x2048 .f32) (x1 : Vec F S512x1x1x2048 .f32) (x2 : Vec F S512x1x1x2048 .f32) (x3 : Vec F S512x1x1x2048 .f32) (x4 : Vec F S512x512 .f32) (x5 : Vec F S1024x2048 .f32) : Vec F S1x512x1024 .f32 :=
  View.canon [⟨r3_3, k3_pay1 (Scalar.ofBits .f32 0xBF800000#32) (Scalar.ofBits .f32 0x3F800000#32) (k3_pay2 (View.ld x0 r3_0) (View.ld x4 r3_1) (View.ld x1 r3_0) (View.ld x2 r3_0) (View.ld x3 r3_0) (View.ld x5 r3_2))⟩]

/-- Its stores tile the buffer (checked by evaluation), so they cover it. -/
theorem cover3_6 (p0 : Vec F S1x512x1024 .f32) (y : S1x512x1024.Idx) :
    ∃ pc ∈ ([⟨r3_3, p0⟩] : List (View.Piece (Elt F) S1x512x1024 .f32)), y ∈ pc.1.set :=
  View.cover_of_tiled [⟨r3_3, p0⟩] S1x512x1024.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs, through every part call. -/
theorem sound_kernel3 (c : Dev nD) (E : Set ℕ) (i : grid3.Coords) (arg1 : Memref sig .tc .vmem S512x1x1x2048 .f32) (harg1 : arg1.IsWhole) (arg2 : Memref sig .tc .vmem S512x1x1x2048 .f32) (harg2 : arg2.IsWhole) (arg3 : Memref sig .tc .vmem S512x1x1x2048 .f32) (harg3 : arg3.IsWhole) (arg4 : Memref sig .tc .vmem S512x1x1x2048 .f32) (harg4 : arg4.IsWhole) (arg5 : Memref sig .tc .vmem S512x512 .f32) (harg5 : arg5.IsWhole) (arg6 : Memref sig .tc .vmem S1024x2048 .f32) (harg6 : arg6.IsWhole) (arg7 : Memref sig .tc .vmem S1x512x1024 .f32) (harg7 : arg7.IsWhole)
    (x0 : Vec F S512x1x1x2048 .f32) (x1 : Vec F S512x1x1x2048 .f32) (x2 : Vec F S512x1x1x2048 .f32) (x3 : Vec F S512x1x1x2048 .f32) (x4 : Vec F S512x512 .f32) (x5 : Vec F S1024x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3_vim_c_out i arg1 harg1 arg2 harg2 arg3 harg3 arg4 harg4 arg5 harg5 arg6 harg6 arg7 harg7) K := by
  simp only [cc3_vim_c_out_eq_skeleton]; unfold cc3_vim_c_out_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: the arrays as the region finds them (`V`); after the body at
    point `t` each input's buffer at its block and each output's at `out3_W` of the input blocks; the invariant the
    class's; nothing owed;
    each input's share of its array
    (`Pipeline.shareOf`: the full share of an array several windows stage, dealt among them). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q w := Pipeline.shareOf spec3 w
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Whole

end
-- ==== Proof.KI.Hosts0.lean ====
/- The stretches of host operations: which buffers each writes, and that no argument is among them. -/
module

public import proofs.«01_k».proof.Proof.Gen.KernelIdeal.Launch
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_c, main_v25, main_v26, main_v27, main_v28, main_v29]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v32, main_v33, main_c_0, main_v34, main_v35, main_v36, main_v37, main_v38, main_v39, main_v40, main_v41, main_v42, main_v43]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v45]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

end Cert.KernelIdeal.Whole

end
-- ==== Proof.KI.Fold0.lean ====
/- The contents of the buffers at every boundary between the segments of @main, as a fold from the launch memory. -/
module

public import proofs.«01_k».proof.Proof.KI.Region0
public import proofs.«01_k».proof.Proof.KI.Region1
public import proofs.«01_k».proof.Proof.KI.Region2
public import proofs.«01_k».proof.Proof.KI.Region3
public import proofs.«01_k».proof.Proof.KI.Hosts0

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of `unscopedBufs_of_arrays_shared`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- At region 2's exit: its arrays at what the pipeline leaves (the inputs as entered, each output's write-backs
    folded: `Dat.arrAt … N`), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3` (region 3's entry). -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)
/-- The same read at the TensorCore's references (what region 3's proof data take). -/
abbrev V6 : (c : Dev nD) → (b : Ref sig .tc) → Buf (Elt F) ((c : Thread nD τ).loc b) := fun c b => W6 m ρ c b
/-- At region 3's exit: its arrays at what the pipeline leaves (the inputs as entered, each output's write-backs
    folded: `Dat.arrAt … N`), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact (dat3 (V6 m ρ) c).withArrays_arrAt launch₀3.sharedIn _ (A_eq3 (V6 m ρ) c) w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- A reference that is none of region 3's OUTPUT arrays keeps its entry contents across it: an input window's
    array is never written back (`Dat.arrAt_in`, `A_eq3`); any other buffer is left as is. -/
theorem W7_of (c : Dev nD) (r : Ref sig .tc) (h : ∀ w : Fin cfg3.W, Pipeline.arrRef spec3 w = r → (cfg3.win w).isOut = false) :
    W7 m ρ c (Proc.devRef .tc r) = W6 m ρ c (Proc.devRef .tc r) := by
  by_cases hw : ∃ w : Fin cfg3.W, Pipeline.arrRef spec3 w = r
  · obtain ⟨w, rfl⟩ := hw
    exact (W7_arr m ρ c w).trans (((dat3 (V6 m ρ) c).arrAt_in w (h w rfl) _).trans (A_eq3 (V6 m ρ) c w))
  · exact W7_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn3 a ha)).trans (W6_args m ρ c a ha)
/-- The same read at the TensorCore's references (region 3's exit contents). -/
abbrev V7 : (c : Dev nD) → (b : Ref sig .tc) → Buf (Elt F) ((c : Thread nD τ).loc b) := fun c b => W7 m ρ c b
/-- At region 3's exit each of its arrays holds what the pipeline leaves (`hF3`) and every other buffer what it
    held at entry (`hrest3`): the two hypotheses of `unscopedBufs_of_arrays_shared`. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
theorem W7_main_arg6 (c : Dev nD) : W7 m ρ c (Proc.devRef .tc main_arg6) = m ((c : Thread nD τ).loc main_arg6) :=
  W7_args m ρ c main_arg6 (by decide)
theorem W7_main_arg7 (c : Dev nD) : W7 m ρ c (Proc.devRef .tc main_arg7) = m ((c : Thread nD τ).loc main_arg7) :=
  W7_args m ρ c main_arg7 (by decide)
theorem W7_main_arg8 (c : Dev nD) : W7 m ρ c (Proc.devRef .tc main_arg8) = m ((c : Thread nD τ).loc main_arg8) :=
  W7_args m ρ c main_arg8 (by decide)
theorem W7_main_arg9 (c : Dev nD) : W7 m ρ c (Proc.devRef .tc main_arg9) = m ((c : Thread nD τ).loc main_arg9) :=
  W7_args m ρ c main_arg9 (by decide)
theorem W7_main_arg10 (c : Dev nD) : W7 m ρ c (Proc.devRef .tc main_arg10) = m ((c : Thread nD τ).loc main_arg10) :=
  W7_args m ρ c main_arg10 (by decide)
theorem W7_main_arg11 (c : Dev nD) : W7 m ρ c (Proc.devRef .tc main_arg11) = m ((c : Thread nD τ).loc main_arg11) :=
  W7_args m ρ c main_arg11 (by decide)
theorem W7_main_arg12 (c : Dev nD) : W7 m ρ c (Proc.devRef .tc main_arg12) = m ((c : Thread nD τ).loc main_arg12) :=
  W7_args m ρ c main_arg12 (by decide)
theorem W7_main_arg13 (c : Dev nD) : W7 m ρ c (Proc.devRef .tc main_arg13) = m ((c : Thread nD τ).loc main_arg13) :=
  W7_args m ρ c main_arg13 (by decide)
theorem W7_main_arg14 (c : Dev nD) : W7 m ρ c (Proc.devRef .tc main_arg14) = m ((c : Thread nD τ).loc main_arg14) :=
  W7_args m ρ c main_arg14 (by decide)
theorem W7_main_arg15 (c : Dev nD) : W7 m ρ c (Proc.devRef .tc main_arg15) = m ((c : Thread nD τ).loc main_arg15) :=
  W7_args m ρ c main_arg15 (by decide)
theorem W7_main_arg16 (c : Dev nD) : W7 m ρ c (Proc.devRef .tc main_arg16) = m ((c : Thread nD τ).loc main_arg16) :=
  W7_args m ρ c main_arg16 (by decide)
end Cert.KernelIdeal.Whole

end
-- ==== Proof.KI.State.lean ====
/- The proof data of the four pipelines and the thread state that rides through the segments. -/
module

public import proofs.«01_k».proof.Proof.KI.Fold0

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain of segments ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

end Cert.KernelIdeal.Whole

end
-- ==== Proof.KI.Record0.lean ====
/- Call 0 as a segment of @main. -/
module

public import proofs.«01_k».proof.Proof.KI.State

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KI.Record1.lean ====
/- Call 1 as a segment of @main. -/
module

public import proofs.«01_k».proof.Proof.KI.State

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KI.Record2.lean ====
/- Call 2 as a segment of @main. -/
module

public import proofs.«01_k».proof.Proof.KI.State

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Phi2 (V4 m ρ) c 0 from rfl]
    have hof : iprop(Pipeline.scopedRest spec2 c ∗ ∃ r, prngReg c r) ⊢ Phi2 (V4 m ρ) c 0 := Phi2_of (V4 m ρ) c 0 rfl
    iintro ⟨Hp, -, Hr⟩
    iapply hof
    isplitl [Hr]; · iexact Hr
    iexact Hp
  hout c := by
    rw [Pipeline.ownSems0_none, show (pdats m ρ 2 c).Φ (Fin.last _) = Phi2 (V4 m ρ) c (Fin.last (Pipeline.pin (pcfgs (F := F)) adm 2).N).val from rfl]
    have hto : Phi2 (V4 m ρ) c (Fin.last (Pipeline.pin (pcfgs (F := F)) adm 2).N).val ⊢ iprop(Pipeline.scopedRest spec2 c ∗ ∃ r, prngReg c r) := Phi2_to (V4 m ρ) c _
    iintro HΦ
    ihave H := hto $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KI.Record3.lean ====
/- Call 3 as a segment of @main. -/
module

public import proofs.«01_k».proof.Proof.KI.State

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W6`, left at `W7`
    (what the launch reads at the end). Its arrays split out of the unscoped buffers
    (`arrays_of_unscopedBufs_shared`) and put back at the exit contents (`unscopedBufs_of_arrays_shared`; its input windows on one array (`launch₀3.sharedIn`) each dealt their share of it, `Pipeline.shareOf`, by the proof data); the generator register into the
    class invariant `ΦA` and out; nothing owed; no semaphore of the kernel's own. -/
def reg3 : Pipeline.RegionSeg (pcfgs (F := F)) adm (pdats m ρ) () defs₀ 𝒱₀ L lv 3 where
  win := launch₀3.win
  block_pos := launch₀3.block_pos
  stage_whole := launch₀3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs_shared (p := 3) (pcfgs (F := F)) adm (pdats m ρ) launch₀3.win launch₀3.sharedIn launch₀3.arr_whole c
      (fun _ _ => rfl) (V6 m ρ c) (A_eq3 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays_shared (p := 3) (pcfgs (F := F)) adm (Ix := Unit) (Name := ℕ) (U := UR sig nD τ) (Lvl := ℕ)
      launch₀3.win launch₀3.sharedIn launch₀3.arr_whole c (pdats m ρ) (fun _ _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Whole

end
-- ==== Proof.KI.Run.lean ====
/- @main as seven segments, and its run: it terminates, the arguments end unchanged, and the buffers end at the
   contents of the last boundary. -/
module

public import proofs.«01_k».proof.Proof.KI.Record0
public import proofs.«01_k».proof.Proof.KI.Record1
public import proofs.«01_k».proof.Proof.KI.Record2
public import proofs.«01_k».proof.Proof.KI.Record3

@[expose] public section

-- membership in a rectangle of production extents (`View.cover_of_tiled`): the elaborator's structural look
-- recurses once per coordinate of the long axes
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: at the compiled mesh, from any memory with zero counters, every weakly fair execution of @main on the
    TensorCores terminates, nothing faulting, and every final state has the argument arrays as launched, the result
    buffer at the contents of the last boundary, and every semaphore counter of the machine at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_v46) = W7 m ρ c (Proc.devRef .tc main_v46))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨(h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       h c _ (mem_uc main_v46 (by decide))⟩), funext fun g => hz g (.inr (no_unscoped g.2))⟩)

/-- The frame: the argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun _ h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2.1, (h.1 c).2.2.2.2.2.2.2.2.2.2.2.1, (h.1 c).2.2.2.2.2.2.2.2.2.2.2.2.1, (h.1 c).2.2.2.2.2.2.2.2.2.2.2.2.2.1, (h.1 c).2.2.2.2.2.2.2.2.2.2.2.2.2.2.1, (h.1 c).2.2.2.2.2.2.2.2.2.2.2.2.2.2.2.1, (h.1 c).2.2.2.2.2.2.2.2.2.2.2.2.2.2.2.2.1⟩, h.2⟩) (run m ρ)

end Cert.KernelIdeal.Whole

end
-- ==== Proof.RI.Frame.lean ====
/- The reference's frame: it terminates, its arguments end unchanged and every semaphore counter is zero. -/
module

public import proofs.«01_k».proof.Proof.Gen.ReferenceIdeal.Run

@[expose] public section

set_option maxRecDepth 16384

noncomputable section

namespace Cert.ReferenceIdeal.Whole

open Cert.ReferenceIdeal Cert.ReferenceIdeal.Gen Cert.ReferenceIdeal.Value
open Idealize.ShloMosaic Idealize.ShloMosaic.TcCoe
open Idealize.SL.Sem
open Idealize.ShloMosaic.StableHlo

variable {F : FTy → Type} [FloatOps F]

/-- The buffers that the stretch writes, in order. -/
abbrev post17_W : List (Ref sig .tc) := [main_v126, main_v127, main_v128, main_v129, main_v130, main_v131, main_v132, main_v133, main_v134, main_v135, main_v136]
theorem post17_writes : (hostOps0_17 : List (HloOp τ sig (Elt F))).Forall fun op => op.writes ⊆ (post17_W.map (Proc.devRef (τ := τ) .tc)).toFinset :=
  StableHlo.forall_writes_sub_of_map rfl
/-- The buffers that the stretch writes, in order. -/
abbrev post18_W : List (Ref sig .tc) := [main_call13_v0, main_call13_v1, main_call13_cst, main_call13_v2, main_call13_v3, main_call13_cst_0, main_call13_v4, main_call13_v5, main_v137]
theorem post18_writes : (hostOps0_18 : List (HloOp τ sig (Elt F))).Forall fun op => op.writes ⊆ (post18_W.map (Proc.devRef (τ := τ) .tc)).toFinset :=
  StableHlo.forall_writes_sub_of_map rfl
/-- The buffers that the stretch writes, in order. -/
abbrev post19_W : List (Ref sig .tc) := [main_v138, main_v139, main_v140, main_cst_11, main_cst_12, main_cst_13]
theorem post19_writes : (hostOps0_19 : List (HloOp τ sig (Elt F))).Forall fun op => op.writes ⊆ (post19_W.map (Proc.devRef (τ := τ) .tc)).toFinset :=
  StableHlo.forall_writes_sub_of_map rfl
/-- The buffers that the stretch writes, in order. -/
abbrev post20_W : List (Ref sig .tc) := [main_call14_v0, main_call14_v1, main_call14_call0_v0, main_call14_v2, main_call14_cst, main_call14_v3, main_call14_v4, main_call14_v5, main_call14_call1_v0, main_call14_v6, main_call14_cst_0, main_call14_v7, main_call14_v8, main_call14_v9, main_call14_call2_v0, main_v141]
theorem post20_writes : (hostOps0_20 : List (HloOp τ sig (Elt F))).Forall fun op => op.writes ⊆ (post20_W.map (Proc.devRef (τ := τ) .tc)).toFinset :=
  StableHlo.forall_writes_sub_of_map rfl

/-- Every buffer written before the loop, in one trip, and after the loop. -/
abbrev preW : List (Ref sig .tc) := hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W ++ hostOps0_11_W ++ hostOps0_12_W ++ hostOps0_13_W ++ hostOps0_14_W ++ hostOps0_15_W ++ hostOps0_16_W
abbrev bodyW : List (Ref sig .tc) := condOps_W ++ while0Ops0_W ++ while0Ops0_1_W ++ while0Ops0_2_W ++ while0Ops0_3_W ++ while0Ops0_4_W ++ while0Ops0_5_W ++ while0Ops0_6_W
abbrev postW : List (Ref sig .tc) := post17_W ++ post18_W ++ post19_W ++ post20_W

variable (m : (ℓ : Loc nD τ sig) → Buf (Elt F) ℓ) (ρ : Dev nD → PrngReg)

/-- A buffer that nothing before the loop writes is as launched at the loop. -/
theorem pre_keep (V : Valuation τ sig (Elt F)) (r : Ref sig .tc) (h : r ∉ preW) : afterL preI V (Proc.devRef .tc r) = V (Proc.devRef .tc r) := by
  simp only [preW, List.mem_append, not_or] at h
  simp only [preI, afterL_cons, afterL_nil]
  rw [after_of_writes_sub hostOps0_16 _ hostOps0_16_writes h.2, after_of_writes_sub hostOps0_15 _ hostOps0_15_writes h.1.2, after_of_writes_sub hostOps0_14 _ hostOps0_14_writes h.1.1.2, after_of_writes_sub hostOps0_13 _ hostOps0_13_writes h.1.1.1.2, after_of_writes_sub hostOps0_12 _ hostOps0_12_writes h.1.1.1.1.2, after_of_writes_sub hostOps0_11 _ hostOps0_11_writes h.1.1.1.1.1.2, after_of_writes_sub hostOps0_10 _ hostOps0_10_writes h.1.1.1.1.1.1.2, after_of_writes_sub hostOps0_9 _ hostOps0_9_writes h.1.1.1.1.1.1.1.2, after_of_writes_sub hostOps0_8 _ hostOps0_8_writes h.1.1.1.1.1.1.1.1.2, after_of_writes_sub hostOps0_7 _ hostOps0_7_writes h.1.1.1.1.1.1.1.1.1.2, after_of_writes_sub hostOps0_6 _ hostOps0_6_writes h.1.1.1.1.1.1.1.1.1.1.2, after_of_writes_sub hostOps0_5 _ hostOps0_5_writes h.1.1.1.1.1.1.1.1.1.1.1.2, after_of_writes_sub hostOps0_4 _ hostOps0_4_writes h.1.1.1.1.1.1.1.1.1.1.1.1.2, after_of_writes_sub hostOps0_3 _ hostOps0_3_writes h.1.1.1.1.1.1.1.1.1.1.1.1.1.2, after_of_writes_sub hostOps0_2 _ hostOps0_2_writes h.1.1.1.1.1.1.1.1.1.1.1.1.1.1.2, after_of_writes_sub hostOps0_1 _ hostOps0_1_writes h.1.1.1.1.1.1.1.1.1.1.1.1.1.1.1.2, after_of_writes_sub hostOps0 _ hostOps0_writes h.1.1.1.1.1.1.1.1.1.1.1.1.1.1.1.1]
/-- A buffer that no trip writes is unchanged by one. -/
theorem trip_keep (V : Valuation τ sig (Elt F)) (r : Ref sig .tc) (h : r ∉ bodyW) : afterL bodyI (after condOps V) (Proc.devRef .tc r) = V (Proc.devRef .tc r) := by
  simp only [bodyW, List.mem_append, not_or] at h
  simp only [bodyI, afterL_cons, afterL_nil]
  rw [after_of_writes_sub while0Ops0_6 _ while0Ops0_6_writes h.2, after_of_writes_sub while0Ops0_5 _ while0Ops0_5_writes h.1.2, after_of_writes_sub while0Ops0_4 _ while0Ops0_4_writes h.1.1.2, after_of_writes_sub while0Ops0_3 _ while0Ops0_3_writes h.1.1.1.2, after_of_writes_sub while0Ops0_2 _ while0Ops0_2_writes h.1.1.1.1.2, after_of_writes_sub while0Ops0_1 _ while0Ops0_1_writes h.1.1.1.1.1.2, after_of_writes_sub while0Ops0 _ while0Ops0_writes h.1.1.1.1.1.1.2, after_of_writes_sub condOps _ condOps_writes h.1.1.1.1.1.1.1]
/-- A buffer that no trip writes is as it was at the loop's entry before every trip. -/
theorem atK_keep (c : Dev nD) (r : Ref sig .tc) (h : r ∉ bodyW) : ∀ k, atK m k c (Proc.devRef .tc r) = entryContents preI m c (Proc.devRef .tc r)
  | 0 => rfl
  | k + 1 => (trip_keep (atK m k c) r h).trans (atK_keep c r h k)
/-- A buffer that nothing after the loop writes is unchanged by what follows it. -/
theorem post_keep (V : Valuation τ sig (Elt F)) (r : Ref sig .tc) (h : r ∉ postW) : afterL postI V (Proc.devRef .tc r) = V (Proc.devRef .tc r) := by
  simp only [postW, List.mem_append, not_or] at h
  simp only [postI, afterL_cons, afterL_nil]
  rw [after_of_writes_sub hostOps0_20 _ post20_writes h.2, after_of_writes_sub hostOps0_19 _ post19_writes h.1.2, after_of_writes_sub hostOps0_18 _ post18_writes h.1.1.2, after_of_writes_sub hostOps0_17 _ post17_writes h.1.1.1]
/-- A buffer that nothing writes ends as launched. -/
theorem final_keep (c : Dev nD) (r : Ref sig .tc) (h : r ∉ postW) (h' : r ∉ condOps_W ++ bodyW) (h'' : r ∉ preW) :
    finalContents condOps preI bodyI postI 512 m c (Proc.devRef .tc r) = m ((c.tc : Thread nD τ).loc r) := by
  simp only [List.mem_append, not_or] at h'
  refine (post_keep _ r h).trans ((after_of_writes_sub condOps _ condOps_writes h'.1).trans ?_)
  refine (atK_keep m c r (by simpa only [bodyW, List.mem_append, not_or] using h'.2) 512).trans ?_
  exact pre_keep _ r h''

/-- The run: the arguments end unchanged, the result at the fold, the counters at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_v141) = finalContents condOps preI bodyI postI 512 m c (Proc.devRef .tc main_v141))
      ∧ r.2.sem = fun _ => 0) :=
  (θ_run defs _ _).mono (fun r h => ⟨fun c =>
      ⟨(h c main_arg0 rfl).trans (final_keep m c main_arg0 (by decide) (by decide) (by decide)),
       (h c main_arg1 rfl).trans (final_keep m c main_arg1 (by decide) (by decide) (by decide)),
       (h c main_arg2 rfl).trans (final_keep m c main_arg2 (by decide) (by decide) (by decide)),
       (h c main_arg3 rfl).trans (final_keep m c main_arg3 (by decide) (by decide) (by decide)),
       (h c main_arg4 rfl).trans (final_keep m c main_arg4 (by decide) (by decide) (by decide)),
       (h c main_arg5 rfl).trans (final_keep m c main_arg5 (by decide) (by decide) (by decide)),
       (h c main_arg6 rfl).trans (final_keep m c main_arg6 (by decide) (by decide) (by decide)),
       (h c main_arg7 rfl).trans (final_keep m c main_arg7 (by decide) (by decide) (by decide)),
       (h c main_arg8 rfl).trans (final_keep m c main_arg8 (by decide) (by decide) (by decide)),
       (h c main_arg9 rfl).trans (final_keep m c main_arg9 (by decide) (by decide) (by decide)),
       (h c main_arg10 rfl).trans (final_keep m c main_arg10 (by decide) (by decide) (by decide)),
       (h c main_arg11 rfl).trans (final_keep m c main_arg11 (by decide) (by decide) (by decide)),
       (h c main_arg12 rfl).trans (final_keep m c main_arg12 (by decide) (by decide) (by decide)),
       (h c main_arg13 rfl).trans (final_keep m c main_arg13 (by decide) (by decide) (by decide)),
       (h c main_arg14 rfl).trans (final_keep m c main_arg14 (by decide) (by decide) (by decide)),
       (h c main_arg15 rfl).trans (final_keep m c main_arg15 (by decide) (by decide) (by decide)),
       (h c main_arg16 rfl).trans (final_keep m c main_arg16 (by decide) (by decide) (by decide)),
       h c main_v141 rfl⟩, sem_eq_zero_of_no_sems (by decide) r.2⟩) (run_fold m ρ)

end Cert.ReferenceIdeal.Whole

end
-- ==== Proof.V.Spec.lean ====
/- The mathematics of the block over the extended reals, as plain functions of positions: projections,
   causal convolution, the parameters of the scan, the scan and the gated output. -/
module

public import Idealize.ShloMosaic.Lib.Pointwise

@[expose] public section

noncomputable section

namespace Cert.Spec

open Idealize.ShloMosaic

abbrev A1 (a : ℕ) := (⟨1, ![a]⟩ : Shape).Idx → EReal
abbrev A2 (a b : ℕ) := (⟨2, ![a, b]⟩ : Shape).Idx → EReal
abbrev A3 (a b c : ℕ) := (⟨3, ![a, b, c]⟩ : Shape).Idx → EReal
abbrev A4 (a b c d : ℕ) := (⟨4, ![a, b, c, d]⟩ : Shape).Idx → EReal

/-- The parameters of one direction: convolution and its bias, x projection, time-step projection and its bias. -/
structure Par where
  cw : A3 2048 1 4
  cb : A1 2048
  xp : A2 96 2048
  dw : A2 2048 64
  db : A1 2048

/-- A sequence: a value per position and channel. -/
abbrev Sq := Fin 512 → Fin 2048 → EReal

/-- The input projection of batch entry `b`. -/
def xz (hid : A3 4 512 1024) (w : A2 4096 1024) (b : Fin 4) (l : Fin 512) (n : Fin 4096) : EReal :=
  ∑ k : Fin 1024, hid (ix3 b l k) * w (ix2 n k)
/-- Its first half, the sequence that is convolved. -/
def sx (hid : A3 4 512 1024) (w : A2 4096 1024) (b : Fin 4) : Sq := fun l c => xz hid w b l ⟨c, by omega⟩
/-- Its second half, the gate. -/
def sz (hid : A3 4 512 1024) (w : A2 4096 1024) (b : Fin 4) : Sq := fun l c => xz hid w b l ⟨2048 + c, by omega⟩
/-- A sequence read backwards. -/
def rev (s : Sq) : Sq := fun l c => s l.rev c

/-- The sequence with three zeros put before it. -/
def pad3 (s : Sq) (k : ℕ) (c : Fin 2048) : EReal := if h : 3 ≤ k ∧ k - 3 < 512 then s ⟨k - 3, h.2⟩ c else 0
/-- The causal convolution of width four. -/
def conv (P : Par) (s : Sq) : Sq := fun l c =>
  pad3 s l c * P.cw (ix3 c 0 0) + pad3 s (1 + l) c * P.cw (ix3 c 0 1) + pad3 s (2 + l) c * P.cw (ix3 c 0 2)
    + pad3 s (3 + l) c * P.cw (ix3 c 0 3) + P.cb (ix1 c)
/-- The x projection: 64 time-step features, then 16 columns of `B`, then 16 of `C`. -/
def xdbl (P : Par) (s : Sq) (l : Fin 512) (r : Fin 96) : EReal := ∑ c : Fin 2048, conv P s l c * P.xp (ix2 r c)
/-- The time step before clipping. -/
def dtl (P : Par) (s : Sq) : Sq := fun l c => ∑ k : Fin 64, xdbl P s l ⟨k, by omega⟩ * P.dw (ix2 c k) + P.db (ix1 c)
/-- `log (1 + exp v)`, as it is computed. -/
def softplus (v : EReal) : EReal := max v 0 + Ideal.log1p (Ideal.exp (-FloatOps.absf (F := Ideal) (φ := .f32) v))
/-- The argument of the softplus. -/
def dv (P : Par) (s : Sq) : Sq := fun l c => min 1 (max (Ideal.ofBits .f32 0x3727C5AC#32) (dtl P s l c)) + P.db (ix1 c)
/-- The time step. -/
def delta (P : Par) (s : Sq) : Sq := fun l c => softplus (dv P s l c)
/-- The value clipped to [-10, 10]. -/
def clip10 (v : EReal) : EReal := min (Ideal.ofBits .f32 0x41200000#32) (max (Ideal.ofBits .f32 0xC1200000#32) v)
/-- The scan's input. -/
def uu (P : Par) (s : Sq) : Sq := fun l c => clip10 (conv P s l c)
/-- The scan's input matrix. -/
def Bm (P : Par) (s : Sq) (l : Fin 512) (n : Fin 16) : EReal := xdbl P s l ⟨64 + n, by omega⟩
/-- The scan's output matrix. -/
def Cm (P : Par) (s : Sq) (l : Fin 512) (n : Fin 16) : EReal := xdbl P s l ⟨80 + n, by omega⟩

/-- The state of channel `c` after `t` positions. -/
def hs (P : Par) (al : A2 2048 16) (s : Sq) (c : Fin 2048) : ℕ → Fin 16 → EReal
  | 0, _ => 0
  | t + 1, n => if h : t < 512 then
      Ideal.exp (delta P s ⟨t, h⟩ c * -Ideal.exp (al (ix2 c n))) * hs P al s c t n
        + delta P s ⟨t, h⟩ c * uu P s ⟨t, h⟩ c * Bm P s ⟨t, h⟩ n
    else 0
/-- The scan's output. -/
def ysc (P : Par) (al : A2 2048 16) (s : Sq) : Sq := fun l c => ∑ n : Fin 16, hs P al s c (l + 1) n * Cm P s l n

/-- The gate's value. -/
def gate (z : EReal) : EReal := z * Ideal.div 1 (1 + Ideal.exp (-z))
/-- `nan_to_num` with 0, 1 and -1. -/
def ntn (v : EReal) : EReal :=
  if (if v = Ideal.ofBits .f32 0x7F800000#32 then 1 else v) = Ideal.ofBits .f32 0xFF800000#32 then Ideal.ofBits .f32 0xBF800000#32
  else if v = Ideal.ofBits .f32 0x7F800000#32 then 1 else v

/-- The block's inputs. -/
structure In where
  hid : A3 4 512 1024
  w : A2 4096 1024
  Pf : Par
  Pb : Par
  al : A2 2048 16
  alb : A2 2048 16
  D : A1 2048
  Db : A1 2048
  wo : A2 1024 2048

namespace In
variable (I : In)
/-- The parameters of a direction: 0 forwards, 1 backwards. -/
def P : Fin 2 → Par
  | 0 => I.Pf
  | 1 => I.Pb
/-- Its logarithms of the decay rates. -/
def a : Fin 2 → A2 2048 16
  | 0 => I.al
  | 1 => I.alb
/-- Its skip weights. -/
def sk : Fin 2 → A1 2048
  | 0 => I.D
  | 1 => I.Db
/-- The sequence it convolves. -/
def s : Fin 2 → Fin 4 → Sq
  | 0, b => sx I.hid I.w b
  | 1, b => rev (sx I.hid I.w b)
/-- The state of a direction. -/
def h (d : Fin 2) (b : Fin 4) (c : Fin 2048) (t : ℕ) (n : Fin 16) : EReal := hs (I.P d) (I.a d) (I.s d b) c t n
/-- The scan's output of a direction. -/
def y (d : Fin 2) (b : Fin 4) : Sq := ysc (I.P d) (I.a d) (I.s d b)
/-- The scan's input of a direction. -/
def u (d : Fin 2) (b : Fin 4) : Sq := uu (I.P d) (I.s d b)
/-- The gated sum of both directions. -/
def yy (b : Fin 4) : Sq := fun l c =>
  ((I.y 0 b l c + I.u 0 b l c * I.sk 0 (ix1 c)) + (I.y 1 b l.rev c + I.u 1 b l.rev c * I.sk 1 (ix1 c))) * gate (sz I.hid I.w b l c)
/-- The block's output. -/
def out (b : Fin 4) (l : Fin 512) (j : Fin 1024) : EReal := ntn (∑ c : Fin 2048, I.yy b l c * I.wo (ix2 j c))
end In

end Cert.Spec

end
-- ==== Proof.RI.Pre.lean ====
/- The reference's values before the loop, read at an element. -/
module

public import proofs.«01_k».proof.Proof.RI.Frame
public import proofs.«01_k».proof.Proof.V.Spec
public import Idealize.ShloMosaic.Lib.StableHlo.ReadAt

@[expose] public section

set_option maxRecDepth 16384

noncomputable section

namespace Cert.ReferenceIdeal.Whole

open Cert.ReferenceIdeal Cert.ReferenceIdeal.Gen Cert.ReferenceIdeal.Value
open Idealize.ShloMosaic Idealize.ShloMosaic.TcCoe
open Idealize.SL.Sem
open Idealize.ShloMosaic.StableHlo
open Cert.Spec

variable (m : (ℓ : Loc nD τ sig) → Buf (Elt Ideal) ℓ) (c : Dev nD)

/-- The contents at launch, and after each stretch. -/
def E0 : Valuation τ sig (Elt Ideal) := fun b => m (c, b)
def E1 : Valuation τ sig (Elt Ideal) := after hostOps0 (E0 m c)
def E2 : Valuation τ sig (Elt Ideal) := after hostOps0_1 (E1 m c)
def E3 : Valuation τ sig (Elt Ideal) := after hostOps0_2 (E2 m c)
def E4 : Valuation τ sig (Elt Ideal) := after hostOps0_3 (E3 m c)
def E5 : Valuation τ sig (Elt Ideal) := after hostOps0_4 (E4 m c)
def E6 : Valuation τ sig (Elt Ideal) := after hostOps0_5 (E5 m c)
def E7 : Valuation τ sig (Elt Ideal) := after hostOps0_6 (E6 m c)
def E8 : Valuation τ sig (Elt Ideal) := after hostOps0_7 (E7 m c)
def E9 : Valuation τ sig (Elt Ideal) := after hostOps0_8 (E8 m c)
def E10 : Valuation τ sig (Elt Ideal) := after hostOps0_9 (E9 m c)
def E11 : Valuation τ sig (Elt Ideal) := after hostOps0_10 (E10 m c)
def E12 : Valuation τ sig (Elt Ideal) := after hostOps0_11 (E11 m c)
def E13 : Valuation τ sig (Elt Ideal) := after hostOps0_12 (E12 m c)
def E14 : Valuation τ sig (Elt Ideal) := after hostOps0_13 (E13 m c)
def E15 : Valuation τ sig (Elt Ideal) := after hostOps0_14 (E14 m c)
def E16 : Valuation τ sig (Elt Ideal) := after hostOps0_15 (E15 m c)
def E17 : Valuation τ sig (Elt Ideal) := after hostOps0_16 (E16 m c)
/-- The contents at the loop's entry. -/
def EE : Valuation τ sig (Elt Ideal) := entryContents preI m c
theorem up_17 (r : Ref sig .tc) : E17 m c (Proc.devRef .tc r) = EE m c (Proc.devRef .tc r) := rfl
theorem up_16 (r : Ref sig .tc) (h : r ∉ hostOps0_16_W) : E16 m c (Proc.devRef .tc r) = EE m c (Proc.devRef .tc r) :=
  (after_of_writes_sub hostOps0_16 _ hostOps0_16_writes h).symm.trans (up_17 m c r)
abbrev upW16 : List (Ref sig .tc) := hostOps0_16_W
/-- One stretch more: a buffer that it does not write, and that nothing later changes, holds the same before it. -/
theorem upStep {ops : List (HloOp τ sig (Elt Ideal))} {V V' : Valuation τ sig (Elt Ideal)} {w L : List (Ref sig .tc)}
    (hw : ops.Forall fun op => op.writes ⊆ (w.map (Proc.devRef (τ := τ) .tc)).toFinset)
    (hn : ∀ r, r ∉ L → after ops V (Proc.devRef .tc r) = V' (Proc.devRef .tc r)) (r : Ref sig .tc) (h : r ∉ w ++ L) :
    V (Proc.devRef .tc r) = V' (Proc.devRef .tc r) :=
  (after_of_writes_sub ops _ hw fun h' => h (List.mem_append_left _ h')).symm.trans (hn r fun h' => h (List.mem_append_right _ h'))
abbrev upW15 : List (Ref sig .tc) := hostOps0_15_W ++ upW16
theorem up_15 (r : Ref sig .tc) (h : r ∉ upW15) : E15 m c (Proc.devRef .tc r) = EE m c (Proc.devRef .tc r) :=
  upStep hostOps0_15_writes (up_16 m c) r h
abbrev upW14 : List (Ref sig .tc) := hostOps0_14_W ++ upW15
theorem up_14 (r : Ref sig .tc) (h : r ∉ upW14) : E14 m c (Proc.devRef .tc r) = EE m c (Proc.devRef .tc r) :=
  upStep hostOps0_14_writes (up_15 m c) r h
abbrev upW13 : List (Ref sig .tc) := hostOps0_13_W ++ upW14
theorem up_13 (r : Ref sig .tc) (h : r ∉ upW13) : E13 m c (Proc.devRef .tc r) = EE m c (Proc.devRef .tc r) :=
  upStep hostOps0_13_writes (up_14 m c) r h
abbrev upW12 : List (Ref sig .tc) := hostOps0_12_W ++ upW13
theorem up_12 (r : Ref sig .tc) (h : r ∉ upW12) : E12 m c (Proc.devRef .tc r) = EE m c (Proc.devRef .tc r) :=
  upStep hostOps0_12_writes (up_13 m c) r h
abbrev upW11 : List (Ref sig .tc) := hostOps0_11_W ++ upW12
theorem up_11 (r : Ref sig .tc) (h : r ∉ upW11) : E11 m c (Proc.devRef .tc r) = EE m c (Proc.devRef .tc r) :=
  upStep hostOps0_11_writes (up_12 m c) r h
abbrev upW10 : List (Ref sig .tc) := hostOps0_10_W ++ upW11
theorem up_10 (r : Ref sig .tc) (h : r ∉ upW10) : E10 m c (Proc.devRef .tc r) = EE m c (Proc.devRef .tc r) :=
  upStep hostOps0_10_writes (up_11 m c) r h
abbrev upW9 : List (Ref sig .tc) := hostOps0_9_W ++ upW10
theorem up_9 (r : Ref sig .tc) (h : r ∉ upW9) : E9 m c (Proc.devRef .tc r) = EE m c (Proc.devRef .tc r) :=
  upStep hostOps0_9_writes (up_10 m c) r h
abbrev upW8 : List (Ref sig .tc) := hostOps0_8_W ++ upW9
theorem up_8 (r : Ref sig .tc) (h : r ∉ upW8) : E8 m c (Proc.devRef .tc r) = EE m c (Proc.devRef .tc r) :=
  upStep hostOps0_8_writes (up_9 m c) r h
abbrev upW7 : List (Ref sig .tc) := hostOps0_7_W ++ upW8
theorem up_7 (r : Ref sig .tc) (h : r ∉ upW7) : E7 m c (Proc.devRef .tc r) = EE m c (Proc.devRef .tc r) :=
  upStep hostOps0_7_writes (up_8 m c) r h
abbrev upW6 : List (Ref sig .tc) := hostOps0_6_W ++ upW7
theorem up_6 (r : Ref sig .tc) (h : r ∉ upW6) : E6 m c (Proc.devRef .tc r) = EE m c (Proc.devRef .tc r) :=
  upStep hostOps0_6_writes (up_7 m c) r h
abbrev upW5 : List (Ref sig .tc) := hostOps0_5_W ++ upW6
theorem up_5 (r : Ref sig .tc) (h : r ∉ upW5) : E5 m c (Proc.devRef .tc r) = EE m c (Proc.devRef .tc r) :=
  upStep hostOps0_5_writes (up_6 m c) r h
abbrev upW4 : List (Ref sig .tc) := hostOps0_4_W ++ upW5
theorem up_4 (r : Ref sig .tc) (h : r ∉ upW4) : E4 m c (Proc.devRef .tc r) = EE m c (Proc.devRef .tc r) :=
  upStep hostOps0_4_writes (up_5 m c) r h
abbrev upW3 : List (Ref sig .tc) := hostOps0_3_W ++ upW4
theorem up_3 (r : Ref sig .tc) (h : r ∉ upW3) : E3 m c (Proc.devRef .tc r) = EE m c (Proc.devRef .tc r) :=
  upStep hostOps0_3_writes (up_4 m c) r h
abbrev upW2 : List (Ref sig .tc) := hostOps0_2_W ++ upW3
theorem up_2 (r : Ref sig .tc) (h : r ∉ upW2) : E2 m c (Proc.devRef .tc r) = EE m c (Proc.devRef .tc r) :=
  upStep hostOps0_2_writes (up_3 m c) r h
abbrev upW1 : List (Ref sig .tc) := hostOps0_1_W ++ upW2
theorem up_1 (r : Ref sig .tc) (h : r ∉ upW1) : E1 m c (Proc.devRef .tc r) = EE m c (Proc.devRef .tc r) :=
  upStep hostOps0_1_writes (up_2 m c) r h
abbrev upW0 : List (Ref sig .tc) := hostOps0_W ++ upW1
theorem up_0 (r : Ref sig .tc) (h : r ∉ upW0) : E0 m c (Proc.devRef .tc r) = EE m c (Proc.devRef .tc r) :=
  upStep hostOps0_writes (up_1 m c) r h
theorem e_v2 (b : Fin 4) (l : Fin 512) (ch : Fin 2048) : (show FVec Ideal S4x512x2048 .f32 from EE m c (Proc.devRef .tc main_v2)) (ix3 b l ch) = (∑ k : Fin 1024, (show FVec Ideal S4x512x1024 .f32 from EE m c (Proc.devRef .tc main_arg0)) (ix3 b l k) * (show FVec Ideal S4096x1024 .f32 from EE m c (Proc.devRef .tc main_arg1)) (ix2 ⟨ch, by omega⟩ k) : EReal) := by
  rw [← up_1 m c main_v2 (by decide), ← up_0 m c main_arg0 (by decide), ← up_0 m c main_arg1 (by decide), E1]
  generalize E0 m c = V
  after_reads_at
theorem e_v3 (b : Fin 4) (l : Fin 512) (ch : Fin 2048) : (show FVec Ideal S4x512x2048 .f32 from EE m c (Proc.devRef .tc main_v3)) (ix3 b l ch) = (∑ k : Fin 1024, (show FVec Ideal S4x512x1024 .f32 from EE m c (Proc.devRef .tc main_arg0)) (ix3 b l k) * (show FVec Ideal S4096x1024 .f32 from EE m c (Proc.devRef .tc main_arg1)) (ix2 ⟨2048 + ch, by omega⟩ k) : EReal) := by
  rw [← up_1 m c main_v3 (by decide), ← up_0 m c main_arg0 (by decide), ← up_0 m c main_arg1 (by decide), E1]
  generalize E0 m c = V
  after_reads_at
theorem e_v51 (b : Fin 4) (l : Fin 512) (ch : Fin 2048) : (show FVec Ideal S4x512x2048 .f32 from EE m c (Proc.devRef .tc main_v51)) (ix3 b l ch) = ((show FVec Ideal S4x512x2048 .f32 from EE m c (Proc.devRef .tc main_v2)) (ix3 b l.rev ch) : EReal) := by
  rw [← up_9 m c main_v51 (by decide), ← up_8 m c main_v2 (by decide), E9]
  generalize E8 m c = V
  after_reads_at
  simp
theorem e_c (i : S_.Idx) : (show IVec S_ 32 from EE m c (Proc.devRef .tc main_c)) i = 0#32 := by
  rw [← up_1 m c main_c (by decide)]
  show after hostOps0 _ _ _ = _
  after_results
  rfl
theorem e_cst (i : S_.Idx) : (show FVec Ideal S_ .f32 from EE m c (Proc.devRef .tc main_cst)) i = Ideal.ofBits .f32 0xC1200000#32 := by
  rw [← up_3 m c main_cst (by decide)]
  show after hostOps0_2 _ _ _ = _
  after_results
  rfl
theorem e_cst_0 (i : S_.Idx) : (show FVec Ideal S_ .f32 from EE m c (Proc.devRef .tc main_cst_0)) i = Ideal.ofBits .f32 0x41200000#32 := by
  rw [← up_3 m c main_cst_0 (by decide)]
  show after hostOps0_2 _ _ _ = _
  after_results
  rfl
theorem e_cst_1 (i : S_.Idx) : (show FVec Ideal S_ .f32 from EE m c (Proc.devRef .tc main_cst_1)) i = Ideal.ofBits .f32 0x3727C5AC#32 := by
  rw [← up_5 m c main_cst_1 (by decide)]
  show after hostOps0_4 _ _ _ = _
  after_results
  rfl
theorem e_cst_2 (i : S_.Idx) : (show FVec Ideal S_ .f32 from EE m c (Proc.devRef .tc main_cst_2)) i = Ideal.ofBits .f32 0x3F800000#32 := by
  rw [← up_5 m c main_cst_2 (by decide)]
  show after hostOps0_4 _ _ _ = _
  after_results
  rfl
theorem st_v4 (V : Valuation τ sig (Elt Ideal)) (h0 : ∀ i, (show IVec S_ 32 from V (Proc.devRef .tc main_c)) i = 0#32) (b : Fin 4) (l : Fin 515) (ch : Fin 2048) : (show FVec Ideal S4x515x2048 .f32 from after hostOps0_1 V (Proc.devRef .tc main_v4)) (ix3 b l ch)
    = (if h : 3 ≤ (l : ℕ) ∧ (l : ℕ) - 3 < 512 then (show FVec Ideal S4x512x2048 .f32 from V (Proc.devRef .tc main_v2)) (ix3 b ⟨l - 3, h.2⟩ ch) else 0 : EReal) := by
  after_reads_at
  split
  · rfl
  · refine (congrArg (FloatOps.sitofp (F := Ideal) .f32) (h0 _)).trans ?_
    show (((0#32 : BitVec 32).toInt : ℝ) : EReal) = 0
    simp
theorem e_v4 (b : Fin 4) (l : Fin 515) (ch : Fin 2048) : (show FVec Ideal S4x515x2048 .f32 from EE m c (Proc.devRef .tc main_v4)) (ix3 b l ch)
    = pad3 (fun l ch => (show FVec Ideal S4x512x2048 .f32 from EE m c (Proc.devRef .tc main_v2)) (ix3 b l ch)) l ch := by
  have h := st_v4 (E1 m c) (fun j => by rw [up_1 m c main_c (by decide)]; exact e_c m c j) b l ch
  rw [up_1 m c main_v2 (by decide)] at h
  rw [← up_2 m c main_v4 (by decide)]
  exact h
theorem e_v34 (b : Fin 4) (l : Fin 512) (ch : Fin 2048) : (show FVec Ideal S4x512x2048 .f32 from EE m c (Proc.devRef .tc main_v34)) (ix3 b l ch) = ((show FVec Ideal S4x515x2048 .f32 from EE m c (Proc.devRef .tc main_v4)) (ix3 b ⟨l, by omega⟩ ch) * (show FVec Ideal S2048x1x4 .f32 from EE m c (Proc.devRef .tc main_arg2)) (ix3 ch 0 0) + (show FVec Ideal S4x515x2048 .f32 from EE m c (Proc.devRef .tc main_v4)) (ix3 b ⟨1 + l, by omega⟩ ch) * (show FVec Ideal S2048x1x4 .f32 from EE m c (Proc.devRef .tc main_arg2)) (ix3 ch 0 1) + (show FVec Ideal S4x515x2048 .f32 from EE m c (Proc.devRef .tc main_v4)) (ix3 b ⟨2 + l, by omega⟩ ch) * (show FVec Ideal S2048x1x4 .f32 from EE m c (Proc.devRef .tc main_arg2)) (ix3 ch 0 2) + (show FVec Ideal S4x515x2048 .f32 from EE m c (Proc.devRef .tc main_v4)) (ix3 b ⟨3 + l, by omega⟩ ch) * (show FVec Ideal S2048x1x4 .f32 from EE m c (Proc.devRef .tc main_arg2)) (ix3 ch 0 3) + (show FVec Ideal S2048 .f32 from EE m c (Proc.devRef .tc main_arg3)) (ix1 ch) : EReal) := by
  rw [← up_3 m c main_v34 (by decide), ← up_2 m c main_v4 (by decide), ← up_2 m c main_arg2 (by decide), ← up_2 m c main_arg3 (by decide), E3]
  generalize E2 m c = V
  after_reads_at
theorem e_v36 (b : Fin 4) (l : Fin 512) (r : Fin 96) : (show FVec Ideal S4x512x96 .f32 from EE m c (Proc.devRef .tc main_v36)) (ix3 b l r) = (∑ k : Fin 2048, ((show FVec Ideal S4x515x2048 .f32 from EE m c (Proc.devRef .tc main_v4)) (ix3 b ⟨l, by omega⟩ k) * (show FVec Ideal S2048x1x4 .f32 from EE m c (Proc.devRef .tc main_arg2)) (ix3 k 0 0) + (show FVec Ideal S4x515x2048 .f32 from EE m c (Proc.devRef .tc main_v4)) (ix3 b ⟨1 + l, by omega⟩ k) * (show FVec Ideal S2048x1x4 .f32 from EE m c (Proc.devRef .tc main_arg2)) (ix3 k 0 1) + (show FVec Ideal S4x515x2048 .f32 from EE m c (Proc.devRef .tc main_v4)) (ix3 b ⟨2 + l, by omega⟩ k) * (show FVec Ideal S2048x1x4 .f32 from EE m c (Proc.devRef .tc main_arg2)) (ix3 k 0 2) + (show FVec Ideal S4x515x2048 .f32 from EE m c (Proc.devRef .tc main_v4)) (ix3 b ⟨3 + l, by omega⟩ k) * (show FVec Ideal S2048x1x4 .f32 from EE m c (Proc.devRef .tc main_arg2)) (ix3 k 0 3) + (show FVec Ideal S2048 .f32 from EE m c (Proc.devRef .tc main_arg3)) (ix1 k)) * (show FVec Ideal S96x2048 .f32 from EE m c (Proc.devRef .tc main_arg4)) (ix2 r k) : EReal) := by
  rw [← up_3 m c main_v36 (by decide), ← up_2 m c main_v4 (by decide), ← up_2 m c main_arg2 (by decide), ← up_2 m c main_arg3 (by decide), ← up_2 m c main_arg4 (by decide), E3]
  generalize E2 m c = V
  after_reads_at
theorem e_v43 (b : Fin 4) (l : Fin 512) (n : Fin 16) : (show FVec Ideal S4x512x16 .f32 from EE m c (Proc.devRef .tc main_v43)) (ix3 b l n) = (∑ k : Fin 2048, ((show FVec Ideal S4x515x2048 .f32 from EE m c (Proc.devRef .tc main_v4)) (ix3 b ⟨l, by omega⟩ k) * (show FVec Ideal S2048x1x4 .f32 from EE m c (Proc.devRef .tc main_arg2)) (ix3 k 0 0) + (show FVec Ideal S4x515x2048 .f32 from EE m c (Proc.devRef .tc main_v4)) (ix3 b ⟨1 + l, by omega⟩ k) * (show FVec Ideal S2048x1x4 .f32 from EE m c (Proc.devRef .tc main_arg2)) (ix3 k 0 1) + (show FVec Ideal S4x515x2048 .f32 from EE m c (Proc.devRef .tc main_v4)) (ix3 b ⟨2 + l, by omega⟩ k) * (show FVec Ideal S2048x1x4 .f32 from EE m c (Proc.devRef .tc main_arg2)) (ix3 k 0 2) + (show FVec Ideal S4x515x2048 .f32 from EE m c (Proc.devRef .tc main_v4)) (ix3 b ⟨3 + l, by omega⟩ k) * (show FVec Ideal S2048x1x4 .f32 from EE m c (Proc.devRef .tc main_arg2)) (ix3 k 0 3) + (show FVec Ideal S2048 .f32 from EE m c (Proc.devRef .tc main_arg3)) (ix1 k)) * (show FVec Ideal S96x2048 .f32 from EE m c (Proc.devRef .tc main_arg4)) (ix2 ⟨64 + n, by omega⟩ k) : EReal) := by
  rw [← up_3 m c main_v43 (by decide), ← up_2 m c main_v4 (by decide), ← up_2 m c main_arg2 (by decide), ← up_2 m c main_arg3 (by decide), ← up_2 m c main_arg4 (by decide), E3]
  generalize E2 m c = V
  after_reads_at
theorem e_v44 (b : Fin 4) (l : Fin 512) (n : Fin 16) : (show FVec Ideal S4x512x16 .f32 from EE m c (Proc.devRef .tc main_v44)) (ix3 b l n) = (∑ k : Fin 2048, ((show FVec Ideal S4x515x2048 .f32 from EE m c (Proc.devRef .tc main_v4)) (ix3 b ⟨l, by omega⟩ k) * (show FVec Ideal S2048x1x4 .f32 from EE m c (Proc.devRef .tc main_arg2)) (ix3 k 0 0) + (show FVec Ideal S4x515x2048 .f32 from EE m c (Proc.devRef .tc main_v4)) (ix3 b ⟨1 + l, by omega⟩ k) * (show FVec Ideal S2048x1x4 .f32 from EE m c (Proc.devRef .tc main_arg2)) (ix3 k 0 1) + (show FVec Ideal S4x515x2048 .f32 from EE m c (Proc.devRef .tc main_v4)) (ix3 b ⟨2 + l, by omega⟩ k) * (show FVec Ideal S2048x1x4 .f32 from EE m c (Proc.devRef .tc main_arg2)) (ix3 k 0 2) + (show FVec Ideal S4x515x2048 .f32 from EE m c (Proc.devRef .tc main_v4)) (ix3 b ⟨3 + l, by omega⟩ k) * (show FVec Ideal S2048x1x4 .f32 from EE m c (Proc.devRef .tc main_arg2)) (ix3 k 0 3) + (show FVec Ideal S2048 .f32 from EE m c (Proc.devRef .tc main_arg3)) (ix1 k)) * (show FVec Ideal S96x2048 .f32 from EE m c (Proc.devRef .tc main_arg4)) (ix2 ⟨80 + n, by omega⟩ k) : EReal) := by
  rw [← up_3 m c main_v44 (by decide), ← up_2 m c main_v4 (by decide), ← up_2 m c main_arg2 (by decide), ← up_2 m c main_arg3 (by decide), ← up_2 m c main_arg4 (by decide), E3]
  generalize E2 m c = V
  after_reads_at
theorem e_v42 (b : Fin 4) (l : Fin 512) (ch : Fin 2048) : (show FVec Ideal S4x512x2048 .f32 from EE m c (Proc.devRef .tc main_v42)) (ix3 b l ch) = (∑ q : Fin 64, (∑ k : Fin 2048, ((show FVec Ideal S4x515x2048 .f32 from EE m c (Proc.devRef .tc main_v4)) (ix3 b ⟨l, by omega⟩ k) * (show FVec Ideal S2048x1x4 .f32 from EE m c (Proc.devRef .tc main_arg2)) (ix3 k 0 0) + (show FVec Ideal S4x515x2048 .f32 from EE m c (Proc.devRef .tc main_v4)) (ix3 b ⟨1 + l, by omega⟩ k) * (show FVec Ideal S2048x1x4 .f32 from EE m c (Proc.devRef .tc main_arg2)) (ix3 k 0 1) + (show FVec Ideal S4x515x2048 .f32 from EE m c (Proc.devRef .tc main_v4)) (ix3 b ⟨2 + l, by omega⟩ k) * (show FVec Ideal S2048x1x4 .f32 from EE m c (Proc.devRef .tc main_arg2)) (ix3 k 0 2) + (show FVec Ideal S4x515x2048 .f32 from EE m c (Proc.devRef .tc main_v4)) (ix3 b ⟨3 + l, by omega⟩ k) * (show FVec Ideal S2048x1x4 .f32 from EE m c (Proc.devRef .tc main_arg2)) (ix3 k 0 3) + (show FVec Ideal S2048 .f32 from EE m c (Proc.devRef .tc main_arg3)) (ix1 k)) * (show FVec Ideal S96x2048 .f32 from EE m c (Proc.devRef .tc main_arg4)) (ix2 ⟨q, by omega⟩ k)) * (show FVec Ideal S2048x64 .f32 from EE m c (Proc.devRef .tc main_arg5)) (ix2 ch q) + (show FVec Ideal S2048 .f32 from EE m c (Proc.devRef .tc main_arg6)) (ix1 ch) : EReal) := by
  rw [← up_3 m c main_v42 (by decide), ← up_2 m c main_v4 (by decide), ← up_2 m c main_arg2 (by decide), ← up_2 m c main_arg3 (by decide), ← up_2 m c main_arg4 (by decide), ← up_2 m c main_arg5 (by decide), ← up_2 m c main_arg6 (by decide), E3]
  generalize E2 m c = V
  after_reads_at
theorem e_v45 (b : Fin 4) (l : Fin 512) (ch : Fin 2048) : (show FVec Ideal S4x512x2048 .f32 from EE m c (Proc.devRef .tc main_v45)) (ix3 b l ch) = (min ((show FVec Ideal S_ .f32 from EE m c (Proc.devRef .tc main_cst_0)) ix0) (max ((show FVec Ideal S_ .f32 from EE m c (Proc.devRef .tc main_cst)) ix0) ((show FVec Ideal S4x512x2048 .f32 from EE m c (Proc.devRef .tc main_v34)) (ix3 b l ch))) : EReal) := by
  rw [← up_4 m c main_v45 (by decide), ← up_3 m c main_cst_0 (by decide), ← up_3 m c main_cst (by decide), ← up_3 m c main_v34 (by decide), E4]
  generalize E3 m c = V
  after_reads_at
  try simp only [id_eq]
theorem e_v46 (b : Fin 4) (l : Fin 512) (ch : Fin 2048) : (show FVec Ideal S4x512x2048 .f32 from EE m c (Proc.devRef .tc main_v46)) (ix3 b l ch) = (min ((show FVec Ideal S_ .f32 from EE m c (Proc.devRef .tc main_cst_2)) ix0) (max ((show FVec Ideal S_ .f32 from EE m c (Proc.devRef .tc main_cst_1)) ix0) ((show FVec Ideal S4x512x2048 .f32 from EE m c (Proc.devRef .tc main_v42)) (ix3 b l ch))) : EReal) := by
  rw [← up_6 m c main_v46 (by decide), ← up_5 m c main_cst_2 (by decide), ← up_5 m c main_cst_1 (by decide), ← up_5 m c main_v42 (by decide), E6]
  generalize E5 m c = V
  after_reads_at
  try simp only [id_eq]
theorem e_v49 (b : Fin 4) (l : Fin 512) (ch : Fin 2048) : (show FVec Ideal S4x512x2048 .f32 from EE m c (Proc.devRef .tc main_v49)) (ix3 b l ch) = ((show FVec Ideal S4x512x2048 .f32 from EE m c (Proc.devRef .tc main_v46)) (ix3 b l ch) + (show FVec Ideal S2048 .f32 from EE m c (Proc.devRef .tc main_arg6)) (ix1 ch) : EReal) := by
  rw [← up_7 m c main_v49 (by decide), ← up_6 m c main_v46 (by decide), ← up_6 m c main_arg6 (by decide), E7]
  generalize E6 m c = V
  after_reads_at
theorem e_v50 (b : Fin 4) (l : Fin 512) (ch : Fin 2048) : (show FVec Ideal S4x512x2048 .f32 from EE m c (Proc.devRef .tc main_v50)) (ix3 b l ch) = (softplus ((show FVec Ideal S4x512x2048 .f32 from EE m c (Proc.devRef .tc main_v49)) (ix3 b l ch)) : EReal) := by
  rw [← up_8 m c main_v50 (by decide), ← up_7 m c main_v49 (by decide), E8]
  generalize E7 m c = V
  after_reads_at
  exact if_neg (fun h => h rfl)
theorem e_c_3 (i : S_.Idx) : (show IVec S_ 32 from EE m c (Proc.devRef .tc main_c_3)) i = 0#32 := by
  rw [← up_9 m c main_c_3 (by decide)]
  show after hostOps0_8 _ _ _ = _
  after_results
  rfl
theorem e_cst_4 (i : S_.Idx) : (show FVec Ideal S_ .f32 from EE m c (Proc.devRef .tc main_cst_4)) i = Ideal.ofBits .f32 0xC1200000#32 := by
  rw [← up_11 m c main_cst_4 (by decide)]
  show after hostOps0_10 _ _ _ = _
  after_results
  rfl
theorem e_cst_5 (i : S_.Idx) : (show FVec Ideal S_ .f32 from EE m c (Proc.devRef .tc main_cst_5)) i = Ideal.ofBits .f32 0x41200000#32 := by
  rw [← up_11 m c main_cst_5 (by decide)]
  show after hostOps0_10 _ _ _ = _
  after_results
  rfl
theorem e_cst_6 (i : S_.Idx) : (show FVec Ideal S_ .f32 from EE m c (Proc.devRef .tc main_cst_6)) i = Ideal.ofBits .f32 0x3727C5AC#32 := by
  rw [← up_13 m c main_cst_6 (by decide)]
  show after hostOps0_12 _ _ _ = _
  after_results
  rfl
theorem e_cst_7 (i : S_.Idx) : (show FVec Ideal S_ .f32 from EE m c (Proc.devRef .tc main_cst_7)) i = Ideal.ofBits .f32 0x3F800000#32 := by
  rw [← up_13 m c main_cst_7 (by decide)]
  show after hostOps0_12 _ _ _ = _
  after_results
  rfl
theorem st_v52 (V : Valuation τ sig (Elt Ideal)) (h0 : ∀ i, (show IVec S_ 32 from V (Proc.devRef .tc main_c_3)) i = 0#32) (b : Fin 4) (l : Fin 515) (ch : Fin 2048) : (show FVec Ideal S4x515x2048 .f32 from after hostOps0_9 V (Proc.devRef .tc main_v52)) (ix3 b l ch)
    = (if h : 3 ≤ (l : ℕ) ∧ (l : ℕ) - 3 < 512 then (show FVec Ideal S4x512x2048 .f32 from V (Proc.devRef .tc main_v51)) (ix3 b ⟨l - 3, h.2⟩ ch) else 0 : EReal) := by
  after_reads_at
  split
  · rfl
  · refine (congrArg (FloatOps.sitofp (F := Ideal) .f32) (h0 _)).trans ?_
    show (((0#32 : BitVec 32).toInt : ℝ) : EReal) = 0
    simp
theorem e_v52 (b : Fin 4) (l : Fin 515) (ch : Fin 2048) : (show FVec Ideal S4x515x2048 .f32 from EE m c (Proc.devRef .tc main_v52)) (ix3 b l ch)
    = pad3 (fun l ch => (show FVec Ideal S4x512x2048 .f32 from EE m c (Proc.devRef .tc main_v51)) (ix3 b l ch)) l ch := by
  have h := st_v52 (E9 m c) (fun j => by rw [up_9 m c main_c_3 (by decide)]; exact e_c_3 m c j) b l ch
  rw [up_9 m c main_v51 (by decide)] at h
  rw [← up_10 m c main_v52 (by decide)]
  exact h
theorem e_v82 (b : Fin 4) (l : Fin 512) (ch : Fin 2048) : (show FVec Ideal S4x512x2048 .f32 from EE m c (Proc.devRef .tc main_v82)) (ix3 b l ch) = ((show FVec Ideal S4x515x2048 .f32 from EE m c (Proc.devRef .tc main_v52)) (ix3 b ⟨l, by omega⟩ ch) * (show FVec Ideal S2048x1x4 .f32 from EE m c (Proc.devRef .tc main_arg9)) (ix3 ch 0 0) + (show FVec Ideal S4x515x2048 .f32 from EE m c (Proc.devRef .tc main_v52)) (ix3 b ⟨1 + l, by omega⟩ ch) * (show FVec Ideal S2048x1x4 .f32 from EE m c (Proc.devRef .tc main_arg9)) (ix3 ch 0 1) + (show FVec Ideal S4x515x2048 .f32 from EE m c (Proc.devRef .tc main_v52)) (ix3 b ⟨2 + l, by omega⟩ ch) * (show FVec Ideal S2048x1x4 .f32 from EE m c (Proc.devRef .tc main_arg9)) (ix3 ch 0 2) + (show FVec Ideal S4x515x2048 .f32 from EE m c (Proc.devRef .tc main_v52)) (ix3 b ⟨3 + l, by omega⟩ ch) * (show FVec Ideal S2048x1x4 .f32 from EE m c (Proc.devRef .tc main_arg9)) (ix3 ch 0 3) + (show FVec Ideal S2048 .f32 from EE m c (Proc.devRef .tc main_arg10)) (ix1 ch) : EReal) := by
  rw [← up_11 m c main_v82 (by decide), ← up_10 m c main_v52 (by decide), ← up_10 m c main_arg9 (by decide), ← up_10 m c main_arg10 (by decide), E11]
  generalize E10 m c = V
  after_reads_at
theorem e_v84 (b : Fin 4) (l : Fin 512) (r : Fin 96) : (show FVec Ideal S4x512x96 .f32 from EE m c (Proc.devRef .tc main_v84)) (ix3 b l r) = (∑ k : Fin 2048, ((show FVec Ideal S4x515x2048 .f32 from EE m c (Proc.devRef .tc main_v52)) (ix3 b ⟨l, by omega⟩ k) * (show FVec Ideal S2048x1x4 .f32 from EE m c (Proc.devRef .tc main_arg9)) (ix3 k 0 0) + (show FVec Ideal S4x515x2048 .f32 from EE m c (Proc.devRef .tc main_v52)) (ix3 b ⟨1 + l, by omega⟩ k) * (show FVec Ideal S2048x1x4 .f32 from EE m c (Proc.devRef .tc main_arg9)) (ix3 k 0 1) + (show FVec Ideal S4x515x2048 .f32 from EE m c (Proc.devRef .tc main_v52)) (ix3 b ⟨2 + l, by omega⟩ k) * (show FVec Ideal S2048x1x4 .f32 from EE m c (Proc.devRef .tc main_arg9)) (ix3 k 0 2) + (show FVec Ideal S4x515x2048 .f32 from EE m c (Proc.devRef .tc main_v52)) (ix3 b ⟨3 + l, by omega⟩ k) * (show FVec Ideal S2048x1x4 .f32 from EE m c (Proc.devRef .tc main_arg9)) (ix3 k 0 3) + (show FVec Ideal S2048 .f32 from EE m c (Proc.devRef .tc main_arg10)) (ix1 k)) * (show FVec Ideal S96x2048 .f32 from EE m c (Proc.devRef .tc main_arg11)) (ix2 r k) : EReal) := by
  rw [← up_11 m c main_v84 (by decide), ← up_10 m c main_v52 (by decide), ← up_10 m c main_arg9 (by decide), ← up_10 m c main_arg10 (by decide), ← up_10 m c main_arg11 (by decide), E11]
  generalize E10 m c = V
  after_reads_at
theorem e_v91 (b : Fin 4) (l : Fin 512) (n : Fin 16) : (show FVec Ideal S4x512x16 .f32 from EE m c (Proc.devRef .tc main_v91)) (ix3 b l n) = (∑ k : Fin 2048, ((show FVec Ideal S4x515x2048 .f32 from EE m c (Proc.devRef .tc main_v52)) (ix3 b ⟨l, by omega⟩ k) * (show FVec Ideal S2048x1x4 .f32 from EE m c (Proc.devRef .tc main_arg9)) (ix3 k 0 0) + (show FVec Ideal S4x515x2048 .f32 from EE m c (Proc.devRef .tc main_v52)) (ix3 b ⟨1 + l, by omega⟩ k) * (show FVec Ideal S2048x1x4 .f32 from EE m c (Proc.devRef .tc main_arg9)) (ix3 k 0 1) + (show FVec Ideal S4x515x2048 .f32 from EE m c (Proc.devRef .tc main_v52)) (ix3 b ⟨2 + l, by omega⟩ k) * (show FVec Ideal S2048x1x4 .f32 from EE m c (Proc.devRef .tc main_arg9)) (ix3 k 0 2) + (show FVec Ideal S4x515x2048 .f32 from EE m c (Proc.devRef .tc main_v52)) (ix3 b ⟨3 + l, by omega⟩ k) * (show FVec Ideal S2048x1x4 .f32 from EE m c (Proc.devRef .tc main_arg9)) (ix3 k 0 3) + (show FVec Ideal S2048 .f32 from EE m c (Proc.devRef .tc main_arg10)) (ix1 k)) * (show FVec Ideal S96x2048 .f32 from EE m c (Proc.devRef .tc main_arg11)) (ix2 ⟨64 + n, by omega⟩ k) : EReal) := by
  rw [← up_11 m c main_v91 (by decide), ← up_10 m c main_v52 (by decide), ← up_10 m c main_arg9 (by decide), ← up_10 m c main_arg10 (by decide), ← up_10 m c main_arg11 (by decide), E11]
  generalize E10 m c = V
  after_reads_at
theorem e_v92 (b : Fin 4) (l : Fin 512) (n : Fin 16) : (show FVec Ideal S4x512x16 .f32 from EE m c (Proc.devRef .tc main_v92)) (ix3 b l n) = (∑ k : Fin 2048, ((show FVec Ideal S4x515x2048 .f32 from EE m c (Proc.devRef .tc main_v52)) (ix3 b ⟨l, by omega⟩ k) * (show FVec Ideal S2048x1x4 .f32 from EE m c (Proc.devRef .tc main_arg9)) (ix3 k 0 0) + (show FVec Ideal S4x515x2048 .f32 from EE m c (Proc.devRef .tc main_v52)) (ix3 b ⟨1 + l, by omega⟩ k) * (show FVec Ideal S2048x1x4 .f32 from EE m c (Proc.devRef .tc main_arg9)) (ix3 k 0 1) + (show FVec Ideal S4x515x2048 .f32 from EE m c (Proc.devRef .tc main_v52)) (ix3 b ⟨2 + l, by omega⟩ k) * (show FVec Ideal S2048x1x4 .f32 from EE m c (Proc.devRef .tc main_arg9)) (ix3 k 0 2) + (show FVec Ideal S4x515x2048 .f32 from EE m c (Proc.devRef .tc main_v52)) (ix3 b ⟨3 + l, by omega⟩ k) * (show FVec Ideal S2048x1x4 .f32 from EE m c (Proc.devRef .tc main_arg9)) (ix3 k 0 3) + (show FVec Ideal S2048 .f32 from EE m c (Proc.devRef .tc main_arg10)) (ix1 k)) * (show FVec Ideal S96x2048 .f32 from EE m c (Proc.devRef .tc main_arg11)) (ix2 ⟨80 + n, by omega⟩ k) : EReal) := by
  rw [← up_11 m c main_v92 (by decide), ← up_10 m c main_v52 (by decide), ← up_10 m c main_arg9 (by decide), ← up_10 m c main_arg10 (by decide), ← up_10 m c main_arg11 (by decide), E11]
  generalize E10 m c = V
  after_reads_at
theorem e_v90 (b : Fin 4) (l : Fin 512) (ch : Fin 2048) : (show FVec Ideal S4x512x2048 .f32 from EE m c (Proc.devRef .tc main_v90)) (ix3 b l ch) = (∑ q : Fin 64, (∑ k : Fin 2048, ((show FVec Ideal S4x515x2048 .f32 from EE m c (Proc.devRef .tc main_v52)) (ix3 b ⟨l, by omega⟩ k) * (show FVec Ideal S2048x1x4 .f32 from EE m c (Proc.devRef .tc main_arg9)) (ix3 k 0 0) + (show FVec Ideal S4x515x2048 .f32 from EE m c (Proc.devRef .tc main_v52)) (ix3 b ⟨1 + l, by omega⟩ k) * (show FVec Ideal S2048x1x4 .f32 from EE m c (Proc.devRef .tc main_arg9)) (ix3 k 0 1) + (show FVec Ideal S4x515x2048 .f32 from EE m c (Proc.devRef .tc main_v52)) (ix3 b ⟨2 + l, by omega⟩ k) * (show FVec Ideal S2048x1x4 .f32 from EE m c (Proc.devRef .tc main_arg9)) (ix3 k 0 2) + (show FVec Ideal S4x515x2048 .f32 from EE m c (Proc.devRef .tc main_v52)) (ix3 b ⟨3 + l, by omega⟩ k) * (show FVec Ideal S2048x1x4 .f32 from EE m c (Proc.devRef .tc main_arg9)) (ix3 k 0 3) + (show FVec Ideal S2048 .f32 from EE m c (Proc.devRef .tc main_arg10)) (ix1 k)) * (show FVec Ideal S96x2048 .f32 from EE m c (Proc.devRef .tc main_arg11)) (ix2 ⟨q, by omega⟩ k)) * (show FVec Ideal S2048x64 .f32 from EE m c (Proc.devRef .tc main_arg12)) (ix2 ch q) + (show FVec Ideal S2048 .f32 from EE m c (Proc.devRef .tc main_arg13)) (ix1 ch) : EReal) := by
  rw [← up_11 m c main_v90 (by decide), ← up_10 m c main_v52 (by decide), ← up_10 m c main_arg9 (by decide), ← up_10 m c main_arg10 (by decide), ← up_10 m c main_arg11 (by decide), ← up_10 m c main_arg12 (by decide), ← up_10 m c main_arg13 (by decide), E11]
  generalize E10 m c = V
  after_reads_at
theorem e_v93 (b : Fin 4) (l : Fin 512) (ch : Fin 2048) : (show FVec Ideal S4x512x2048 .f32 from EE m c (Proc.devRef .tc main_v93)) (ix3 b l ch) = (min ((show FVec Ideal S_ .f32 from EE m c (Proc.devRef .tc main_cst_5)) ix0) (max ((show FVec Ideal S_ .f32 from EE m c (Proc.devRef .tc main_cst_4)) ix0) ((show FVec Ideal S4x512x2048 .f32 from EE m c (Proc.devRef .tc main_v82)) (ix3 b l ch))) : EReal) := by
  rw [← up_12 m c main_v93 (by decide), ← up_11 m c main_cst_5 (by decide), ← up_11 m c main_cst_4 (by decide), ← up_11 m c main_v82 (by decide), E12]
  generalize E11 m c = V
  after_reads_at
  try simp only [id_eq]
theorem e_v94 (b : Fin 4) (l : Fin 512) (ch : Fin 2048) : (show FVec Ideal S4x512x2048 .f32 from EE m c (Proc.devRef .tc main_v94)) (ix3 b l ch) = (min ((show FVec Ideal S_ .f32 from EE m c (Proc.devRef .tc main_cst_7)) ix0) (max ((show FVec Ideal S_ .f32 from EE m c (Proc.devRef .tc main_cst_6)) ix0) ((show FVec Ideal S4x512x2048 .f32 from EE m c (Proc.devRef .tc main_v90)) (ix3 b l ch))) : EReal) := by
  rw [← up_14 m c main_v94 (by decide), ← up_13 m c main_cst_7 (by decide), ← up_13 m c main_cst_6 (by decide), ← up_13 m c main_v90 (by decide), E14]
  generalize E13 m c = V
  after_reads_at
  try simp only [id_eq]
theorem e_v97 (b : Fin 4) (l : Fin 512) (ch : Fin 2048) : (show FVec Ideal S4x512x2048 .f32 from EE m c (Proc.devRef .tc main_v97)) (ix3 b l ch) = ((show FVec Ideal S4x512x2048 .f32 from EE m c (Proc.devRef .tc main_v94)) (ix3 b l ch) + (show FVec Ideal S2048 .f32 from EE m c (Proc.devRef .tc main_arg13)) (ix1 ch) : EReal) := by
  rw [← up_15 m c main_v97 (by decide), ← up_14 m c main_v94 (by decide), ← up_14 m c main_arg13 (by decide), E15]
  generalize E14 m c = V
  after_reads_at
theorem e_v98 (b : Fin 4) (l : Fin 512) (ch : Fin 2048) : (show FVec Ideal S4x512x2048 .f32 from EE m c (Proc.devRef .tc main_v98)) (ix3 b l ch) = (softplus ((show FVec Ideal S4x512x2048 .f32 from EE m c (Proc.devRef .tc main_v97)) (ix3 b l ch)) : EReal) := by
  rw [← up_16 m c main_v98 (by decide), ← up_15 m c main_v97 (by decide), E16]
  generalize E15 m c = V
  after_reads_at
  exact if_neg (fun h => h rfl)
theorem e_arg0 : EE m c (Proc.devRef .tc main_arg0) = m ((c.tc : Thread nD τ).loc main_arg0) := (up_0 m c main_arg0 (by decide)).symm
theorem e_arg1 : EE m c (Proc.devRef .tc main_arg1) = m ((c.tc : Thread nD τ).loc main_arg1) := (up_0 m c main_arg1 (by decide)).symm
theorem e_arg2 : EE m c (Proc.devRef .tc main_arg2) = m ((c.tc : Thread nD τ).loc main_arg2) := (up_0 m c main_arg2 (by decide)).symm
theorem e_arg3 : EE m c (Proc.devRef .tc main_arg3) = m ((c.tc : Thread nD τ).loc main_arg3) := (up_0 m c main_arg3 (by decide)).symm
theorem e_arg4 : EE m c (Proc.devRef .tc main_arg4) = m ((c.tc : Thread nD τ).loc main_arg4) := (up_0 m c main_arg4 (by decide)).symm
theorem e_arg5 : EE m c (Proc.devRef .tc main_arg5) = m ((c.tc : Thread nD τ).loc main_arg5) := (up_0 m c main_arg5 (by decide)).symm
theorem e_arg6 : EE m c (Proc.devRef .tc main_arg6) = m ((c.tc : Thread nD τ).loc main_arg6) := (up_0 m c main_arg6 (by decide)).symm
theorem e_arg7 : EE m c (Proc.devRef .tc main_arg7) = m ((c.tc : Thread nD τ).loc main_arg7) := (up_0 m c main_arg7 (by decide)).symm
theorem e_arg8 : EE m c (Proc.devRef .tc main_arg8) = m ((c.tc : Thread nD τ).loc main_arg8) := (up_0 m c main_arg8 (by decide)).symm
theorem e_arg9 : EE m c (Proc.devRef .tc main_arg9) = m ((c.tc : Thread nD τ).loc main_arg9) := (up_0 m c main_arg9 (by decide)).symm
theorem e_arg10 : EE m c (Proc.devRef .tc main_arg10) = m ((c.tc : Thread nD τ).loc main_arg10) := (up_0 m c main_arg10 (by decide)).symm
theorem e_arg11 : EE m c (Proc.devRef .tc main_arg11) = m ((c.tc : Thread nD τ).loc main_arg11) := (up_0 m c main_arg11 (by decide)).symm
theorem e_arg12 : EE m c (Proc.devRef .tc main_arg12) = m ((c.tc : Thread nD τ).loc main_arg12) := (up_0 m c main_arg12 (by decide)).symm
theorem e_arg13 : EE m c (Proc.devRef .tc main_arg13) = m ((c.tc : Thread nD τ).loc main_arg13) := (up_0 m c main_arg13 (by decide)).symm
theorem e_arg14 : EE m c (Proc.devRef .tc main_arg14) = m ((c.tc : Thread nD τ).loc main_arg14) := (up_0 m c main_arg14 (by decide)).symm
theorem e_arg15 : EE m c (Proc.devRef .tc main_arg15) = m ((c.tc : Thread nD τ).loc main_arg15) := (up_0 m c main_arg15 (by decide)).symm
theorem e_arg16 : EE m c (Proc.devRef .tc main_arg16) = m ((c.tc : Thread nD τ).loc main_arg16) := (up_0 m c main_arg16 (by decide)).symm

end Cert.ReferenceIdeal.Whole

end
-- ==== Proof.RI.Entry.lean ====
/- The loop's operands and the values the end reads, as the mathematics names them. -/
module

public import proofs.«01_k».proof.Proof.RI.Pre

@[expose] public section

set_option maxRecDepth 16384

noncomputable section

namespace Cert.ReferenceIdeal.Whole

open Cert.ReferenceIdeal Cert.ReferenceIdeal.Gen Cert.ReferenceIdeal.Value
open Idealize.ShloMosaic Idealize.ShloMosaic.TcCoe
open Idealize.SL.Sem
open Idealize.ShloMosaic.StableHlo
open Cert.Spec

/-- Two rows put one above the other. -/
theorem stack2 (x y : FVec Ideal S2048 .f32) (d : Fin 2) (ch : Fin 2048) :
    concatenate S2x2048 0 [⟨S1x2048, broadcastInDim S1x2048 ![1] bcast_S2048_S1x2048_1 x⟩, ⟨S1x2048, broadcastInDim S1x2048 ![1] bcast_S2048_S1x2048_1 y⟩] concatenates_S1x2048_S1x2048_S2x2048_d0 (ix2 d ch)
      = if d = 0 then x (ix1 ch) else y (ix1 ch) := by
  fin_cases d
  · show concatenate S2x2048 0 _ _ (ix2 0 ch) = x (ix1 ch)
    pointwise
  · show concatenate S2x2048 0 _ _ (ix2 1 ch) = y (ix1 ch)
    pointwise
/-- Two sequences put one above the other. -/
theorem stack4 (x y : FVec Ideal S4x512x2048 .f32) (d : Fin 2) (b : Fin 4) (l : Fin 512) (ch : Fin 2048) :
    concatenate S2x4x512x2048 0 [⟨S1x4x512x2048, broadcastInDim S1x4x512x2048 ![1, 2, 3] bcast_S4x512x2048_S1x4x512x2048_1_2_3 x⟩, ⟨S1x4x512x2048, broadcastInDim S1x4x512x2048 ![1, 2, 3] bcast_S4x512x2048_S1x4x512x2048_1_2_3 y⟩] concatenates_S1x4x512x2048_S1x4x512x2048_S2x4x512x2048_d0 (ix4 d b l ch)
      = if d = 0 then x (ix3 b l ch) else y (ix3 b l ch) := by
  fin_cases d
  · show concatenate S2x4x512x2048 0 _ _ (ix4 0 b l ch) = x (ix3 b l ch)
    pointwise
  · show concatenate S2x4x512x2048 0 _ _ (ix4 1 b l ch) = y (ix3 b l ch)
    pointwise
section
variable (V : Valuation τ sig (Elt Ideal))
theorem st_v125_0_0 (t : Fin 512) (b : Fin 4) (ch : Fin 2048) :
    (show FVec Ideal S512x2x4x2048 .f32 from after hostOps0_16 V (Proc.devRef .tc main_v125_0)) (ix4 t 0 b ch)
    = ((show FVec Ideal S4x512x2048 .f32 from V (Proc.devRef .tc main_v45)) (ix3 b t ch) : EReal) := by
  after_results; try simp only [id_eq]; clean_types; pointwise
theorem st_v125_0_1 (t : Fin 512) (b : Fin 4) (ch : Fin 2048) :
    (show FVec Ideal S512x2x4x2048 .f32 from after hostOps0_16 V (Proc.devRef .tc main_v125_0)) (ix4 t 1 b ch)
    = ((show FVec Ideal S4x512x2048 .f32 from V (Proc.devRef .tc main_v93)) (ix3 b t ch) : EReal) := by
  after_results; try simp only [id_eq]; clean_types; pointwise
theorem st_v125_1_0 (t : Fin 512) (b : Fin 4) (ch : Fin 2048) :
    (show FVec Ideal S512x2x4x2048 .f32 from after hostOps0_16 V (Proc.devRef .tc main_v125_1)) (ix4 t 0 b ch)
    = ((show FVec Ideal S4x512x2048 .f32 from V (Proc.devRef .tc main_v50)) (ix3 b t ch) : EReal) := by
  after_results; try simp only [id_eq]; clean_types; pointwise
theorem st_v125_1_1 (t : Fin 512) (b : Fin 4) (ch : Fin 2048) :
    (show FVec Ideal S512x2x4x2048 .f32 from after hostOps0_16 V (Proc.devRef .tc main_v125_1)) (ix4 t 1 b ch)
    = ((show FVec Ideal S4x512x2048 .f32 from V (Proc.devRef .tc main_v98)) (ix3 b t ch) : EReal) := by
  after_results; try simp only [id_eq]; clean_types; pointwise
theorem st_v125_2_0 (t : Fin 512) (b : Fin 4) (ch : Fin 16) :
    (show FVec Ideal S512x2x4x16 .f32 from after hostOps0_16 V (Proc.devRef .tc main_v125_2)) (ix4 t 0 b ch)
    = ((show FVec Ideal S4x512x16 .f32 from V (Proc.devRef .tc main_v43)) (ix3 b t ch) : EReal) := by
  after_results; try simp only [id_eq]; clean_types; pointwise
theorem st_v125_2_1 (t : Fin 512) (b : Fin 4) (ch : Fin 16) :
    (show FVec Ideal S512x2x4x16 .f32 from after hostOps0_16 V (Proc.devRef .tc main_v125_2)) (ix4 t 1 b ch)
    = ((show FVec Ideal S4x512x16 .f32 from V (Proc.devRef .tc main_v91)) (ix3 b t ch) : EReal) := by
  after_results; try simp only [id_eq]; clean_types; pointwise
theorem st_v125_3_0 (t : Fin 512) (b : Fin 4) (ch : Fin 16) :
    (show FVec Ideal S512x2x4x16 .f32 from after hostOps0_16 V (Proc.devRef .tc main_v125_3)) (ix4 t 0 b ch)
    = ((show FVec Ideal S4x512x16 .f32 from V (Proc.devRef .tc main_v44)) (ix3 b t ch) : EReal) := by
  after_results; try simp only [id_eq]; clean_types; pointwise
theorem st_v125_3_1 (t : Fin 512) (b : Fin 4) (ch : Fin 16) :
    (show FVec Ideal S512x2x4x16 .f32 from after hostOps0_16 V (Proc.devRef .tc main_v125_3)) (ix4 t 1 b ch)
    = ((show FVec Ideal S4x512x16 .f32 from V (Proc.devRef .tc main_v92)) (ix3 b t ch) : EReal) := by
  after_results; try simp only [id_eq]; clean_types; pointwise
theorem st_v125_4_0 (ch : Fin 2048) (n : Fin 16) :
    (show FVec Ideal S2x2048x16 .f32 from after hostOps0_16 V (Proc.devRef .tc main_v125_4)) (ix3 0 ch n)
    = (-Ideal.exp ((show FVec Ideal S2048x16 .f32 from V (Proc.devRef .tc main_arg7)) (ix2 ch n)) : EReal) := by
  after_results; try simp only [id_eq]; clean_types; pointwise
theorem st_v125_4_1 (ch : Fin 2048) (n : Fin 16) :
    (show FVec Ideal S2x2048x16 .f32 from after hostOps0_16 V (Proc.devRef .tc main_v125_4)) (ix3 1 ch n)
    = (-Ideal.exp ((show FVec Ideal S2048x16 .f32 from V (Proc.devRef .tc main_arg14)) (ix2 ch n)) : EReal) := by
  after_results; try simp only [id_eq]; clean_types; pointwise
theorem st_v118_0 (ch : Fin 2048) :
    (show FVec Ideal S2x2048 .f32 from after hostOps0_16 V (Proc.devRef .tc main_v118)) (ix2 0 ch)
    = ((show FVec Ideal S2048 .f32 from V (Proc.devRef .tc main_arg8)) (ix1 ch) : EReal) := by
  after_results
  exact stack2 _ _ 0 ch
theorem st_v118_1 (ch : Fin 2048) :
    (show FVec Ideal S2x2048 .f32 from after hostOps0_16 V (Proc.devRef .tc main_v118)) (ix2 1 ch)
    = ((show FVec Ideal S2048 .f32 from V (Proc.devRef .tc main_arg15)) (ix1 ch) : EReal) := by
  after_results
  exact stack2 _ _ 1 ch
theorem st_v101_0 (b : Fin 4) (l : Fin 512) (ch : Fin 2048) :
    (show FVec Ideal S2x4x512x2048 .f32 from after hostOps0_16 V (Proc.devRef .tc main_v101)) (ix4 0 b l ch)
    = ((show FVec Ideal S4x512x2048 .f32 from V (Proc.devRef .tc main_v45)) (ix3 b l ch) : EReal) := by
  after_results
  exact stack4 _ _ 0 b l ch
theorem st_v101_1 (b : Fin 4) (l : Fin 512) (ch : Fin 2048) :
    (show FVec Ideal S2x4x512x2048 .f32 from after hostOps0_16 V (Proc.devRef .tc main_v101)) (ix4 1 b l ch)
    = ((show FVec Ideal S4x512x2048 .f32 from V (Proc.devRef .tc main_v93)) (ix3 b l ch) : EReal) := by
  after_results
  exact stack4 _ _ 1 b l ch
theorem st_v125_6 (i : S2x4x2048x16.Idx) :
    (show FVec Ideal S2x4x2048x16 .f32 from after hostOps0_16 V (Proc.devRef .tc main_v125_6)) i = (0 : EReal) := by
  after_results; try simp only [id_eq]; clean_types; pointwise
end

variable (m : (ℓ : Loc nD τ sig) → Buf (Elt Ideal) ℓ) (c : Dev nD)

/-- The inputs at launch. -/
def inp : In where
  hid := (show FVec Ideal S4x512x1024 .f32 from m ((c.tc : Thread nD τ).loc main_arg0))
  w := (show FVec Ideal S4096x1024 .f32 from m ((c.tc : Thread nD τ).loc main_arg1))
  Pf := ⟨(show FVec Ideal S2048x1x4 .f32 from m ((c.tc : Thread nD τ).loc main_arg2)), (show FVec Ideal S2048 .f32 from m ((c.tc : Thread nD τ).loc main_arg3)), (show FVec Ideal S96x2048 .f32 from m ((c.tc : Thread nD τ).loc main_arg4)), (show FVec Ideal S2048x64 .f32 from m ((c.tc : Thread nD τ).loc main_arg5)), (show FVec Ideal S2048 .f32 from m ((c.tc : Thread nD τ).loc main_arg6))⟩
  Pb := ⟨(show FVec Ideal S2048x1x4 .f32 from m ((c.tc : Thread nD τ).loc main_arg9)), (show FVec Ideal S2048 .f32 from m ((c.tc : Thread nD τ).loc main_arg10)), (show FVec Ideal S96x2048 .f32 from m ((c.tc : Thread nD τ).loc main_arg11)), (show FVec Ideal S2048x64 .f32 from m ((c.tc : Thread nD τ).loc main_arg12)), (show FVec Ideal S2048 .f32 from m ((c.tc : Thread nD τ).loc main_arg13))⟩
  al := (show FVec Ideal S2048x16 .f32 from m ((c.tc : Thread nD τ).loc main_arg7))
  alb := (show FVec Ideal S2048x16 .f32 from m ((c.tc : Thread nD τ).loc main_arg14))
  D := (show FVec Ideal S2048 .f32 from m ((c.tc : Thread nD τ).loc main_arg8))
  Db := (show FVec Ideal S2048 .f32 from m ((c.tc : Thread nD τ).loc main_arg15))
  wo := (show FVec Ideal S1024x2048 .f32 from m ((c.tc : Thread nD τ).loc main_arg16))

theorem q_v2 (b : Fin 4) (l : Fin 512) (ch : Fin 2048) : (show FVec Ideal S4x512x2048 .f32 from EE m c (Proc.devRef .tc main_v2)) (ix3 b l ch) = (inp m c).s 0 b l ch := by
  rw [e_v2]; simp only [e_arg0, e_arg1]; rfl
theorem q_v3 (b : Fin 4) (l : Fin 512) (ch : Fin 2048) : (show FVec Ideal S4x512x2048 .f32 from EE m c (Proc.devRef .tc main_v3)) (ix3 b l ch) = sz (inp m c).hid (inp m c).w b l ch := by
  rw [e_v3]; simp only [e_arg0, e_arg1]; rfl
theorem q_v51 (b : Fin 4) (l : Fin 512) (ch : Fin 2048) : (show FVec Ideal S4x512x2048 .f32 from EE m c (Proc.devRef .tc main_v51)) (ix3 b l ch) = (inp m c).s 1 b l ch := by
  rw [e_v51, q_v2]; rfl
theorem q_v4 (b : Fin 4) (l : Fin 515) (ch : Fin 2048) : (show FVec Ideal S4x515x2048 .f32 from EE m c (Proc.devRef .tc main_v4)) (ix3 b l ch) = (pad3 ((inp m c).s 0 b) l ch : EReal) := by
  rw [e_v4]; exact congrArg (fun f => pad3 f l ch) (funext fun l => funext fun ch => q_v2 m c b l ch)
theorem q_v34 (b : Fin 4) (l : Fin 512) (ch : Fin 2048) : (show FVec Ideal S4x512x2048 .f32 from EE m c (Proc.devRef .tc main_v34)) (ix3 b l ch) = (conv ((inp m c).P 0) ((inp m c).s 0 b) l ch : EReal) := by
  rw [e_v34]; rw [q_v4, q_v4, q_v4, q_v4, e_arg2, e_arg3]; rfl
theorem q_v36 (b : Fin 4) (l : Fin 512) (r : Fin 96) : (show FVec Ideal S4x512x96 .f32 from EE m c (Proc.devRef .tc main_v36)) (ix3 b l r) = (xdbl ((inp m c).P 0) ((inp m c).s 0 b) l r : EReal) := by
  refine (e_v36 m c b l r).trans ?_
  unfold xdbl
  refine Finset.sum_congr rfl fun k _ => ?_
  refine congrArg₂ (fun a b : EReal => a * b) ((e_v34 m c b l k).symm.trans (q_v34 m c b l k)) ?_
  rw [e_arg4]; rfl
theorem q_v43 (b : Fin 4) (l : Fin 512) (n : Fin 16) : (show FVec Ideal S4x512x16 .f32 from EE m c (Proc.devRef .tc main_v43)) (ix3 b l n) = (Bm ((inp m c).P 0) ((inp m c).s 0 b) l n : EReal) := by
  refine (e_v43 m c b l n).trans ?_
  unfold Bm xdbl
  refine Finset.sum_congr rfl fun k _ => ?_
  refine congrArg₂ (fun a b : EReal => a * b) ((e_v34 m c b l k).symm.trans (q_v34 m c b l k)) ?_
  rw [e_arg4]; rfl
theorem q_v44 (b : Fin 4) (l : Fin 512) (n : Fin 16) : (show FVec Ideal S4x512x16 .f32 from EE m c (Proc.devRef .tc main_v44)) (ix3 b l n) = (Cm ((inp m c).P 0) ((inp m c).s 0 b) l n : EReal) := by
  refine (e_v44 m c b l n).trans ?_
  unfold Cm xdbl
  refine Finset.sum_congr rfl fun k _ => ?_
  refine congrArg₂ (fun a b : EReal => a * b) ((e_v34 m c b l k).symm.trans (q_v34 m c b l k)) ?_
  rw [e_arg4]; rfl
theorem q_v42 (b : Fin 4) (l : Fin 512) (ch : Fin 2048) : (show FVec Ideal S4x512x2048 .f32 from EE m c (Proc.devRef .tc main_v42)) (ix3 b l ch) = (dtl ((inp m c).P 0) ((inp m c).s 0 b) l ch : EReal) := by
  refine (e_v42 m c b l ch).trans ?_
  unfold dtl
  refine congrArg₂ (fun a b : EReal => a + b) (Finset.sum_congr rfl fun q _ => ?_) ?_
  · refine congrArg₂ (fun a b : EReal => a * b) ((e_v36 m c b l ⟨q, by omega⟩).symm.trans (q_v36 m c b l ⟨q, by omega⟩)) ?_
    rw [e_arg5]; rfl
  · rw [e_arg6]; rfl
theorem q_v45 (b : Fin 4) (l : Fin 512) (ch : Fin 2048) : (show FVec Ideal S4x512x2048 .f32 from EE m c (Proc.devRef .tc main_v45)) (ix3 b l ch) = ((inp m c).u 0 b l ch : EReal) := by
  rw [e_v45, q_v34, e_cst, e_cst_0]; rfl
theorem q_v46 (b : Fin 4) (l : Fin 512) (ch : Fin 2048) : (show FVec Ideal S4x512x2048 .f32 from EE m c (Proc.devRef .tc main_v46)) (ix3 b l ch) = (min 1 (max (Ideal.ofBits .f32 0x3727C5AC#32) (dtl ((inp m c).P 0) ((inp m c).s 0 b) l ch)) : EReal) := by
  rw [e_v46, q_v42, e_cst_1, e_cst_2, Ideal.ofBits_one_f32]
theorem q_v49 (b : Fin 4) (l : Fin 512) (ch : Fin 2048) : (show FVec Ideal S4x512x2048 .f32 from EE m c (Proc.devRef .tc main_v49)) (ix3 b l ch) = (dv ((inp m c).P 0) ((inp m c).s 0 b) l ch : EReal) := by
  rw [e_v49, q_v46, e_arg6]; rfl
theorem q_v50 (b : Fin 4) (l : Fin 512) (ch : Fin 2048) : (show FVec Ideal S4x512x2048 .f32 from EE m c (Proc.devRef .tc main_v50)) (ix3 b l ch) = (delta ((inp m c).P 0) ((inp m c).s 0 b) l ch : EReal) := by
  rw [e_v50, q_v49]; rfl
theorem q_v52 (b : Fin 4) (l : Fin 515) (ch : Fin 2048) : (show FVec Ideal S4x515x2048 .f32 from EE m c (Proc.devRef .tc main_v52)) (ix3 b l ch) = (pad3 ((inp m c).s 1 b) l ch : EReal) := by
  rw [e_v52]; exact congrArg (fun f => pad3 f l ch) (funext fun l => funext fun ch => q_v51 m c b l ch)
theorem q_v82 (b : Fin 4) (l : Fin 512) (ch : Fin 2048) : (show FVec Ideal S4x512x2048 .f32 from EE m c (Proc.devRef .tc main_v82)) (ix3 b l ch) = (conv ((inp m c).P 1) ((inp m c).s 1 b) l ch : EReal) := by
  rw [e_v82]; rw [q_v52, q_v52, q_v52, q_v52, e_arg9, e_arg10]; rfl
theorem q_v84 (b : Fin 4) (l : Fin 512) (r : Fin 96) : (show FVec Ideal S4x512x96 .f32 from EE m c (Proc.devRef .tc main_v84)) (ix3 b l r) = (xdbl ((inp m c).P 1) ((inp m c).s 1 b) l r : EReal) := by
  refine (e_v84 m c b l r).trans ?_
  unfold xdbl
  refine Finset.sum_congr rfl fun k _ => ?_
  refine congrArg₂ (fun a b : EReal => a * b) ((e_v82 m c b l k).symm.trans (q_v82 m c b l k)) ?_
  rw [e_arg11]; rfl
theorem q_v91 (b : Fin 4) (l : Fin 512) (n : Fin 16) : (show FVec Ideal S4x512x16 .f32 from EE m c (Proc.devRef .tc main_v91)) (ix3 b l n) = (Bm ((inp m c).P 1) ((inp m c).s 1 b) l n : EReal) := by
  refine (e_v91 m c b l n).trans ?_
  unfold Bm xdbl
  refine Finset.sum_congr rfl fun k _ => ?_
  refine congrArg₂ (fun a b : EReal => a * b) ((e_v82 m c b l k).symm.trans (q_v82 m c b l k)) ?_
  rw [e_arg11]; rfl
theorem q_v92 (b : Fin 4) (l : Fin 512) (n : Fin 16) : (show FVec Ideal S4x512x16 .f32 from EE m c (Proc.devRef .tc main_v92)) (ix3 b l n) = (Cm ((inp m c).P 1) ((inp m c).s 1 b) l n : EReal) := by
  refine (e_v92 m c b l n).trans ?_
  unfold Cm xdbl
  refine Finset.sum_congr rfl fun k _ => ?_
  refine congrArg₂ (fun a b : EReal => a * b) ((e_v82 m c b l k).symm.trans (q_v82 m c b l k)) ?_
  rw [e_arg11]; rfl
theorem q_v90 (b : Fin 4) (l : Fin 512) (ch : Fin 2048) : (show FVec Ideal S4x512x2048 .f32 from EE m c (Proc.devRef .tc main_v90)) (ix3 b l ch) = (dtl ((inp m c).P 1) ((inp m c).s 1 b) l ch : EReal) := by
  refine (e_v90 m c b l ch).trans ?_
  unfold dtl
  refine congrArg₂ (fun a b : EReal => a + b) (Finset.sum_congr rfl fun q _ => ?_) ?_
  · refine congrArg₂ (fun a b : EReal => a * b) ((e_v84 m c b l ⟨q, by omega⟩).symm.trans (q_v84 m c b l ⟨q, by omega⟩)) ?_
    rw [e_arg12]; rfl
  · rw [e_arg13]; rfl
theorem q_v93 (b : Fin 4) (l : Fin 512) (ch : Fin 2048) : (show FVec Ideal S4x512x2048 .f32 from EE m c (Proc.devRef .tc main_v93)) (ix3 b l ch) = ((inp m c).u 1 b l ch : EReal) := by
  rw [e_v93, q_v82, e_cst_4, e_cst_5]; rfl
theorem q_v94 (b : Fin 4) (l : Fin 512) (ch : Fin 2048) : (show FVec Ideal S4x512x2048 .f32 from EE m c (Proc.devRef .tc main_v94)) (ix3 b l ch) = (min 1 (max (Ideal.ofBits .f32 0x3727C5AC#32) (dtl ((inp m c).P 1) ((inp m c).s 1 b) l ch)) : EReal) := by
  rw [e_v94, q_v90, e_cst_6, e_cst_7, Ideal.ofBits_one_f32]
theorem q_v97 (b : Fin 4) (l : Fin 512) (ch : Fin 2048) : (show FVec Ideal S4x512x2048 .f32 from EE m c (Proc.devRef .tc main_v97)) (ix3 b l ch) = (dv ((inp m c).P 1) ((inp m c).s 1 b) l ch : EReal) := by
  rw [e_v97, q_v94, e_arg13]; rfl
theorem q_v98 (b : Fin 4) (l : Fin 512) (ch : Fin 2048) : (show FVec Ideal S4x512x2048 .f32 from EE m c (Proc.devRef .tc main_v98)) (ix3 b l ch) = (delta ((inp m c).P 1) ((inp m c).s 1 b) l ch : EReal) := by
  rw [e_v98, q_v97]; rfl
theorem q_v125_0_0 (t : Fin 512) (b : Fin 4) (ch : Fin 2048) : (show FVec Ideal S512x2x4x2048 .f32 from EE m c (Proc.devRef .tc main_v125_0)) (ix4 t 0 b ch) = ((inp m c).u 0 b t ch : EReal) := by
  have h := st_v125_0_0 (E16 m c) t b ch
  rw [up_16 m c main_v45 (by decide)] at h
  exact h.trans (q_v45 m c b t ch)
theorem q_v125_1_0 (t : Fin 512) (b : Fin 4) (ch : Fin 2048) : (show FVec Ideal S512x2x4x2048 .f32 from EE m c (Proc.devRef .tc main_v125_1)) (ix4 t 0 b ch) = (delta ((inp m c).P 0) ((inp m c).s 0 b) t ch : EReal) := by
  have h := st_v125_1_0 (E16 m c) t b ch
  rw [up_16 m c main_v50 (by decide)] at h
  exact h.trans (q_v50 m c b t ch)
theorem q_v125_2_0 (t : Fin 512) (b : Fin 4) (n : Fin 16) : (show FVec Ideal S512x2x4x16 .f32 from EE m c (Proc.devRef .tc main_v125_2)) (ix4 t 0 b n) = (Bm ((inp m c).P 0) ((inp m c).s 0 b) t n : EReal) := by
  have h := st_v125_2_0 (E16 m c) t b n
  rw [up_16 m c main_v43 (by decide)] at h
  exact h.trans (q_v43 m c b t n)
theorem q_v125_3_0 (t : Fin 512) (b : Fin 4) (n : Fin 16) : (show FVec Ideal S512x2x4x16 .f32 from EE m c (Proc.devRef .tc main_v125_3)) (ix4 t 0 b n) = (Cm ((inp m c).P 0) ((inp m c).s 0 b) t n : EReal) := by
  have h := st_v125_3_0 (E16 m c) t b n
  rw [up_16 m c main_v44 (by decide)] at h
  exact h.trans (q_v44 m c b t n)
theorem q_v125_4_0 (ch : Fin 2048) (n : Fin 16) : (show FVec Ideal S2x2048x16 .f32 from EE m c (Proc.devRef .tc main_v125_4)) (ix3 0 ch n) = (-Ideal.exp ((inp m c).a 0 (ix2 ch n)) : EReal) := by
  have h := st_v125_4_0 (E16 m c) ch n
  rw [up_16 m c main_arg7 (by decide)] at h
  exact h.trans (by rw [e_arg7]; rfl)
theorem q_v118_0 (ch : Fin 2048) : (show FVec Ideal S2x2048 .f32 from EE m c (Proc.devRef .tc main_v118)) (ix2 0 ch) = ((inp m c).sk 0 (ix1 ch) : EReal) := by
  have h := st_v118_0 (E16 m c) ch
  rw [up_16 m c main_arg8 (by decide)] at h
  exact h.trans (by rw [e_arg8]; rfl)
theorem q_v101_0 (b : Fin 4) (l : Fin 512) (ch : Fin 2048) : (show FVec Ideal S2x4x512x2048 .f32 from EE m c (Proc.devRef .tc main_v101)) (ix4 0 b l ch) = ((inp m c).u 0 b l ch : EReal) := by
  have h := st_v101_0 (E16 m c) b l ch
  rw [up_16 m c main_v45 (by decide)] at h
  exact h.trans (q_v45 m c b l ch)
theorem q_v125_0_1 (t : Fin 512) (b : Fin 4) (ch : Fin 2048) : (show FVec Ideal S512x2x4x2048 .f32 from EE m c (Proc.devRef .tc main_v125_0)) (ix4 t 1 b ch) = ((inp m c).u 1 b t ch : EReal) := by
  have h := st_v125_0_1 (E16 m c) t b ch
  rw [up_16 m c main_v93 (by decide)] at h
  exact h.trans (q_v93 m c b t ch)
theorem q_v125_1_1 (t : Fin 512) (b : Fin 4) (ch : Fin 2048) : (show FVec Ideal S512x2x4x2048 .f32 from EE m c (Proc.devRef .tc main_v125_1)) (ix4 t 1 b ch) = (delta ((inp m c).P 1) ((inp m c).s 1 b) t ch : EReal) := by
  have h := st_v125_1_1 (E16 m c) t b ch
  rw [up_16 m c main_v98 (by decide)] at h
  exact h.trans (q_v98 m c b t ch)
theorem q_v125_2_1 (t : Fin 512) (b : Fin 4) (n : Fin 16) : (show FVec Ideal S512x2x4x16 .f32 from EE m c (Proc.devRef .tc main_v125_2)) (ix4 t 1 b n) = (Bm ((inp m c).P 1) ((inp m c).s 1 b) t n : EReal) := by
  have h := st_v125_2_1 (E16 m c) t b n
  rw [up_16 m c main_v91 (by decide)] at h
  exact h.trans (q_v91 m c b t n)
theorem q_v125_3_1 (t : Fin 512) (b : Fin 4) (n : Fin 16) : (show FVec Ideal S512x2x4x16 .f32 from EE m c (Proc.devRef .tc main_v125_3)) (ix4 t 1 b n) = (Cm ((inp m c).P 1) ((inp m c).s 1 b) t n : EReal) := by
  have h := st_v125_3_1 (E16 m c) t b n
  rw [up_16 m c main_v92 (by decide)] at h
  exact h.trans (q_v92 m c b t n)
theorem q_v125_4_1 (ch : Fin 2048) (n : Fin 16) : (show FVec Ideal S2x2048x16 .f32 from EE m c (Proc.devRef .tc main_v125_4)) (ix3 1 ch n) = (-Ideal.exp ((inp m c).a 1 (ix2 ch n)) : EReal) := by
  have h := st_v125_4_1 (E16 m c) ch n
  rw [up_16 m c main_arg14 (by decide)] at h
  exact h.trans (by rw [e_arg14]; rfl)
theorem q_v118_1 (ch : Fin 2048) : (show FVec Ideal S2x2048 .f32 from EE m c (Proc.devRef .tc main_v118)) (ix2 1 ch) = ((inp m c).sk 1 (ix1 ch) : EReal) := by
  have h := st_v118_1 (E16 m c) ch
  rw [up_16 m c main_arg15 (by decide)] at h
  exact h.trans (by rw [e_arg15]; rfl)
theorem q_v101_1 (b : Fin 4) (l : Fin 512) (ch : Fin 2048) : (show FVec Ideal S2x4x512x2048 .f32 from EE m c (Proc.devRef .tc main_v101)) (ix4 1 b l ch) = ((inp m c).u 1 b l ch : EReal) := by
  have h := st_v101_1 (E16 m c) b l ch
  rw [up_16 m c main_v93 (by decide)] at h
  exact h.trans (q_v93 m c b l ch)
theorem q_v125_6 (i : S2x4x2048x16.Idx) : (show FVec Ideal S2x4x2048x16 .f32 from EE m c (Proc.devRef .tc main_v125_6)) i = (0 : EReal) := st_v125_6 (E16 m c) i

end Cert.ReferenceIdeal.Whole

end
-- ==== Proof.RI.Trip.lean ====
/- One trip of the reference's loop, read at an element. -/
module

public import proofs.«01_k».proof.Proof.RI.Frame
public import proofs.«01_k».proof.Proof.V.Spec
public import Idealize.ShloMosaic.Lib.Tactic.CleanTypes
public import Idealize.ShloMosaic.Lib.DynamicIndex
public import Idealize.ShloMosaic.Lib.WordCmp

@[expose] public section

set_option maxRecDepth 16384

noncomputable section

namespace Cert.ReferenceIdeal.Whole

open Cert.ReferenceIdeal Cert.ReferenceIdeal.Gen Cert.ReferenceIdeal.Value
open Idealize.ShloMosaic Idealize.ShloMosaic.TcCoe
open Idealize.SL.Sem
open Idealize.ShloMosaic.StableHlo

/-- The counter before trip `k`, read signed. -/
theorem iv_toInt (k : ℕ) (hk : k < 512) : (Scf.iv 0#32 1#32 k).toInt = (k : ℤ) := by
  have e : Scf.iv 0#32 1#32 k = BitVec.ofNat 32 k := by simp [Scf.iv]
  rw [e]; exact toInt_ofNat_of_lt (by omega)

/-- The four starts of a trip's slices. -/
abbrev starts (ctr : (⟨S_, .i32⟩ : BufTy).Contents (Elt Ideal)) : Fin 4 → ℤ :=
  fun k => (((![ctr, constantI S_ 32 0#32, constantI S_ 32 0#32, constantI S_ 32 0#32] : Fin 4 → (⟨S_, .i32⟩ : BufTy).Contents (Elt Ideal))) k (Shape.Idx.first h_S_)).toInt

theorem starts_eq (ctr : (⟨S_, .i32⟩ : BufTy).Contents (Elt Ideal)) (k : ℕ) (hk : k < 512) (hc : ctr = fun _ => Scf.iv 0#32 1#32 k) (a : Fin 4) :
    starts ctr a = ((![k, 0, 0, 0] : Fin 4 → ℕ) a : ℤ) := by
  subst hc
  fin_cases a
  · exact iv_toInt k hk
  · rfl
  · rfl
  · rfl

/-- A trip's slice of a wide sequence. -/
theorem slice_w (x : FVec Ideal S512x2x4x2048 .f32) (ctr : (⟨S_, .i32⟩ : BufTy).Contents (Elt Ideal)) (k : ℕ) (hk : k < 512)
    (hc : ctr = fun _ => Scf.iv 0#32 1#32 k) (d : Fin 2) (b : Fin 4) (ch : Fin 2048) :
    shapeCast S2x4x2048 (Host.dynamicSlice S1x2x4x2048 x (starts ctr) sliceFits_S512x2x4x2048_S1x2x4x2048) shapeCasts_S1x2x4x2048_S2x4x2048 (ix3 d b ch)
      = x (ix4 ⟨k, hk⟩ d b ch) := by
  have hoff : S512x2x4x2048.Slices ![k, 0, 0, 0] S1x2x4x2048 := ⟨rfl, fun a => by
    fin_cases a <;> simp [S512x2x4x2048, S1x2x4x2048] <;> omega⟩
  rw [Host.dynamicSlice_eq_extractStridedSlice S1x2x4x2048 x _ ![k, 0, 0, 0] _ hoff (starts_eq ctr k hk hc)]
  pointwise

/-- A trip's slice of a narrow sequence. -/
theorem slice_n (x : FVec Ideal S512x2x4x16 .f32) (ctr : (⟨S_, .i32⟩ : BufTy).Contents (Elt Ideal)) (k : ℕ) (hk : k < 512)
    (hc : ctr = fun _ => Scf.iv 0#32 1#32 k) (d : Fin 2) (b : Fin 4) (n : Fin 16) :
    shapeCast S2x4x16 (Host.dynamicSlice S1x2x4x16 x (starts ctr) sliceFits_S512x2x4x16_S1x2x4x16) shapeCasts_S1x2x4x16_S2x4x16 (ix3 d b n)
      = x (ix4 ⟨k, hk⟩ d b n) := by
  have hoff : S512x2x4x16.Slices ![k, 0, 0, 0] S1x2x4x16 := ⟨rfl, fun a => by
    fin_cases a <;> simp [S512x2x4x16, S1x2x4x16] <;> omega⟩
  rw [Host.dynamicSlice_eq_extractStridedSlice S1x2x4x16 x _ ![k, 0, 0, 0] _ hoff (starts_eq ctr k hk hc)]
  pointwise

/-- The state's step, from a trip's slices. -/
def hterm (dt u : FVec Ideal S2x4x2048 .f32) (A : FVec Ideal S2x2048x16 .f32) (h : FVec Ideal S2x4x2048x16 .f32) (B : FVec Ideal S2x4x16 .f32) :
    FVec Ideal S2x4x2048x16 .f32 :=
  addf (mulf (Host.exp (mulf (broadcastInDim S2x4x2048x16 ![0, 1, 2, 3] bcast_S2x4x2048x1_S2x4x2048x16_0_1_2_3 (broadcastInDim S2x4x2048x1 ![0, 1, 2] bcast_S2x4x2048_S2x4x2048x1_0_1_2 dt)) (broadcastInDim S2x4x2048x16 ![0, 1, 2, 3] bcast_S2x1x2048x16_S2x4x2048x16_0_1_2_3 (broadcastInDim S2x1x2048x16 ![0, 2, 3] bcast_S2x2048x16_S2x1x2048x16_0_2_3 A)))) h) (mulf (broadcastInDim S2x4x2048x16 ![0, 1, 2, 3] bcast_S2x4x2048x1_S2x4x2048x16_0_1_2_3 (broadcastInDim S2x4x2048x1 ![0, 1, 2] bcast_S2x4x2048_S2x4x2048x1_0_1_2 (mulf dt u))) (broadcastInDim S2x4x2048x16 ![0, 1, 2, 3] bcast_S2x4x1x16_S2x4x2048x16_0_1_2_3 (broadcastInDim S2x4x1x16 ![0, 1, 3] bcast_S2x4x16_S2x4x1x16_0_1_3 B)))

theorem hterm_apply (dt u : FVec Ideal S2x4x2048 .f32) (A : FVec Ideal S2x2048x16 .f32) (h : FVec Ideal S2x4x2048x16 .f32) (B : FVec Ideal S2x4x16 .f32)
    (d : Fin 2) (b : Fin 4) (ch : Fin 2048) (n : Fin 16) :
    hterm dt u A h B (ix4 d b ch n)
      = (Ideal.exp (dt (ix3 d b ch) * A (ix3 d ch n)) * h (ix4 d b ch n) + dt (ix3 d b ch) * u (ix3 d b ch) * B (ix3 d b n) : EReal) := by
  pointwise [hterm]

/-- The output's row, from the state and a trip's slice. -/
def yterm (h : FVec Ideal S2x4x2048x16 .f32) (C : FVec Ideal S2x4x16 .f32) : FVec Ideal S2x4x2048 .f32 :=
  Host.reduceAdd (mulf h (broadcastInDim S2x4x2048x16 ![0, 1, 2, 3] bcast_S2x4x1x16_S2x4x2048x16_0_1_2_3 (broadcastInDim S2x4x1x16 ![0, 1, 3] bcast_S2x4x16_S2x4x1x16_0_1_3 C))) (constant S_ .f32 0x00000000#32) reducesTo_S2x4x2048x16_S2x4x2048_d3 h_S_

theorem yterm_apply (h : FVec Ideal S2x4x2048x16 .f32) (C : FVec Ideal S2x4x16 .f32) (d : Fin 2) (b : Fin 4) (ch : Fin 2048) :
    yterm h C (ix3 d b ch) = (∑ n : Fin 16, h (ix4 d b ch n) * C (ix3 d b n) : EReal) := by
  pointwise [yterm]

/-- The rows after a trip's row is written. -/
theorem upd_apply (x : FVec Ideal S512x2x4x2048 .f32) (r : FVec Ideal S2x4x2048 .f32) (ctr : (⟨S_, .i32⟩ : BufTy).Contents (Elt Ideal)) (k : ℕ) (hk : k < 512)
    (hc : ctr = fun _ => Scf.iv 0#32 1#32 k) (t : Fin 512) (d : Fin 2) (b : Fin 4) (ch : Fin 2048) :
    Host.dynamicUpdateSlice x (broadcastInDim S1x2x4x2048 ![1, 2, 3] bcast_S2x4x2048_S1x2x4x2048_1_2_3 r) (starts ctr) updateFits_S512x2x4x2048_S1x2x4x2048 (ix4 t d b ch)
      = if t.val = k then r (ix3 d b ch) else x (ix4 t d b ch) := by
  have hoff : S512x2x4x2048.Slices ![k, 0, 0, 0] S1x2x4x2048 := ⟨rfl, fun a => by
    fin_cases a <;> simp [S512x2x4x2048, S1x2x4x2048] <;> omega⟩
  rw [WordCmp.dynamicUpdateSlice_eq_update x _ _ _ ![k, 0, 0, 0] hoff (starts_eq ctr k hk hc)]
  by_cases h : t.val = k
  · subst h
    pointwise
    exact dif_pos ⟨le_refl _, by omega⟩
  · rw [if_neg h]
    pointwise
    exact dif_neg (by omega)

theorem step_congr {a a' u u' B B' A h : EReal} (ha : a = a') (hu : u = u') (hB : B = B') :
    Ideal.exp (a * A) * h + a * u * B = Ideal.exp (a' * A) * h + a' * u' * B' := by
  subst ha hu hB; rfl

variable (V : Valuation τ sig (Elt Ideal)) (k : ℕ) (hk : k < 512) (hc : V (Proc.devRef .tc main_v125_5) = fun _ => Scf.iv 0#32 1#32 k)
include hc

/-- The state after the trip. -/
theorem v159_apply (d : Fin 2) (b : Fin 4) (ch : Fin 2048) (n : Fin 16) :
    (show FVec Ideal S2x4x2048x16 .f32 from res_main_while0b_v159 V) (ix4 d b ch n)
      = (Ideal.exp ((show FVec Ideal S512x2x4x2048 .f32 from V (Proc.devRef .tc main_v125_1)) (ix4 ⟨k, hk⟩ d b ch) * (show FVec Ideal S2x2048x16 .f32 from V (Proc.devRef .tc main_v125_4)) (ix3 d ch n)) * (show FVec Ideal S2x4x2048x16 .f32 from V (Proc.devRef .tc main_v125_6)) (ix4 d b ch n)
        + (show FVec Ideal S512x2x4x2048 .f32 from V (Proc.devRef .tc main_v125_1)) (ix4 ⟨k, hk⟩ d b ch) * (show FVec Ideal S512x2x4x2048 .f32 from V (Proc.devRef .tc main_v125_0)) (ix4 ⟨k, hk⟩ d b ch) * (show FVec Ideal S512x2x4x16 .f32 from V (Proc.devRef .tc main_v125_2)) (ix4 ⟨k, hk⟩ d b n) : EReal) := by
  exact (hterm_apply _ _ _ _ _ d b ch n).trans
    (step_congr (slice_w _ _ k hk hc d b ch) (slice_w _ _ k hk hc d b ch) (slice_n _ _ k hk hc d b n))

/-- The rows after the trip. -/
theorem v164_apply (t : Fin 512) (d : Fin 2) (b : Fin 4) (ch : Fin 2048) :
    (show FVec Ideal S512x2x4x2048 .f32 from step_main_v125_7 V) (ix4 t d b ch)
      = (if t.val = k then ∑ n : Fin 16, (show FVec Ideal S2x4x2048x16 .f32 from res_main_while0b_v159 V) (ix4 d b ch n) * (show FVec Ideal S512x2x4x16 .f32 from V (Proc.devRef .tc main_v125_3)) (ix4 ⟨k, hk⟩ d b n)
        else (show FVec Ideal S512x2x4x2048 .f32 from V (Proc.devRef .tc main_v125_7)) (ix4 t d b ch) : EReal) := by
  refine (upd_apply _ (yterm (res_main_while0b_v159 V) _) _ k hk hc t d b ch).trans ?_
  refine if_congr Iff.rfl ((yterm_apply _ _ d b ch).trans (Finset.sum_congr rfl fun n _ => ?_)) rfl
  exact congrArg (fun a : EReal => _ * a) (slice_n _ _ k hk hc d b n)

end Cert.ReferenceIdeal.Whole

end
-- ==== Proof.RI.Loop.lean ====
/- The reference's result: the loop by induction over its trips, and what follows it. -/
module

public import proofs.«01_k».proof.Proof.RI.Entry
public import proofs.«01_k».proof.Proof.RI.Trip

@[expose] public section

set_option maxRecDepth 16384

noncomputable section

namespace Cert.ReferenceIdeal.Whole

open Cert.ReferenceIdeal Cert.ReferenceIdeal.Gen Cert.ReferenceIdeal.Value
open Idealize.ShloMosaic Idealize.ShloMosaic.TcCoe
open Idealize.SL.Sem
open Idealize.ShloMosaic.StableHlo
open Cert.Spec

section
variable (V : Valuation τ sig (Elt Ideal))

/-- The two scans' outputs with their skips, the second one reversed, added. -/
theorem st_v136 (b : Fin 4) (l : Fin 512) (ch : Fin 2048) :
    (show FVec Ideal S4x512x2048 .f32 from after hostOps0_17 V (Proc.devRef .tc main_v136)) (ix3 b l ch)
    = (((show FVec Ideal S512x2x4x2048 .f32 from V (Proc.devRef .tc main_v125_7)) (ix4 l 0 b ch)
          + (show FVec Ideal S2x4x512x2048 .f32 from V (Proc.devRef .tc main_v101)) (ix4 0 b l ch) * (show FVec Ideal S2x2048 .f32 from V (Proc.devRef .tc main_v118)) (ix2 0 ch))
        + ((show FVec Ideal S512x2x4x2048 .f32 from V (Proc.devRef .tc main_v125_7)) (ix4 l.rev 1 b ch)
          + (show FVec Ideal S2x4x512x2048 .f32 from V (Proc.devRef .tc main_v101)) (ix4 1 b l.rev ch) * (show FVec Ideal S2x2048 .f32 from V (Proc.devRef .tc main_v118)) (ix2 1 ch)) : EReal) := by
  after_reads_at
  try simp

/-- The gate. -/
theorem st_v137 (b : Fin 4) (l : Fin 512) (ch : Fin 2048) :
    (show FVec Ideal S4x512x2048 .f32 from after hostOps0_18 V (Proc.devRef .tc main_v137)) (ix3 b l ch)
    = (gate ((show FVec Ideal S4x512x2048 .f32 from V (Proc.devRef .tc main_v3)) (ix3 b l ch)) : EReal) := by
  unfold gate
  after_reads_at
  try simp

/-- The output projection. -/
theorem st_v140 (b : Fin 4) (l : Fin 512) (j : Fin 1024) :
    (show FVec Ideal S4x512x1024 .f32 from after hostOps0_19 V (Proc.devRef .tc main_v140)) (ix3 b l j)
    = (∑ ch : Fin 2048, (show FVec Ideal S4x512x2048 .f32 from V (Proc.devRef .tc main_v136)) (ix3 b l ch) * (show FVec Ideal S4x512x2048 .f32 from V (Proc.devRef .tc main_v137)) (ix3 b l ch)
        * (show FVec Ideal S1024x2048 .f32 from V (Proc.devRef .tc main_arg16)) (ix2 j ch) : EReal) := by
  after_reads_at

theorem st_cst_12 (i : S_.Idx) : (show FVec Ideal S_ .f32 from after hostOps0_19 V (Proc.devRef .tc main_cst_12)) i = Ideal.ofBits .f32 0xBF800000#32 := by
  show after hostOps0_19 _ _ _ = _
  after_results
  rfl
theorem st_cst_13 (i : S_.Idx) : (show FVec Ideal S_ .f32 from after hostOps0_19 V (Proc.devRef .tc main_cst_13)) i = Ideal.ofBits .f32 0x3F800000#32 := by
  show after hostOps0_19 _ _ _ = _
  after_results
  rfl

/-- The last stretch. -/
theorem st_v141 (h12 : ∀ i, (show FVec Ideal S_ .f32 from V (Proc.devRef .tc main_cst_12)) i = Ideal.ofBits .f32 0xBF800000#32)
    (h13 : ∀ i, (show FVec Ideal S_ .f32 from V (Proc.devRef .tc main_cst_13)) i = Ideal.ofBits .f32 0x3F800000#32) (b : Fin 4) (l : Fin 512) (j : Fin 1024) :
    (show FVec Ideal S4x512x1024 .f32 from after hostOps0_20 V (Proc.devRef .tc main_v141)) (ix3 b l j)
    = (ntn ((show FVec Ideal S4x512x1024 .f32 from V (Proc.devRef .tc main_v140)) (ix3 b l j)) : EReal) := by
  have a12 := h12 ix0
  have a13 := h13 ix0
  unfold ntn
  after_reads_at
  simp only [id_eq, ne_eq, not_true]
  simp only [show (V (Proc.tc.devRef main_cst_12) : FVec Ideal S_ .f32) ix0 = _ from a12, show (V (Proc.tc.devRef main_cst_13) : FVec Ideal S_ .f32) ix0 = _ from a13, Ideal.ofBits_one_f32]
  rfl
end

variable (m : (ℓ : Loc nD τ sig) → Buf (Elt Ideal) ℓ) (c : Dev nD)

/-- A carried buffer that no trip changes. -/
theorem atK_c (r : Ref sig .tc) (hr : r ∈ carriedRefs) (hs : ∀ V : Valuation τ sig (Elt Ideal), STEP V (Proc.devRef .tc r) = V (Proc.devRef .tc r)) (k : ℕ) :
    atK m k c (Proc.devRef .tc r) = EE m c (Proc.devRef .tc r) := by
  induction k with
  | zero => rfl
  | succ k ih => exact (trip_agree (atK m k c) r hr).trans ((hs _).trans ih)

theorem k_0 (k : ℕ) (t : Fin 512) (d : Fin 2) (b : Fin 4) (ch : Fin 2048) :
    (show FVec Ideal S512x2x4x2048 .f32 from atK m k c (Proc.devRef .tc main_v125_0)) (ix4 t d b ch) = ((inp m c).u d b t ch : EReal) := by
  rw [atK_c m c main_v125_0 (by decide) STEP_main_v125_0 k]
  fin_cases d
  · exact q_v125_0_0 m c t b ch
  · exact q_v125_0_1 m c t b ch
theorem k_1 (k : ℕ) (t : Fin 512) (d : Fin 2) (b : Fin 4) (ch : Fin 2048) :
    (show FVec Ideal S512x2x4x2048 .f32 from atK m k c (Proc.devRef .tc main_v125_1)) (ix4 t d b ch) = (delta ((inp m c).P d) ((inp m c).s d b) t ch : EReal) := by
  rw [atK_c m c main_v125_1 (by decide) STEP_main_v125_1 k]
  fin_cases d
  · exact q_v125_1_0 m c t b ch
  · exact q_v125_1_1 m c t b ch
theorem k_2 (k : ℕ) (t : Fin 512) (d : Fin 2) (b : Fin 4) (n : Fin 16) :
    (show FVec Ideal S512x2x4x16 .f32 from atK m k c (Proc.devRef .tc main_v125_2)) (ix4 t d b n) = (Bm ((inp m c).P d) ((inp m c).s d b) t n : EReal) := by
  rw [atK_c m c main_v125_2 (by decide) STEP_main_v125_2 k]
  fin_cases d
  · exact q_v125_2_0 m c t b n
  · exact q_v125_2_1 m c t b n
theorem k_3 (k : ℕ) (t : Fin 512) (d : Fin 2) (b : Fin 4) (n : Fin 16) :
    (show FVec Ideal S512x2x4x16 .f32 from atK m k c (Proc.devRef .tc main_v125_3)) (ix4 t d b n) = (Cm ((inp m c).P d) ((inp m c).s d b) t n : EReal) := by
  rw [atK_c m c main_v125_3 (by decide) STEP_main_v125_3 k]
  fin_cases d
  · exact q_v125_3_0 m c t b n
  · exact q_v125_3_1 m c t b n
theorem k_4 (k : ℕ) (d : Fin 2) (ch : Fin 2048) (n : Fin 16) :
    (show FVec Ideal S2x2048x16 .f32 from atK m k c (Proc.devRef .tc main_v125_4)) (ix3 d ch n) = (-Ideal.exp ((inp m c).a d (ix2 ch n)) : EReal) := by
  rw [atK_c m c main_v125_4 (by decide) STEP_main_v125_4 k]
  fin_cases d
  · exact q_v125_4_0 m c ch n
  · exact q_v125_4_1 m c ch n

/-- The state before trip `k`. -/
theorem k_6 (k : ℕ) (hk : k ≤ 512) (d : Fin 2) (b : Fin 4) (ch : Fin 2048) (n : Fin 16) :
    (show FVec Ideal S2x4x2048x16 .f32 from atK m k c (Proc.devRef .tc main_v125_6)) (ix4 d b ch n) = ((inp m c).h d b ch k n : EReal) := by
  induction k with
  | zero => exact q_v125_6 m c _
  | succ k ih =>
    have e : atK m (k + 1) c (Proc.devRef .tc main_v125_6) = res_main_while0b_v159 (atK m k c) :=
      (trip_agree (atK m k c) main_v125_6 (by decide)).trans (STEP_main_v125_6 _)
    rw [e, v159_apply (atK m k c) k (by omega) (atK_ctr m c k), k_0, k_1, k_2, k_4, ih (by omega)]
    unfold In.h
    rw [hs, dif_pos (show k < 512 by omega)]
    rfl

/-- A row of the output before trip `k`, once written. -/
theorem k_7 (k : ℕ) (hk : k ≤ 512) (t : Fin 512) (ht : t.val < k) (d : Fin 2) (b : Fin 4) (ch : Fin 2048) :
    (show FVec Ideal S512x2x4x2048 .f32 from atK m k c (Proc.devRef .tc main_v125_7)) (ix4 t d b ch) = ((inp m c).y d b t ch : EReal) := by
  induction k with
  | zero => omega
  | succ k ih =>
    have e : atK m (k + 1) c (Proc.devRef .tc main_v125_7) = step_main_v125_7 (atK m k c) :=
      (trip_agree (atK m k c) main_v125_7 (by decide)).trans (STEP_main_v125_7 _)
    have e6 : atK m (k + 1) c (Proc.devRef .tc main_v125_6) = res_main_while0b_v159 (atK m k c) :=
      (trip_agree (atK m k c) main_v125_6 (by decide)).trans (STEP_main_v125_6 _)
    rw [e, v164_apply (atK m k c) k (by omega) (atK_ctr m c k)]
    by_cases h : t.val = k
    · rw [if_pos h, ← e6]
      unfold In.y ysc
      refine Finset.sum_congr rfl fun n _ => ?_
      rw [k_6 m c (k + 1) hk, k_3]
      subst h
      rfl
    · rw [if_neg h]
      exact ih (by omega) (by omega)

/-- The contents after the loop. -/
def Z : Valuation τ sig (Elt Ideal) := after condOps (atK m 512 c)

theorem z_7 (t : Fin 512) (d : Fin 2) (b : Fin 4) (ch : Fin 2048) :
    (show FVec Ideal S512x2x4x2048 .f32 from Z m c (Proc.devRef .tc main_v125_7)) (ix4 t d b ch) = ((inp m c).y d b t ch : EReal) := by
  rw [show Z m c (Proc.devRef .tc main_v125_7) = atK m 512 c (Proc.devRef .tc main_v125_7) from cond_keeps _ _ (by decide)]
  exact k_7 m c 512 (le_refl _) t t.isLt d b ch

theorem z_keep (r : Ref sig .tc) (h : r ∉ condOps_W ++ bodyW) : Z m c (Proc.devRef .tc r) = EE m c (Proc.devRef .tc r) := by
  simp only [List.mem_append, not_or] at h
  refine (after_of_writes_sub condOps _ condOps_writes h.1).trans ?_
  exact atK_keep m c r (by simpa only [bodyW, List.mem_append, not_or] using h.2) 512

/-- The contents after each stretch after the loop. -/
def Z17 : Valuation τ sig (Elt Ideal) := after hostOps0_17 (Z m c)
def Z18 : Valuation τ sig (Elt Ideal) := after hostOps0_18 (Z17 m c)
def Z19 : Valuation τ sig (Elt Ideal) := after hostOps0_19 (Z18 m c)

theorem z_136 : Z18 m c (Proc.devRef .tc main_v136) = Z17 m c (Proc.devRef .tc main_v136) :=
  after_of_writes_sub hostOps0_18 _ post18_writes (by decide)
theorem z_16 : Z18 m c (Proc.devRef .tc main_arg16) = EE m c (Proc.devRef .tc main_arg16) :=
  (after_of_writes_sub hostOps0_18 _ post18_writes (by decide)).trans
    ((after_of_writes_sub hostOps0_17 _ post17_writes (by decide)).trans (z_keep m c main_arg16 (by decide)))
theorem z_3 : Z17 m c (Proc.devRef .tc main_v3) = EE m c (Proc.devRef .tc main_v3) :=
  (after_of_writes_sub hostOps0_17 _ post17_writes (by decide)).trans (z_keep m c main_v3 (by decide))

/-- The gate, at the block's inputs. -/
theorem g_137 (b : Fin 4) (l : Fin 512) (ch : Fin 2048) :
    (show FVec Ideal S4x512x2048 .f32 from Z18 m c (Proc.devRef .tc main_v137)) (ix3 b l ch) = (gate (sz (inp m c).hid (inp m c).w b l ch) : EReal) := by
  refine (st_v137 (Z17 m c) b l ch).trans ?_
  rw [z_3, q_v3]

/-- The scans' sum, at the block's inputs. -/
theorem g_136 (b : Fin 4) (l : Fin 512) (ch : Fin 2048) :
    (show FVec Ideal S4x512x2048 .f32 from Z18 m c (Proc.devRef .tc main_v136)) (ix3 b l ch)
      = (((inp m c).y 0 b l ch + (inp m c).u 0 b l ch * (inp m c).sk 0 (ix1 ch)) + ((inp m c).y 1 b l.rev ch + (inp m c).u 1 b l.rev ch * (inp m c).sk 1 (ix1 ch)) : EReal) := by
  rw [z_136]
  refine (st_v136 (Z m c) b l ch).trans ?_
  rw [z_7, z_7, z_keep m c main_v101 (by decide), z_keep m c main_v118 (by decide), q_v101_0, q_v101_1, q_v118_0, q_v118_1]

/-- The output projection, at the block's inputs. -/
theorem g_140 (b : Fin 4) (l : Fin 512) (j : Fin 1024) :
    (show FVec Ideal S4x512x1024 .f32 from Z19 m c (Proc.devRef .tc main_v140)) (ix3 b l j)
      = (∑ ch : Fin 2048, (inp m c).yy b l ch * (inp m c).wo (ix2 j ch) : EReal) := by
  refine (st_v140 (Z18 m c) b l j).trans (Finset.sum_congr rfl fun ch _ => ?_)
  rw [g_137, g_136, z_16, e_arg16]
  rfl

theorem final_eq : finalContents condOps preI bodyI postI 512 m c (Proc.devRef .tc main_v141) = after hostOps0_20 (Z19 m c) (Proc.devRef .tc main_v141) := rfl

/-- THE REFERENCE'S RESULT. -/
theorem result (b : Fin 4) (l : Fin 512) (j : Fin 1024) :
    (show FVec Ideal S4x512x1024 .f32 from finalContents condOps preI bodyI postI 512 m c (Proc.devRef .tc main_v141)) (ix3 b l j)
    = ((inp m c).out b l j : EReal) := by
  rw [final_eq]
  refine (st_v141 (Z19 m c) (st_cst_12 (Z18 m c)) (st_cst_13 (Z18 m c)) b l j).trans ?_
  rw [g_140]
  rfl

end Cert.ReferenceIdeal.Whole

end
-- ==== Proof.KV.Pay1.lean ====
/- Call 1's values at an element, from its blocks. -/
module

public import proofs.«01_k».proof.Proof.KI.Region1
public import proofs.«01_k».proof.Proof.V.Spec

@[expose] public section

set_option maxRecDepth 16384

noncomputable section

namespace Cert.KernelIdeal.Whole

open Cert.KernelIdeal.Gen
open Idealize.ShloMosaic Idealize.ShloMosaic.TcCoe
open Cert.Spec

theorem p1_pay1 (x : Vec Ideal S1x1x512x2048 .f32) (l : Fin 512) (ch : Fin 2048) : k1_pay1 x (ix2 l ch) = (x (ix4 0 0 l ch) : EReal) := by
  pointwise [k1_pay1]
theorem p1_pay2 (r : Vec Ideal S512x512 .f32) (x : Vec Ideal S1x1x512x2048 .f32) (l : Fin 512) (ch : Fin 2048) :
    k1_pay2 r x (ix2 l ch) = (∑ k : Fin 512, r (ix2 l k) * x (ix4 0 0 k ch) : EReal) := by
  pointwise [k1_pay2]
theorem p1_pay3 (x : Vec Ideal S512x2048 .f32) (w : Vec Ideal S1x2048x96 .f32) (l : Fin 512) (r : Fin 96) :
    k1_pay3 x w (ix2 l r) = (∑ k : Fin 2048, x (ix2 l k) * w (ix3 0 k r) : EReal) := by
  pointwise [k1_pay3]
theorem p1_pay4 (x : Vec Ideal S512x2048 .f32) (w : Vec Ideal S1x2048x96 .f32) (v : Vec Ideal S1x64x2048 .f32) (l : Fin 512) (ch : Fin 2048) :
    k1_pay4 x w v (ix2 l ch) = (∑ k : Fin 64, k1_pay3 x w (ix2 l ⟨k, by omega⟩) * v (ix3 0 k ch) : EReal) := by
  pointwise [k1_pay4]
theorem p1_pay5 (x : Vec Ideal S1x1x2048 .f32) (ch : Fin 2048) : k1_pay5 x (ix2 0 ch) = (x (ix3 0 0 ch) : EReal) := by
  pointwise [k1_pay5]
/-- The softplus. -/
theorem p1_pay6 (a : FVec Ideal S512x2048 .f32) (b : FVec Ideal S1x2048 .f32) (x : Vec Ideal S1x1x2048 .f32) (l : Fin 512) (ch : Fin 2048) :
    k1_pay6 a b x (ix2 l ch) = (softplus (min 1 (max (Ideal.ofBits .f32 0x3727C5AC#32) (a (ix2 l ch) + b (ix2 0 ch))) + x (ix3 0 0 ch)) : EReal) := by
  have h : k1_pay6 a b x (ix2 l ch) = max (min (Ideal.ofBits .f32 0x3F800000#32) (max (Ideal.ofBits .f32 0x3727C5AC#32) (a (ix2 l ch) + b (ix2 0 ch))) + x (ix3 0 0 ch)) 0
      + Ideal.log1p (Ideal.exp (0 - FloatOps.absf (F := Ideal) (φ := .f32) (min (Ideal.ofBits .f32 0x3F800000#32) (max (Ideal.ofBits .f32 0x3727C5AC#32) (a (ix2 l ch) + b (ix2 0 ch))) + x (ix3 0 0 ch)))) := by
    pointwise [k1_pay6]
  rw [h, Ideal.ofBits_one_f32, zero_sub]
  rfl
theorem p1_pay7 (a : FVec Ideal S512x2048 .f32) (b : FVec Ideal S1x2048 .f32) (x : Vec Ideal S1x1x2048 .f32) (l : Fin 512) (ch : Fin 2048) :
    k1_pay7 a b x (ix4 l 0 0 ch) = (Ideal.exp (-(k1_pay6 a b x (ix2 l ch))) : EReal) := by
  have h : k1_pay7 a b x (ix4 l 0 0 ch) = (Ideal.exp (0 - (k1_pay6 a b x (ix2 l ch))) : EReal) := by
    pointwise [k1_pay7]
  rw [h, zero_sub]
theorem p1_pay8 (s : Vec Ideal S512x2048 .f32) (a : FVec Ideal S512x2048 .f32) (b : FVec Ideal S1x2048 .f32) (x : Vec Ideal S1x1x2048 .f32) (l : Fin 512) (ch : Fin 2048) :
    k1_pay8 s a b x (ix4 l 0 0 ch) = (k1_pay6 a b x (ix2 l ch) * clip10 (s (ix2 l ch)) : EReal) := by
  pointwise [k1_pay8]
  rfl
theorem p1_pay9 (x : FVec Ideal S512x96 .f32) (l : Fin 512) (n : Fin 16) : k1_pay9 x (ix4 l 0 0 n) = (x (ix2 l ⟨64 + n, by omega⟩) : EReal) := by
  pointwise [k1_pay9]
theorem p1_pay10 (x : FVec Ideal S512x96 .f32) (l : Fin 512) (n : Fin 16) : k1_pay10 x (ix4 l 0 0 n) = (x (ix2 l ⟨80 + n, by omega⟩) : EReal) := by
  pointwise [k1_pay10]

end Cert.KernelIdeal.Whole

end
-- ==== Proof.KV.Pay0.lean ====
/- Call 0's values at an element, from its blocks. -/
module

public import proofs.«01_k».proof.Proof.KI.Region0
public import proofs.«01_k».proof.Proof.V.Spec

@[expose] public section

set_option maxRecDepth 16384

noncomputable section

namespace Cert.KernelIdeal.Whole

open Cert.KernelIdeal.Gen
open Idealize.ShloMosaic Idealize.ShloMosaic.TcCoe
open Cert.Spec

/-- A tile's projection. -/
theorem pay2_apply (X : Vec Ideal S1x512x1024 .f32) (W : Vec Ideal S1024x1024 .f32) (l : Fin 512) (j : Fin 1024) :
    k0_pay2 X W (ix2 l j) = (∑ k : Fin 1024, X (ix3 0 l k) * W (ix2 j k) : EReal) := by
  pointwise [k0_pay2]

theorem pay3_apply (X : Vec Ideal S1x512x1024 .f32) (W : Vec Ideal S1024x1024 .f32) (l : Fin 512) (j : Fin 1024) :
    k0_pay3 X W (ix2 l j) = (∑ k : Fin 1024, X (ix3 0 l k) * W (ix2 j k) : EReal) := by
  pointwise [k0_pay3]

section
variable (s : Sq) (ch : Fin 2048) (l : Fin 512)

theorem sh0 : s l ch = pad3 s (3 + l) ch := by
  unfold pad3; rw [dif_pos (by omega)]; exact congrArg (fun k => s k ch) (Fin.ext (by simp only []; omega))
theorem sh1 : (if h : (l : ℕ) < 1 then (0 : EReal) else s ⟨l - 1, by omega⟩ ch) = pad3 s (2 + l) ch := by
  unfold pad3
  by_cases h : (l : ℕ) < 1
  · rw [dif_pos h, dif_neg (by omega)]
  · rw [dif_neg h, dif_pos (by omega)]; exact congrArg (fun k => s k ch) (Fin.ext (by simp only []; omega))
theorem sh2 : (if h : (l : ℕ) < 1 then (0 : EReal) else if h : (l : ℕ) - 1 < 1 then 0 else s ⟨l - 1 - 1, by omega⟩ ch) = pad3 s (1 + l) ch := by
  unfold pad3
  by_cases h : (l : ℕ) < 2
  · rw [dif_neg (by omega : ¬ (3 ≤ 1 + (l : ℕ) ∧ 1 + (l : ℕ) - 3 < 512))]; split_ifs <;> first | rfl | omega
  · rw [dif_neg (by omega), dif_neg (by omega), dif_pos (by omega)]; exact congrArg (fun k => s k ch) (Fin.ext (by simp only []; omega))
theorem sh3 : (if h : (l : ℕ) < 1 then (0 : EReal) else if h : (l : ℕ) - 1 < 1 then 0 else if h : (l : ℕ) - 1 - 1 < 1 then 0 else s ⟨l - 1 - 1 - 1, by omega⟩ ch) = pad3 s l ch := by
  unfold pad3
  by_cases h : (l : ℕ) < 3
  · rw [dif_neg (by omega : ¬ (3 ≤ (l : ℕ) ∧ (l : ℕ) - 3 < 512))]; split_ifs <;> first | rfl | omega
  · rw [dif_neg (by omega), dif_neg (by omega), dif_neg (by omega), dif_pos (by omega)]; exact congrArg (fun k => s k ch) (Fin.ext (by simp only []; omega))
theorem sb0 : s l ch = pad3 (rev s) (3 + l.rev) ch := by
  unfold pad3 rev; rw [dif_pos (by omega)]; exact congrArg (fun k => s k ch) (Fin.ext (by simp [Fin.rev]; omega))
theorem sb1 : (if h : (l : ℕ) < 511 then s ⟨1 + l, by omega⟩ ch else (0 : EReal)) = pad3 (rev s) (2 + l.rev) ch := by
  have hr : (l.rev : ℕ) = 511 - l := by rw [Fin.val_rev]; omega
  unfold pad3 rev
  by_cases h : (l : ℕ) < 511
  · rw [dif_pos h, dif_pos (by omega)]; exact congrArg (fun k => s k ch) (Fin.ext (by simp [Fin.rev]; omega))
  · rw [dif_neg h, dif_neg (by omega)]
theorem sb2 : (if h : (l : ℕ) < 511 then (if h_1 : 1 + (l : ℕ) < 511 then s ⟨1 + (1 + l), by omega⟩ ch else (0 : EReal)) else 0) = pad3 (rev s) (1 + l.rev) ch := by
  have hr : (l.rev : ℕ) = 511 - l := by rw [Fin.val_rev]; omega
  unfold pad3 rev
  by_cases h : (l : ℕ) < 510
  · rw [dif_pos (by omega), dif_pos (by omega), dif_pos (by omega)]; exact congrArg (fun k => s k ch) (Fin.ext (by simp [Fin.rev]; omega))
  · rw [dif_neg (by omega : ¬ (3 ≤ 1 + (l.rev : ℕ) ∧ 1 + (l.rev : ℕ) - 3 < 512))]; split_ifs <;> first | rfl | omega
theorem sb3 : (if h : (l : ℕ) < 511 then (if h_1 : 1 + (l : ℕ) < 511 then (if h_2 : 1 + (1 + (l : ℕ)) < 511 then s ⟨1 + (1 + (1 + l)), by omega⟩ ch else (0 : EReal)) else 0) else 0) = pad3 (rev s) l.rev ch := by
  have hr : (l.rev : ℕ) = 511 - l := by rw [Fin.val_rev]; omega
  unfold pad3 rev
  by_cases h : (l : ℕ) < 509
  · rw [dif_pos (by omega), dif_pos (by omega), dif_pos (by omega), dif_pos (by omega)]; exact congrArg (fun k => s k ch) (Fin.ext (by simp [Fin.rev]; omega))
  · rw [dif_neg (by omega : ¬ (3 ≤ (l.rev : ℕ) ∧ (l.rev : ℕ) - 3 < 512))]; split_ifs <;> first | rfl | omega

theorem taps (p0 p1 p2 p3 w0 w1 w2 w3 e : EReal) :
    w3 * p3 + w2 * p2 + w1 * p1 + w0 * p0 + e = p0 * w0 + p1 * w1 + p2 * w2 + p3 * w3 + e := by
  rw [mul_comm p0, mul_comm p1, mul_comm p2, mul_comm p3]
  congr 1
  abel

variable (P : Par) (j : Fin 1024) (a b c d e : Vec Ideal S1x1024 .f32)
  (ha : a (ix2 0 j) = P.cw (ix3 ch 0 3)) (hb : b (ix2 0 j) = P.cw (ix3 ch 0 2)) (hc : c (ix2 0 j) = P.cw (ix3 ch 0 1))
  (hd : d (ix2 0 j) = P.cw (ix3 ch 0 0)) (he : e (ix2 0 j) = P.cb (ix1 ch))
include ha hb hc hd he

/-- A tile's convolution, forwards. -/
theorem pay5_conv (X : Vec Ideal S1x512x1024 .f32) (W : Vec Ideal S1024x1024 .f32) (hx : ∀ l, k0_pay2 X W (ix2 l j) = s l ch) :
    k0_pay7 (k0_pay5 X W a b c d) (k0_pay6 e) (ix2 l j) = (conv P s l ch : EReal) := by
  have h : k0_pay7 (k0_pay5 X W a b c d) (k0_pay6 e) (ix2 l j) = (((a (ix2 0 j) * k0_pay2 X W (ix2 l j) + b (ix2 0 j) * if h : (l : ℕ) < 1 then 0 else k0_pay2 X W (ix2 ⟨(l : ℕ) - 1, by omega⟩ j)) +
        c (ix2 0 j) * if h : (l : ℕ) < 1 then 0 else if h : (l : ℕ) - 1 < 1 then 0 else k0_pay2 X W (ix2 ⟨(l : ℕ) - 1 - 1, by omega⟩ j)) +
      d (ix2 0 j) *
        if h : (l : ℕ) < 1 then 0
        else if h : (l : ℕ) - 1 < 1 then 0 else if h : (l : ℕ) - 1 - 1 < 1 then 0 else k0_pay2 X W (ix2 ⟨(l : ℕ) - 1 - 1 - 1, by omega⟩ j)) + e (ix2 0 j) := by
    pointwise [k0_pay7, k0_pay6, k0_pay5, k0_pay4]
  rw [h]
  simp only [hx]
  rw [sh1, sh2, sh3, ha, hb, hc, hd, he, sh0 s ch l, taps]
  rfl

/-- A tile's convolution, backwards. -/
theorem pay8_conv (x : FVec Ideal S512x1024 .f32) (hx : ∀ l, x (ix2 l j) = s l ch) :
    k0_pay8 x (k0_pay4 (F := Ideal)) a b c d e (ix2 l j) = (conv P (rev s) l.rev ch : EReal) := by
  have h : k0_pay8 x (k0_pay4 (F := Ideal)) a b c d e (ix2 l j) = (((a (ix2 0 j) * x (ix2 l j) + b (ix2 0 j) * if h : (l : ℕ) < 511 then x (ix2 ⟨1 + (l : ℕ), by omega⟩ j) else 0) +
          c (ix2 0 j) * if h : (l : ℕ) < 511 then if h_1 : 1 + (l : ℕ) < 511 then x (ix2 ⟨1 + (1 + (l : ℕ)), by omega⟩ j) else 0 else 0) +
        d (ix2 0 j) *
          if h : (l : ℕ) < 511 then
            if h_1 : 1 + (l : ℕ) < 511 then if h_2 : 1 + (1 + (l : ℕ)) < 511 then x (ix2 ⟨1 + (1 + (1 + (l : ℕ))), by omega⟩ j) else 0 else 0
          else 0) +
      e (ix2 0 j) := by
    pointwise [k0_pay8, k0_pay4]
  rw [h]
  simp only [hx]
  rw [sb1, sb2, sb3, ha, hb, hc, hd, he, sb0 s ch l, taps]
  rfl
end

theorem pay1_apply (x y : FVec Ideal S512x1024 .f32) (d db : Vec Ideal S1x1024 .f32) (l : Fin 512) (j : Fin 1024) :
    k0_pay1 x y d db (ix4 l 0 0 j) = (d (ix2 0 j) * clip10 (x (ix2 l j)) + db (ix2 0 j) * clip10 (y (ix2 l j)) : EReal) := by
  pointwise [k0_pay1, clip10]

end Cert.KernelIdeal.Whole

end
-- ==== Proof.KV.Host0.lean ====
/- The buffers that the host operations before call 0 compute, read at an element. -/
module

public import proofs.«01_k».proof.Proof.KI.Fold0
public import proofs.«01_k».proof.Proof.V.Spec
public import Idealize.ShloMosaic.Lib.StableHlo.ReadAt

@[expose] public section

set_option maxRecDepth 16384

noncomputable section

namespace Cert.KernelIdeal.Whole

open Cert.KernelIdeal Cert.KernelIdeal.Gen
open Idealize.ShloMosaic Idealize.ShloMosaic.TcCoe
open Idealize.SL.Sem
open Idealize.ShloMosaic.StableHlo
open Cert.Spec

/-- The entry of the reversal matrix: one where the row, counted from the end, is the column. -/
theorem flipBit (a b : Fin 512) : (FloatOps.uitofp (F := Ideal) FTy.f32
      (IntOp.cmpi CmpIPredicate.eq (IntOp.addi (BitVec.ofNat 32 ↑(if 0 ∈ [0] then a.rev else a)) 0#32)
        (BitVec.ofNat 32 ↑(if 1 ∈ [0] then b.rev else b))) : EReal) = if a.rev = b then 1 else 0 := by
  by_cases h : a.rev = b
  · rw [if_pos h, ← h]
    have e : IntOp.cmpi CmpIPredicate.eq (IntOp.addi (BitVec.ofNat 32 ↑(if 0 ∈ [0] then a.rev else a)) 0#32) (BitVec.ofNat 32 ↑(if 1 ∈ [0] then a.rev.rev else a.rev)) = 1#1 := by
      simp [IntOp.cmpi, IntOp.addi]
    rw [e]
    show (((1#1 : BitVec 1).toNat : ℝ) : EReal) = 1
    simp
  · rw [if_neg h]
    have e : IntOp.cmpi CmpIPredicate.eq (IntOp.addi (BitVec.ofNat 32 ↑(if 0 ∈ [0] then a.rev else a)) 0#32) (BitVec.ofNat 32 ↑(if 1 ∈ [0] then b.rev else b)) = 0#1 := by
      have hn : ¬ ((a.rev : ℕ) = b) := fun q => h (Fin.ext q)
      have hb : BitVec.ofNat 32 (a.rev : ℕ) ≠ BitVec.ofNat 32 (b : ℕ) := by
        intro q
        have := congrArg BitVec.toNat q
        simp only [BitVec.toNat_ofNat] at this
        rw [Nat.mod_eq_of_lt (by omega), Nat.mod_eq_of_lt (by omega)] at this
        exact hn this
      show BitVec.ofBool (BitVec.ofNat 32 (a.rev : ℕ) + 0#32 == BitVec.ofNat 32 (b : ℕ)) = 0#1
      rw [BitVec.add_zero, beq_eq_false_iff_ne.mpr hb]
      rfl
    rw [e]
    show (((0#1 : BitVec 1).toNat : ℝ) : EReal) = 0
    simp

section
variable (V : Valuation τ sig (Elt Ideal))

theorem h_v1 (k : Fin 4) (ch : Fin 2048) : (show FVec Ideal S4x2048 .f32 from after hostOps0 V (Proc.devRef .tc main_v1)) (ix2 k ch) = ((show FVec Ideal S2048x1x4 .f32 from V (Proc.devRef .tc main_arg2)) (ix3 ch 0 k) : EReal) := by
  after_reads_at
theorem h_v3 (k : Fin 4) (ch : Fin 2048) : (show FVec Ideal S4x2048 .f32 from after hostOps0 V (Proc.devRef .tc main_v3)) (ix2 k ch) = ((show FVec Ideal S2048x1x4 .f32 from V (Proc.devRef .tc main_arg9)) (ix3 ch 0 k) : EReal) := by
  after_reads_at
theorem h_v4 (ch : Fin 2048) : (show FVec Ideal S1x2048 .f32 from after hostOps0 V (Proc.devRef .tc main_v4)) (ix2 0 ch) = ((show FVec Ideal S2048 .f32 from V (Proc.devRef .tc main_arg3)) (ix1 ch) : EReal) := by
  after_reads_at
theorem h_v5 (ch : Fin 2048) : (show FVec Ideal S1x2048 .f32 from after hostOps0 V (Proc.devRef .tc main_v5)) (ix2 0 ch) = ((show FVec Ideal S2048 .f32 from V (Proc.devRef .tc main_arg10)) (ix1 ch) : EReal) := by
  after_reads_at
theorem h_v6 (ch : Fin 2048) : (show FVec Ideal S1x2048 .f32 from after hostOps0 V (Proc.devRef .tc main_v6)) (ix2 0 ch) = ((show FVec Ideal S2048 .f32 from V (Proc.devRef .tc main_arg8)) (ix1 ch) : EReal) := by
  after_reads_at
theorem h_v7 (ch : Fin 2048) : (show FVec Ideal S1x2048 .f32 from after hostOps0 V (Proc.devRef .tc main_v7)) (ix2 0 ch) = ((show FVec Ideal S2048 .f32 from V (Proc.devRef .tc main_arg15)) (ix1 ch) : EReal) := by
  after_reads_at
theorem h_v12_0 (ch : Fin 2048) (r : Fin 96) : (show FVec Ideal S2x2048x96 .f32 from after hostOps0 V (Proc.devRef .tc main_v12)) (ix3 0 ch r) = ((show FVec Ideal S96x2048 .f32 from V (Proc.devRef .tc main_arg4)) (ix2 r ch) : EReal) := by
  after_reads_at
theorem h_v12_1 (ch : Fin 2048) (r : Fin 96) : (show FVec Ideal S2x2048x96 .f32 from after hostOps0 V (Proc.devRef .tc main_v12)) (ix3 1 ch r) = ((show FVec Ideal S96x2048 .f32 from V (Proc.devRef .tc main_arg11)) (ix2 r ch) : EReal) := by
  after_reads_at
theorem h_v17_0 (k : Fin 64) (ch : Fin 2048) : (show FVec Ideal S2x64x2048 .f32 from after hostOps0 V (Proc.devRef .tc main_v17)) (ix3 0 k ch) = ((show FVec Ideal S2048x64 .f32 from V (Proc.devRef .tc main_arg5)) (ix2 ch k) : EReal) := by
  after_reads_at
theorem h_v17_1 (k : Fin 64) (ch : Fin 2048) : (show FVec Ideal S2x64x2048 .f32 from after hostOps0 V (Proc.devRef .tc main_v17)) (ix3 1 k ch) = ((show FVec Ideal S2048x64 .f32 from V (Proc.devRef .tc main_arg12)) (ix2 ch k) : EReal) := by
  after_reads_at
theorem h_v22_0 (ch : Fin 2048) : (show FVec Ideal S2x1x2048 .f32 from after hostOps0 V (Proc.devRef .tc main_v22)) (ix3 0 0 ch) = ((show FVec Ideal S2048 .f32 from V (Proc.devRef .tc main_arg6)) (ix1 ch) : EReal) := by
  after_reads_at
theorem h_v22_1 (ch : Fin 2048) : (show FVec Ideal S2x1x2048 .f32 from after hostOps0 V (Proc.devRef .tc main_v22)) (ix3 1 0 ch) = ((show FVec Ideal S2048 .f32 from V (Proc.devRef .tc main_arg13)) (ix1 ch) : EReal) := by
  after_reads_at
theorem h_v29 (a b : Fin 512) : (show FVec Ideal S512x512 .f32 from after hostOps0 V (Proc.devRef .tc main_v29)) (ix2 a b) = (if a.rev = b then 1 else 0 : EReal) := by
  after_reads_at
  exact flipBit a b
end

end Cert.KernelIdeal.Whole

end
-- ==== Proof.KV.Val0.lean ====
/- Call 0's results: the two convolutions, the gate's input and the skip terms. -/
module

public import proofs.«01_k».proof.Proof.KV.Pay0
public import proofs.«01_k».proof.Proof.KV.Host0
public import Idealize.ShloMosaic.Lib.Pipeline.ValueKit

@[expose] public section

set_option maxRecDepth 16384

noncomputable section

namespace Cert.KernelIdeal.Whole

open Cert.KernelIdeal Cert.KernelIdeal.Gen
open Idealize.ShloMosaic Idealize.ShloMosaic.TcCoe
open Idealize.SL.Sem
open Idealize.ShloMosaic.Pipeline (Dat)
open Cert.Spec

section
variable (m : (ℓ : Loc nD τ sig) → Buf (Elt Ideal) ℓ) (ρ : Dev nD → PrngReg) (c : Dev nD)

/-- The inputs at launch. -/
def inp : In where
  hid := (show FVec Ideal S4x512x1024 .f32 from m ((c.tc : Thread nD τ).loc main_arg0))
  w := (show FVec Ideal S4096x1024 .f32 from m ((c.tc : Thread nD τ).loc main_arg1))
  Pf := ⟨(show FVec Ideal S2048x1x4 .f32 from m ((c.tc : Thread nD τ).loc main_arg2)), (show FVec Ideal S2048 .f32 from m ((c.tc : Thread nD τ).loc main_arg3)), (show FVec Ideal S96x2048 .f32 from m ((c.tc : Thread nD τ).loc main_arg4)), (show FVec Ideal S2048x64 .f32 from m ((c.tc : Thread nD τ).loc main_arg5)), (show FVec Ideal S2048 .f32 from m ((c.tc : Thread nD τ).loc main_arg6))⟩
  Pb := ⟨(show FVec Ideal S2048x1x4 .f32 from m ((c.tc : Thread nD τ).loc main_arg9)), (show FVec Ideal S2048 .f32 from m ((c.tc : Thread nD τ).loc main_arg10)), (show FVec Ideal S96x2048 .f32 from m ((c.tc : Thread nD τ).loc main_arg11)), (show FVec Ideal S2048x64 .f32 from m ((c.tc : Thread nD τ).loc main_arg12)), (show FVec Ideal S2048 .f32 from m ((c.tc : Thread nD τ).loc main_arg13))⟩
  al := (show FVec Ideal S2048x16 .f32 from m ((c.tc : Thread nD τ).loc main_arg7))
  alb := (show FVec Ideal S2048x16 .f32 from m ((c.tc : Thread nD τ).loc main_arg14))
  D := (show FVec Ideal S2048 .f32 from m ((c.tc : Thread nD τ).loc main_arg8))
  Db := (show FVec Ideal S2048 .f32 from m ((c.tc : Thread nD τ).loc main_arg15))
  wo := (show FVec Ideal S1024x2048 .f32 from m ((c.tc : Thread nD τ).loc main_arg16))

/-- What the convolution of direction `d` gives at position `l` of the sequence: direction 1 convolves the reversed
    sequence. -/
def _root_.Cert.Spec.In.xc (I : In) (d : Fin 2) (b : Fin 4) (l : Fin 512) (ch : Fin 2048) : EReal :=
  conv (I.P d) (I.s d b) (if d = 0 then l else l.rev) ch

/-- The skip terms of both directions at a position of the sequence. -/
def _root_.Cert.Spec.In.du (I : In) (b : Fin 4) (l : Fin 512) (ch : Fin 2048) : EReal :=
  I.sk 0 (ix1 ch) * clip10 (I.xc 0 b l ch) + I.sk 1 (ix1 ch) * clip10 (I.xc 1 b l ch)

/-- The blocks' places at every grid point. -/
theorem idx0 : ∀ t : Fin cfg0.N, win0_0.index t = ![t.val / 2, 0, 0] ∧ win0_1.index t = ![t.val % 2, 0] ∧ win0_2.index t = ![2 + t.val % 2, 0]
    ∧ win0_3.index t = ![0, t.val % 2] ∧ win0_4.index t = ![0, t.val % 2] ∧ win0_5.index t = ![0, t.val % 2] ∧ win0_6.index t = ![0, t.val % 2]
    ∧ win0_7.index t = ![0, t.val % 2] ∧ win0_8.index t = ![0, t.val % 2] ∧ win0_9.index t = ![t.val / 2, 0, 0, t.val % 2]
    ∧ win0_10.index t = ![0, t.val / 2, 0, t.val % 2] ∧ win0_11.index t = ![0, t.val / 2, 0, t.val % 2] ∧ t.val < 8 :=
  (by decide +kernel : ∀ t : Fin grid0.N, _)

/-- The batch of a grid point. -/
def bt0 (t : Fin cfg0.N) : Fin 4 := ⟨t.val / 2, by have := (idx0 t).2.2.2.2.2.2.2.2.2.2.2.2; omega⟩
/-- The channel of a tile's column. -/
def ch0 (t : Fin cfg0.N) (j : Fin 1024) : Fin 2048 := ⟨t.val % 2 * 1024 + j.val, by omega⟩

variable (t : Fin cfg0.N)

theorem v1_arg (b : Ref sig .tc) (h : b ∉ hostOps0_W) : V1 m ρ c b = m ((c.tc : Thread nD τ).loc b) := W1_of m ρ c b h

theorem b0_0 (l : Fin 512) (k : Fin 1024) : (show Vec Ideal S1x512x1024 .f32 from iblk0 (V1 m ρ) c 0 t) (ix3 0 l k) = (inp m c).hid (ix3 (bt0 t) l k) := by
  have h : V1 m ρ c main_arg0 = m ((c.tc : Thread nD τ).loc main_arg0) := v1_arg m ρ c _ (by decide)
  blk_simp [iblk0]
  show V1 m ρ c main_arg0 _ = _
  rw [h]
  blk_ext [inp, bt0, idx0 t]
theorem b0_1 (j k : Fin 1024) : (show Vec Ideal S1024x1024 .f32 from iblk0 (V1 m ρ) c 1 t) (ix2 j k) = (inp m c).w (ix2 ⟨(ch0 t j).val, by omega⟩ k) := by
  have h : V1 m ρ c main_arg1 = m ((c.tc : Thread nD τ).loc main_arg1) := v1_arg m ρ c _ (by decide)
  blk_simp [iblk0]
  show V1 m ρ c main_arg1 _ = _
  rw [h]
  blk_ext [inp, ch0, idx0 t]
theorem b0_2 (j k : Fin 1024) : (show Vec Ideal S1024x1024 .f32 from iblk0 (V1 m ρ) c 2 t) (ix2 j k) = (inp m c).w (ix2 ⟨2048 + (ch0 t j).val, by omega⟩ k) := by
  have h : V1 m ρ c main_arg1 = m ((c.tc : Thread nD τ).loc main_arg1) := v1_arg m ρ c _ (by decide)
  blk_simp [iblk0]
  show V1 m ρ c main_arg1 _ = _
  rw [h]
  blk_ext [inp, ch0, idx0 t]
theorem b0_3 (k : Fin 4) (j : Fin 1024) : (show Vec Ideal S4x1024 .f32 from iblk0 (V1 m ρ) c 3 t) (ix2 k j) = (inp m c).Pf.cw (ix3 (ch0 t j) 0 k) := by
  refine Eq.trans ?_ (h_v1 (W0 m ρ c) k (ch0 t j))
  blk_simp [iblk0]
  show V1 m ρ c main_v1 _ = V1 m ρ c main_v1 _
  blk_ext [ch0, idx0 t]
theorem b0_5 (k : Fin 4) (j : Fin 1024) : (show Vec Ideal S4x1024 .f32 from iblk0 (V1 m ρ) c 5 t) (ix2 k j) = (inp m c).Pb.cw (ix3 (ch0 t j) 0 k) := by
  refine Eq.trans ?_ (h_v3 (W0 m ρ c) k (ch0 t j))
  blk_simp [iblk0]
  show V1 m ρ c main_v3 _ = V1 m ρ c main_v3 _
  blk_ext [ch0, idx0 t]
theorem b0_4 (j : Fin 1024) : (show Vec Ideal S1x1024 .f32 from iblk0 (V1 m ρ) c 4 t) (ix2 0 j) = (inp m c).Pf.cb (ix1 (ch0 t j)) := by
  refine Eq.trans ?_ (h_v4 (W0 m ρ c) (ch0 t j))
  blk_simp [iblk0]
  show V1 m ρ c main_v4 _ = V1 m ρ c main_v4 _
  blk_ext [ch0, idx0 t]
theorem b0_6 (j : Fin 1024) : (show Vec Ideal S1x1024 .f32 from iblk0 (V1 m ρ) c 6 t) (ix2 0 j) = (inp m c).Pb.cb (ix1 (ch0 t j)) := by
  refine Eq.trans ?_ (h_v5 (W0 m ρ c) (ch0 t j))
  blk_simp [iblk0]
  show V1 m ρ c main_v5 _ = V1 m ρ c main_v5 _
  blk_ext [ch0, idx0 t]
theorem b0_7 (j : Fin 1024) : (show Vec Ideal S1x1024 .f32 from iblk0 (V1 m ρ) c 7 t) (ix2 0 j) = (inp m c).D (ix1 (ch0 t j)) := by
  refine Eq.trans ?_ (h_v6 (W0 m ρ c) (ch0 t j))
  blk_simp [iblk0]
  show V1 m ρ c main_v6 _ = V1 m ρ c main_v6 _
  blk_ext [ch0, idx0 t]
theorem b0_8 (j : Fin 1024) : (show Vec Ideal S1x1024 .f32 from iblk0 (V1 m ρ) c 8 t) (ix2 0 j) = (inp m c).Db (ix1 (ch0 t j)) := by
  refine Eq.trans ?_ (h_v7 (W0 m ρ c) (ch0 t j))
  blk_simp [iblk0]
  show V1 m ρ c main_v7 _ = V1 m ρ c main_v7 _
  blk_ext [ch0, idx0 t]

/-- Reads of the four weight rows. -/
theorem ld_row (x : Vec Ideal S4x1024 .f32) (j : Fin 1024) : View.ld x r0_2 (ix2 0 j) = x (ix2 3 j) ∧ View.ld x r0_3 (ix2 0 j) = x (ix2 2 j)
    ∧ View.ld x r0_4 (ix2 0 j) = x (ix2 1 j) ∧ View.ld x r0_5 (ix2 0 j) = x (ix2 0 j) := by
  refine ⟨?_, ?_, ?_, ?_⟩ <;> (unfold View.ld; refine congrArg x (funext fun a => Fin.ext ?_); fin_cases a <;> simp)
theorem ld_vec (x : Vec Ideal S1x1024 .f32) : View.ld x r0_6 = x := View.ld_unit_zero (by funext a; fin_cases a <;> rfl) _ _
theorem ld_hid (x : Vec Ideal S1x512x1024 .f32) : View.ld x r0_0 = x := View.ld_unit_zero (by funext a; fin_cases a <;> rfl) _ _
theorem ld_w (x : Vec Ideal S1024x1024 .f32) : View.ld x r0_1 = x := View.ld_unit_zero (by funext a; fin_cases a <;> rfl) _ _

/-- A tile's projection is the sequence's. -/
theorem proj0 (l : Fin 512) (j : Fin 1024) : k0_pay2 (View.ld (iblk0 (V1 m ρ) c 0 t) r0_0) (View.ld (iblk0 (V1 m ρ) c 1 t) r0_1) (ix2 l j)
    = ((inp m c).s 0 (bt0 t) l (ch0 t j) : EReal) := by
  rw [ld_hid, ld_w]
  refine (pay2_apply _ _ l j).trans ?_
  show _ = xz _ _ _ _ _
  unfold xz
  refine Finset.sum_congr rfl fun k _ => ?_
  exact congrArg₂ (fun a b : EReal => a * b) (b0_0 m ρ c t l k) (b0_1 m ρ c t j k)
theorem projz (l : Fin 512) (j : Fin 1024) : k0_pay3 (View.ld (iblk0 (V1 m ρ) c 0 t) r0_0) (View.ld (iblk0 (V1 m ρ) c 2 t) r0_1) (ix2 l j)
    = (sz (inp m c).hid (inp m c).w (bt0 t) l (ch0 t j) : EReal) := by
  rw [ld_hid, ld_w]
  refine (pay3_apply _ _ l j).trans ?_
  show _ = xz _ _ _ _ _
  unfold xz
  refine Finset.sum_congr rfl fun k _ => ?_
  exact congrArg₂ (fun a b : EReal => a * b) (b0_0 m ρ c t l k) (b0_2 m ρ c t j k)

/-- A tile's forward convolution. -/
theorem conv0 (l : Fin 512) (j : Fin 1024) :
    k0_pay7 (k0_pay14 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t))
      (k0_pay15 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t)) (ix2 l j)
    = ((inp m c).xc 0 (bt0 t) l (ch0 t j) : EReal) := by
  unfold k0_pay14 k0_pay15
  rw [ld_vec]
  have hw := ld_row (iblk0 (V1 m ρ) c 3 t) j
  exact pay5_conv ((inp m c).s 0 (bt0 t)) (ch0 t j) l ((inp m c).P 0) j _ _ _ _ _ (hw.1.trans (b0_3 m ρ c t 3 j)) (hw.2.1.trans (b0_3 m ρ c t 2 j)) (hw.2.2.1.trans (b0_3 m ρ c t 1 j))
    (hw.2.2.2.trans (b0_3 m ρ c t 0 j)) (b0_4 m ρ c t j) _ _ (fun l => proj0 m ρ c t l j)
/-- A tile's backward convolution. -/
theorem conv1 (l : Fin 512) (j : Fin 1024) :
    k0_pay8 (k0_pay12 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t))
      (k0_pay13 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t))
      (View.ld (iblk0 (V1 m ρ) c 5 t) r0_2) (View.ld (iblk0 (V1 m ρ) c 5 t) r0_3) (View.ld (iblk0 (V1 m ρ) c 5 t) r0_4) (View.ld (iblk0 (V1 m ρ) c 5 t) r0_5) (View.ld (iblk0 (V1 m ρ) c 6 t) r0_6) (ix2 l j)
    = ((inp m c).xc 1 (bt0 t) l (ch0 t j) : EReal) := by
  unfold k0_pay12 k0_pay13
  rw [ld_vec]
  have hw := ld_row (iblk0 (V1 m ρ) c 5 t) j
  exact pay8_conv ((inp m c).s 0 (bt0 t)) (ch0 t j) l ((inp m c).P 1) j _ _ _ _ _ (hw.1.trans (b0_5 m ρ c t 3 j)) (hw.2.1.trans (b0_5 m ρ c t 2 j)) (hw.2.2.1.trans (b0_5 m ρ c t 1 j))
    (hw.2.2.2.trans (b0_5 m ρ c t 0 j)) (b0_6 m ρ c t j) _ (fun l => proj0 m ρ c t l j)

theorem pay9_apply (x : FVec Ideal S512x1024 .f32) (y : FVec Ideal S1x1024 .f32) (l : Fin 512) (j : Fin 1024) : k0_pay9 x y (ix4 0 0 l j) = k0_pay7 x y (ix2 l j) := by
  pointwise [k0_pay9]
theorem pay10_apply (x : FVec Ideal S512x1024 .f32) (y : FVec Ideal S1x1024 .f32) (a b d e f : Vec Ideal S1x1024 .f32) (l : Fin 512) (j : Fin 1024) :
    k0_pay10 x y a b d e f (ix4 0 0 l j) = k0_pay8 x y a b d e f (ix2 l j) := by
  pointwise [k0_pay10]
theorem pay11_apply (x : FVec Ideal S512x1024 .f32) (l : Fin 512) (j : Fin 1024) : k0_pay11 x (ix4 l 0 0 j) = x (ix2 l j) := by
  pointwise [k0_pay11]

/-- The two stores' places. -/
theorem canon9 (p q : Vec Ideal S1x1x512x1024 .f32) (d : Fin 2) (l : Fin 512) (j : Fin 1024) :
    View.canon ([⟨r0_8, p⟩, ⟨r0_7, q⟩] : List (View.Piece (Elt Ideal) S1x2x512x1024 .f32)) (ix4 0 d l j) = if d = 0 then q (ix4 0 0 l j) else p (ix4 0 0 l j) := by
  canon_tiles x h
  · have e : (d : ℕ) = 1 + (x 1 : ℕ) := h1
    rw [if_neg (by intro q; rw [q] at e; simp at e)]
    refine congrArg p (funext fun a => Fin.ext ?_)
    fin_cases a
    · show (x 0 : ℕ) = 0; omega
    · show (x 1 : ℕ) = 0; omega
    · exact h2.symm
    · exact h3.symm
  · have e : (d : ℕ) = (x 1 : ℕ) := h1
    rw [if_pos (Fin.ext (by simp; omega))]
    refine congrArg q (funext fun a => Fin.ext ?_)
    fin_cases a
    · show (x 0 : ℕ) = 0; omega
    · show (x 1 : ℕ) = 0; omega
    · exact h2.symm
    · exact h3.symm

/-- The two convolutions of a tile, in its buffer. -/
theorem buf0_9 (d : Fin 2) (l : Fin 512) (j : Fin 1024) : out0_9 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (ix4 0 d l j)
    = ((inp m c).xc d (bt0 t) l (ch0 t j) : EReal) := by
  unfold out0_9
  refine (canon9 _ _ d l j).trans ?_
  fin_cases d
  · refine (if_pos rfl).trans ?_
    exact (pay9_apply _ _ l j).trans (conv0 m ρ c t l j)
  · refine (if_neg (by decide)).trans ?_
    exact (pay10_apply _ _ _ _ _ _ _ l j).trans (conv1 m ρ c t l j)
/-- The gate's input of a tile, in its buffer. -/
theorem buf0_10 (l : Fin 512) (j : Fin 1024) : out0_10 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (ix4 l 0 0 j)
    = (sz (inp m c).hid (inp m c).w (bt0 t) l (ch0 t j) : EReal) := by
  unfold out0_10
  rw [View.canon_unit_zero (by funext a; fin_cases a <;> rfl)]
  exact (pay11_apply _ l j).trans (projz m ρ c t l j)
/-- The skip terms of a tile, in its buffer. -/
theorem buf0_11 (l : Fin 512) (j : Fin 1024) : out0_11 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (ix4 l 0 0 j)
    = ((inp m c).du (bt0 t) l (ch0 t j) : EReal) := by
  unfold out0_11
  rw [View.canon_unit_zero (by funext a; fin_cases a <;> rfl)]
  refine (pay1_apply _ _ _ _ l j).trans ?_
  refine congrArg₂ (fun a b : EReal => a + b) (congrArg₂ (fun a b : EReal => a * clip10 b) ?_ (conv0 m ρ c t l j)) (congrArg₂ (fun a b : EReal => a * clip10 b) ?_ (conv1 m ρ c t l j))
  · rw [ld_vec]; exact b0_7 m ρ c t j
  · rw [ld_vec]; exact b0_8 m ρ c t j

theorem fin0_9 : (dat0 (V1 m ρ) c).arrAt 9 cfg0.N = (show FVec Ideal S4x2x512x2048 .f32 from fun i => (inp m c).xc (i 1) (i 0) (i 2) (i 3)) := by
  refine (dat0 (V1 m ρ) c).arrAt_eq_of_covers 9 _ (by decide +kernel) fun t _ y => ?_
  blk_simp
  rw [after0_9]
  idx_vars y
  obtain rfl : y0 = 0 := Subsingleton.elim _ _
  refine (buf0_9 m ρ c t y1 y2 y3).trans ?_
  refine congr (congr (congr (congrArg (inp m c).xc ?_) ?_) ?_) ?_ <;> (refine Fin.ext ?_; blk_simp [idx0 t, bt0, ch0]; first | done | omega | rfl)
theorem fin0_10 : (dat0 (V1 m ρ) c).arrAt 10 cfg0.N = (show FVec Ideal S512x4x1x2048 .f32 from fun i => sz (inp m c).hid (inp m c).w (i 1) (i 0) (i 3)) := by
  refine (dat0 (V1 m ρ) c).arrAt_eq_of_covers 10 _ (by decide +kernel) fun t _ y => ?_
  blk_simp
  rw [after0_10]
  idx_vars y
  obtain rfl : y1 = 0 := Subsingleton.elim _ _
  obtain rfl : y2 = 0 := Subsingleton.elim _ _
  refine (buf0_10 m ρ c t y0 y3).trans ?_
  refine congr (congr (congrArg (sz (inp m c).hid (inp m c).w) ?_) ?_) ?_ <;> (refine Fin.ext ?_; blk_simp [idx0 t, bt0, ch0]; first | done | omega | rfl)
theorem fin0_11 : (dat0 (V1 m ρ) c).arrAt 11 cfg0.N = (show FVec Ideal S512x4x1x2048 .f32 from fun i => (inp m c).du (i 1) (i 0) (i 3)) := by
  refine (dat0 (V1 m ρ) c).arrAt_eq_of_covers 11 _ (by decide +kernel) fun t _ y => ?_
  blk_simp
  rw [after0_11]
  idx_vars y
  obtain rfl : y1 = 0 := Subsingleton.elim _ _
  obtain rfl : y2 = 0 := Subsingleton.elim _ _
  refine (buf0_11 m ρ c t y0 y3).trans ?_
  refine congr (congr (congrArg (inp m c).du ?_) ?_) ?_ <;> (refine Fin.ext ?_; blk_simp [idx0 t, bt0, ch0]; first | done | omega | rfl)

/-- The convolutions after call 0. -/
theorem w2_v30_0 (b : Fin 4) (d : Fin 2) (l : Fin 512) (ch : Fin 2048) : (show FVec Ideal S4x2x512x2048 .f32 from W2 m ρ c (Proc.devRef .tc main_v30_0)) (ix4 b d l ch) = ((inp m c).xc d b l ch : EReal) :=
  congrFun ((W2_arr m ρ c 9).trans (fin0_9 m ρ c)) (ix4 b d l ch)
/-- The gate's input after call 0. -/
theorem w2_v30_1 (b : Fin 4) (l : Fin 512) (ch : Fin 2048) : (show FVec Ideal S512x4x1x2048 .f32 from W2 m ρ c (Proc.devRef .tc main_v30_1)) (ix4 l b 0 ch) = (sz (inp m c).hid (inp m c).w b l ch : EReal) :=
  congrFun ((W2_arr m ρ c 10).trans (fin0_10 m ρ c)) (ix4 l b 0 ch)
/-- The skip terms after call 0. -/
theorem w2_v30_2 (b : Fin 4) (l : Fin 512) (ch : Fin 2048) : (show FVec Ideal S512x4x1x2048 .f32 from W2 m ρ c (Proc.devRef .tc main_v30_2)) (ix4 l b 0 ch) = ((inp m c).du b l ch : EReal) :=
  congrFun ((W2_arr m ρ c 11).trans (fin0_11 m ρ c)) (ix4 l b 0 ch)
end

end Cert.KernelIdeal.Whole

end
-- ==== Proof.KV.Val1.lean ====
/- Call 1's results: the decays, the scan's inputs, and its input and output matrices. -/
module

public import proofs.«01_k».proof.Proof.KV.Pay1
public import proofs.«01_k».proof.Proof.KV.Val0

@[expose] public section

set_option maxRecDepth 16384

noncomputable section

namespace Cert.KernelIdeal.Whole

open Cert.KernelIdeal Cert.KernelIdeal.Gen
open Idealize.ShloMosaic Idealize.ShloMosaic.TcCoe
open Idealize.SL.Sem
open Idealize.ShloMosaic.Pipeline (Dat)
open Cert.Spec

section
variable (m : (ℓ : Loc nD τ sig) → Buf (Elt Ideal) ℓ) (ρ : Dev nD → PrngReg) (c : Dev nD)

/-- The blocks' places at every grid point. -/
theorem idx1 : ∀ t : Fin cfg1.N, win1_0.index t = ![t.val % 4, t.val / 4, 0, 0] ∧ win1_1.index t = ![0, 0] ∧ win1_2.index t = ![t.val / 4, 0, 0]
    ∧ win1_3.index t = ![t.val / 4, 0, 0] ∧ win1_4.index t = ![t.val / 4, 0, 0] ∧ win1_5.index t = ![0, t.val, 0, 0] ∧ win1_6.index t = ![0, t.val, 0, 0]
    ∧ win1_7.index t = ![0, t.val, 0, 0] ∧ win1_8.index t = ![0, t.val, 0, 0] ∧ t.val < 8 :=
  (by decide +kernel : ∀ t : Fin grid1.N, _)

/-- The batch of a row of the scan. -/
def rb (r : Fin 8) : Fin 4 := ⟨r.val % 4, by omega⟩
/-- The direction of a row of the scan. -/
def rd (r : Fin 8) : Fin 2 := ⟨r.val / 4, by omega⟩
/-- The row of a grid point. -/
def rt1 (t : Fin cfg1.N) : Fin 8 := ⟨t.val, (idx1 t).2.2.2.2.2.2.2.2.2⟩

/-- The parameters of a row. -/
abbrev _root_.Cert.Spec.In.rP (I : In) (r : Fin 8) : Par := I.P (rd r)
/-- The sequence of a row. -/
abbrev _root_.Cert.Spec.In.rs (I : In) (r : Fin 8) : Sq := I.s (rd r) (rb r)

/-- The decays of a row: `exp` of minus the time step. -/
def _root_.Cert.Spec.In.rp (I : In) (r : Fin 8) (l : Fin 512) (ch : Fin 2048) : EReal := Ideal.exp (-(delta (I.rP r) (I.rs r) l ch))
/-- The scan's input of a row: the time step times the clipped convolution. -/
def _root_.Cert.Spec.In.rdu (I : In) (r : Fin 8) (l : Fin 512) (ch : Fin 2048) : EReal := delta (I.rP r) (I.rs r) l ch * uu (I.rP r) (I.rs r) l ch
/-- The scan's input matrix of a row. -/
def _root_.Cert.Spec.In.rB (I : In) (r : Fin 8) (l : Fin 512) (n : Fin 16) : EReal := Bm (I.rP r) (I.rs r) l n
/-- The scan's output matrix of a row. -/
def _root_.Cert.Spec.In.rC (I : In) (r : Fin 8) (l : Fin 512) (n : Fin 16) : EReal := Cm (I.rP r) (I.rs r) l n

variable (t : Fin cfg1.N)

theorem w2_v29 (a b : Fin 512) : (show FVec Ideal S512x512 .f32 from V2 m ρ c main_v29) (ix2 a b) = (if a.rev = b then 1 else 0 : EReal) :=
  (congrFun (W2_of m ρ c main_v29 (by decide)) _).trans (h_v29 (W0 m ρ c) a b)
theorem w2_v12 (d : Fin 2) (ch : Fin 2048) (r : Fin 96) : (show FVec Ideal S2x2048x96 .f32 from V2 m ρ c main_v12) (ix3 d ch r) = (((inp m c).P d).xp (ix2 r ch) : EReal) := by
  refine (congrFun (W2_of m ρ c main_v12 (by decide)) _).trans ?_
  fin_cases d
  · exact h_v12_0 (W0 m ρ c) ch r
  · exact h_v12_1 (W0 m ρ c) ch r
theorem w2_v17 (d : Fin 2) (k : Fin 64) (ch : Fin 2048) : (show FVec Ideal S2x64x2048 .f32 from V2 m ρ c main_v17) (ix3 d k ch) = (((inp m c).P d).dw (ix2 ch k) : EReal) := by
  refine (congrFun (W2_of m ρ c main_v17 (by decide)) _).trans ?_
  fin_cases d
  · exact h_v17_0 (W0 m ρ c) k ch
  · exact h_v17_1 (W0 m ρ c) k ch
theorem w2_v22 (d : Fin 2) (ch : Fin 2048) : (show FVec Ideal S2x1x2048 .f32 from V2 m ρ c main_v22) (ix3 d 0 ch) = (((inp m c).P d).db (ix1 ch) : EReal) := by
  refine (congrFun (W2_of m ρ c main_v22 (by decide)) _).trans ?_
  fin_cases d
  · exact h_v22_0 (W0 m ρ c) ch
  · exact h_v22_1 (W0 m ρ c) ch

theorem b1_0 (l : Fin 512) (ch : Fin 2048) : (show Vec Ideal S1x1x512x2048 .f32 from iblk1 (V2 m ρ) c 0 t) (ix4 0 0 l ch) = ((inp m c).xc (rd (rt1 t)) (rb (rt1 t)) l ch : EReal) := by
  refine Eq.trans ?_ (w2_v30_0 m ρ c (rb (rt1 t)) (rd (rt1 t)) l ch)
  blk_simp [iblk1]
  show V2 m ρ c main_v30_0 _ = V2 m ρ c main_v30_0 _
  blk_ext [rd, rb, rt1, idx1 t]
theorem b1_1 (a b : Fin 512) : (show Vec Ideal S512x512 .f32 from iblk1 (V2 m ρ) c 1 t) (ix2 a b) = (if a.rev = b then 1 else 0 : EReal) := by
  refine Eq.trans ?_ (w2_v29 m ρ c a b)
  blk_simp [iblk1]
  show V2 m ρ c main_v29 _ = V2 m ρ c main_v29 _
  blk_ext [idx1 t]
theorem b1_2 (ch : Fin 2048) (r : Fin 96) : (show Vec Ideal S1x2048x96 .f32 from iblk1 (V2 m ρ) c 2 t) (ix3 0 ch r) = (((inp m c).rP (rt1 t)).xp (ix2 r ch) : EReal) := by
  refine Eq.trans ?_ (w2_v12 m ρ c (rd (rt1 t)) ch r)
  blk_simp [iblk1]
  show V2 m ρ c main_v12 _ = V2 m ρ c main_v12 _
  blk_ext [rd, rb, rt1, idx1 t]
theorem b1_3 (k : Fin 64) (ch : Fin 2048) : (show Vec Ideal S1x64x2048 .f32 from iblk1 (V2 m ρ) c 3 t) (ix3 0 k ch) = (((inp m c).rP (rt1 t)).dw (ix2 ch k) : EReal) := by
  refine Eq.trans ?_ (w2_v17 m ρ c (rd (rt1 t)) k ch)
  blk_simp [iblk1]
  show V2 m ρ c main_v17 _ = V2 m ρ c main_v17 _
  blk_ext [rd, rb, rt1, idx1 t]
theorem b1_4 (ch : Fin 2048) : (show Vec Ideal S1x1x2048 .f32 from iblk1 (V2 m ρ) c 4 t) (ix3 0 0 ch) = (((inp m c).rP (rt1 t)).db (ix1 ch) : EReal) := by
  refine Eq.trans ?_ (w2_v22 m ρ c (rd (rt1 t)) ch)
  blk_simp [iblk1]
  show V2 m ρ c main_v22 _ = V2 m ρ c main_v22 _
  blk_ext [rd, rb, rt1, idx1 t]

theorem ld1_0 (x : Vec Ideal S1x1x512x2048 .f32) : View.ld x r1_0 = x := View.ld_unit_zero (by funext a; fin_cases a <;> rfl) _ _
theorem ld1_1 (x : Vec Ideal S512x512 .f32) : View.ld x r1_1 = x := View.ld_unit_zero (by funext a; fin_cases a <;> rfl) _ _
theorem ld1_2 (x : Vec Ideal S1x2048x96 .f32) : View.ld x r1_2 = x := View.ld_unit_zero (by funext a; fin_cases a <;> rfl) _ _
theorem ld1_3 (x : Vec Ideal S1x64x2048 .f32) : View.ld x r1_3 = x := View.ld_unit_zero (by funext a; fin_cases a <;> rfl) _ _
theorem ld1_4 (x : Vec Ideal S1x1x2048 .f32) : View.ld x r1_4 = x := View.ld_unit_zero (by funext a; fin_cases a <;> rfl) _ _

/-- The reversal matrix picks the row counted from the end. -/
theorem flipSum (f : Fin 512 → EReal) (l : Fin 512) : (∑ k : Fin 512, (if l.rev = k then 1 else 0 : EReal) * f k) = f l.rev := by
  rw [Finset.sum_eq_single l.rev]
  · rw [if_pos rfl, one_mul]
  · intro k _ hk; rw [if_neg (Ne.symm hk), zero_mul]
  · intro h; exact absurd (Finset.mem_univ _) h

/-- The rows the projections read: the convolution of the row's sequence. -/
theorem xs1 (l : Fin 512) (ch : Fin 2048) : xsAt1 (V2 m ρ) c t (ix2 l ch) = (conv ((inp m c).rP (rt1 t)) ((inp m c).rs (rt1 t)) l ch : EReal) := by
  unfold xsAt1
  have hlt := (idx1 t).2.2.2.2.2.2.2.2.2
  by_cases h : t.val < 4
  · rw [if_pos h]; unfold xs1A; rw [ld1_0]
    refine (p1_pay1 _ l ch).trans ((b1_0 m ρ c t l ch).trans ?_)
    have hd : rd (rt1 t) = 0 := Fin.ext (by show t.val / 4 = 0; omega)
    unfold In.xc
    rw [if_pos hd]
  · rw [if_neg h]; unfold xs1B; rw [ld1_0, ld1_1]
    refine (p1_pay2 _ _ l ch).trans ?_
    refine (Finset.sum_congr rfl fun k _ => congrArg₂ (fun a b : EReal => a * b) (b1_1 m ρ c t l k) (b1_0 m ρ c t k ch)).trans ?_
    refine (flipSum (fun k => (inp m c).xc (rd (rt1 t)) (rb (rt1 t)) k ch) l).trans ?_
    have hd : rd (rt1 t) = 1 := Fin.ext (by show t.val / 4 = 1; omega)
    unfold In.xc
    rw [if_neg (by rw [hd]; decide), Fin.rev_rev]

/-- The x projection of a row. -/
theorem xdbl1 (l : Fin 512) (r : Fin 96) : k1_pay3 (xsAt1 (V2 m ρ) c t) (View.ld (iblk1 (V2 m ρ) c 2 t) r1_2) (ix2 l r)
    = (xdbl ((inp m c).rP (rt1 t)) ((inp m c).rs (rt1 t)) l r : EReal) := by
  rw [ld1_2]
  refine (p1_pay3 _ _ l r).trans ?_
  unfold xdbl
  exact Finset.sum_congr rfl fun k _ => congrArg₂ (fun a b : EReal => a * b) (xs1 m ρ c t l k) (b1_2 m ρ c t k r)
/-- The time step of a row before its bias. -/
theorem dt1 (l : Fin 512) (ch : Fin 2048) : k1_pay4 (xsAt1 (V2 m ρ) c t) (View.ld (iblk1 (V2 m ρ) c 2 t) r1_2) (View.ld (iblk1 (V2 m ρ) c 3 t) r1_3) (ix2 l ch)
    = (∑ k : Fin 64, xdbl ((inp m c).rP (rt1 t)) ((inp m c).rs (rt1 t)) l ⟨k, by omega⟩ * ((inp m c).rP (rt1 t)).dw (ix2 ch k) : EReal) := by
  rw [ld1_3]
  refine (p1_pay4 _ _ _ l ch).trans ?_
  exact Finset.sum_congr rfl fun k _ => congrArg₂ (fun a b : EReal => a * b) (xdbl1 m ρ c t l _) (b1_3 m ρ c t k ch)
/-- The bias of a row as the body loads it. -/
theorem b1_4l (ch : Fin 2048) : View.ld (iblk1 (V2 m ρ) c 4 t) r1_4 (ix3 0 0 ch) = (((inp m c).rP (rt1 t)).db (ix1 ch) : EReal) :=
  (congrFun (ld1_4 (iblk1 (V2 m ρ) c 4 t)) (ix3 0 0 ch)).trans (b1_4 m ρ c t ch)
/-- Equal pieces give equal time steps. -/
theorem spCongr (e : EReal) {a a' b b' d : EReal} (h1 : a = a') (h2 : d = b') (h3 : b = b') :
    softplus (min 1 (max e (a + d)) + b) = softplus (min 1 (max e (a' + b')) + b') := by rw [h1, h2, h3]
/-- A function of a row, a time and a channel, at equal arguments. -/
theorem eq3 {A B C : Type} (f : A → B → C → EReal) {a a' : A} {b b' : B} {x x' : C} (h1 : a = a') (h2 : b = b') (h3 : x = x') :
    f a b x = f a' b' x' := by rw [h1, h2, h3]
/-- The time step of a row. -/
theorem delta1 (l : Fin 512) (ch : Fin 2048) : k1_pay6 (k1_pay4 (xsAt1 (V2 m ρ) c t) (View.ld (iblk1 (V2 m ρ) c 2 t) r1_2) (View.ld (iblk1 (V2 m ρ) c 3 t) r1_3))
      (k1_pay5 (View.ld (iblk1 (V2 m ρ) c 4 t) r1_4)) (View.ld (iblk1 (V2 m ρ) c 4 t) r1_4) (ix2 l ch)
    = (delta ((inp m c).rP (rt1 t)) ((inp m c).rs (rt1 t)) l ch : EReal) := by
  refine (p1_pay6 _ _ _ l ch).trans ?_
  show softplus _ = softplus (min 1 (max (Ideal.ofBits .f32 0x3727C5AC#32) ((∑ k : Fin 64, xdbl ((inp m c).rP (rt1 t)) ((inp m c).rs (rt1 t)) l ⟨k, by omega⟩ * ((inp m c).rP (rt1 t)).dw (ix2 ch k)) + ((inp m c).rP (rt1 t)).db (ix1 ch))) + ((inp m c).rP (rt1 t)).db (ix1 ch))
  exact spCongr (Ideal.ofBits .f32 0x3727C5AC#32) (dt1 m ρ c t l ch) ((p1_pay5 _ ch).trans (b1_4l m ρ c t ch)) (b1_4l m ρ c t ch)

theorem buf1_5 (l : Fin 512) (ch : Fin 2048) : out1_5 (xsAt1 (V2 m ρ) c t) (iblk1 (V2 m ρ) c 2 t) (iblk1 (V2 m ρ) c 3 t) (iblk1 (V2 m ρ) c 4 t) (ix4 l 0 0 ch)
    = (Ideal.exp (-(delta ((inp m c).rP (rt1 t)) ((inp m c).rs (rt1 t)) l ch)) : EReal) := by
  unfold out1_5
  rw [View.canon_unit_zero (by funext a; fin_cases a <;> rfl)]
  exact (p1_pay7 _ _ _ l ch).trans (congrArg (fun x : EReal => Ideal.exp (-x)) (delta1 m ρ c t l ch))
theorem buf1_6 (l : Fin 512) (ch : Fin 2048) : out1_6 (xsAt1 (V2 m ρ) c t) (iblk1 (V2 m ρ) c 2 t) (iblk1 (V2 m ρ) c 3 t) (iblk1 (V2 m ρ) c 4 t) (ix4 l 0 0 ch)
    = (delta ((inp m c).rP (rt1 t)) ((inp m c).rs (rt1 t)) l ch * uu ((inp m c).rP (rt1 t)) ((inp m c).rs (rt1 t)) l ch : EReal) := by
  unfold out1_6
  rw [View.canon_unit_zero (by funext a; fin_cases a <;> rfl)]
  exact (p1_pay8 _ _ _ _ l ch).trans (congrArg₂ (fun x y : EReal => x * clip10 y) (delta1 m ρ c t l ch) (xs1 m ρ c t l ch))
theorem buf1_7 (l : Fin 512) (n : Fin 16) : out1_7 (xsAt1 (V2 m ρ) c t) (iblk1 (V2 m ρ) c 2 t) (ix4 l 0 0 n)
    = (Bm ((inp m c).rP (rt1 t)) ((inp m c).rs (rt1 t)) l n : EReal) := by
  unfold out1_7
  rw [View.canon_unit_zero (by funext a; fin_cases a <;> rfl)]
  exact (p1_pay9 _ l n).trans (xdbl1 m ρ c t l _)
theorem buf1_8 (l : Fin 512) (n : Fin 16) : out1_8 (xsAt1 (V2 m ρ) c t) (iblk1 (V2 m ρ) c 2 t) (ix4 l 0 0 n)
    = (Cm ((inp m c).rP (rt1 t)) ((inp m c).rs (rt1 t)) l n : EReal) := by
  unfold out1_8
  rw [View.canon_unit_zero (by funext a; fin_cases a <;> rfl)]
  exact (p1_pay10 _ l n).trans (xdbl1 m ρ c t l _)

theorem fin1_5 : (dat1 (V2 m ρ) c).arrAt 5 cfg1.N = (show FVec Ideal S512x8x1x2048 .f32 from fun i => (inp m c).rp (i 1) (i 0) (i 3)) := by
  refine (dat1 (V2 m ρ) c).arrAt_eq_of_covers 5 _ (by decide +kernel) fun t _ y => ?_
  blk_simp
  rw [after1_5]
  idx_vars y
  obtain rfl : y1 = 0 := Subsingleton.elim _ _
  obtain rfl : y2 = 0 := Subsingleton.elim _ _
  refine (buf1_5 m ρ c t y0 y3).trans ?_
  refine eq3 (inp m c).rp (a := rt1 t) (b := y0) (x := y3) ?_ ?_ ?_ <;> (refine Fin.ext ?_; blk_simp [idx1 t, rt1]; first | done | omega | rfl)
/-- The decays after call 1. -/
theorem w3_v31_0 (r : Fin 8) (l : Fin 512) (x : Fin 2048) : (show FVec Ideal S512x8x1x2048 .f32 from W3 m ρ c (Proc.devRef .tc main_v31_0)) (ix4 l r 0 x) = ((inp m c).rp r l x : EReal) :=
  congrFun ((W3_arr m ρ c 5).trans (fin1_5 m ρ c)) (ix4 l r 0 x)
theorem fin1_6 : (dat1 (V2 m ρ) c).arrAt 6 cfg1.N = (show FVec Ideal S512x8x1x2048 .f32 from fun i => (inp m c).rdu (i 1) (i 0) (i 3)) := by
  refine (dat1 (V2 m ρ) c).arrAt_eq_of_covers 6 _ (by decide +kernel) fun t _ y => ?_
  blk_simp
  rw [after1_6]
  idx_vars y
  obtain rfl : y1 = 0 := Subsingleton.elim _ _
  obtain rfl : y2 = 0 := Subsingleton.elim _ _
  refine (buf1_6 m ρ c t y0 y3).trans ?_
  refine eq3 (inp m c).rdu (a := rt1 t) (b := y0) (x := y3) ?_ ?_ ?_ <;> (refine Fin.ext ?_; blk_simp [idx1 t, rt1]; first | done | omega | rfl)
/-- The scan's inputs after call 1. -/
theorem w3_v31_1 (r : Fin 8) (l : Fin 512) (x : Fin 2048) : (show FVec Ideal S512x8x1x2048 .f32 from W3 m ρ c (Proc.devRef .tc main_v31_1)) (ix4 l r 0 x) = ((inp m c).rdu r l x : EReal) :=
  congrFun ((W3_arr m ρ c 6).trans (fin1_6 m ρ c)) (ix4 l r 0 x)
theorem fin1_7 : (dat1 (V2 m ρ) c).arrAt 7 cfg1.N = (show FVec Ideal S512x8x1x16 .f32 from fun i => (inp m c).rB (i 1) (i 0) (i 3)) := by
  refine (dat1 (V2 m ρ) c).arrAt_eq_of_covers 7 _ (by decide +kernel) fun t _ y => ?_
  blk_simp
  rw [after1_7]
  idx_vars y
  obtain rfl : y1 = 0 := Subsingleton.elim _ _
  obtain rfl : y2 = 0 := Subsingleton.elim _ _
  refine (buf1_7 m ρ c t y0 y3).trans ?_
  refine eq3 (inp m c).rB (a := rt1 t) (b := y0) (x := y3) ?_ ?_ ?_ <;> (refine Fin.ext ?_; blk_simp [idx1 t, rt1]; first | done | omega | rfl)
/-- The scan's input matrix after call 1. -/
theorem w3_v31_2 (r : Fin 8) (l : Fin 512) (x : Fin 16) : (show FVec Ideal S512x8x1x16 .f32 from W3 m ρ c (Proc.devRef .tc main_v31_2)) (ix4 l r 0 x) = ((inp m c).rB r l x : EReal) :=
  congrFun ((W3_arr m ρ c 7).trans (fin1_7 m ρ c)) (ix4 l r 0 x)
theorem fin1_8 : (dat1 (V2 m ρ) c).arrAt 8 cfg1.N = (show FVec Ideal S512x8x1x16 .f32 from fun i => (inp m c).rC (i 1) (i 0) (i 3)) := by
  refine (dat1 (V2 m ρ) c).arrAt_eq_of_covers 8 _ (by decide +kernel) fun t _ y => ?_
  blk_simp
  rw [after1_8]
  idx_vars y
  obtain rfl : y1 = 0 := Subsingleton.elim _ _
  obtain rfl : y2 = 0 := Subsingleton.elim _ _
  refine (buf1_8 m ρ c t y0 y3).trans ?_
  refine eq3 (inp m c).rC (a := rt1 t) (b := y0) (x := y3) ?_ ?_ ?_ <;> (refine Fin.ext ?_; blk_simp [idx1 t, rt1]; first | done | omega | rfl)
/-- The scan's output matrix after call 1. -/
theorem w3_v31_3 (r : Fin 8) (l : Fin 512) (x : Fin 16) : (show FVec Ideal S512x8x1x16 .f32 from W3 m ρ c (Proc.devRef .tc main_v31_3)) (ix4 l r 0 x) = ((inp m c).rC r l x : EReal) :=
  congrFun ((W3_arr m ρ c 8).trans (fin1_8 m ρ c)) (ix4 l r 0 x)
end

end Cert.KernelIdeal.Whole

end
-- ==== Proof.KV.Host2.lean ====
/- The buffers that the host operations around the scan compute, read at an element. -/
module

public import proofs.«01_k».proof.Proof.KI.Fold0
public import proofs.«01_k».proof.Proof.V.Spec
public import Idealize.ShloMosaic.Lib.StableHlo.ReadAt

@[expose] public section

set_option maxRecDepth 16384

noncomputable section

namespace Cert.KernelIdeal.Whole

open Cert.KernelIdeal Cert.KernelIdeal.Gen
open Idealize.ShloMosaic Idealize.ShloMosaic.TcCoe
open Idealize.SL.Sem
open Idealize.ShloMosaic.StableHlo
open Cert.Spec

/-- One where the two numbers are the same, nought elsewhere. -/
theorem oneHotBit (a b : Fin 16) : (FloatOps.uitofp (F := Ideal) FTy.f32
      (IntOp.cmpi CmpIPredicate.eq (IntOp.addi (BitVec.ofNat 32 (a : ℕ)) 0#32) (BitVec.ofNat 32 (b : ℕ))) : EReal) = if a = b then 1 else 0 := by
  by_cases h : a = b
  · rw [if_pos h, ← h]
    have e : IntOp.cmpi CmpIPredicate.eq (IntOp.addi (BitVec.ofNat 32 (a : ℕ)) 0#32) (BitVec.ofNat 32 (a : ℕ)) = 1#1 := by
      simp [IntOp.cmpi, IntOp.addi]
    rw [e]
    show (((1#1 : BitVec 1).toNat : ℝ) : EReal) = 1
    simp
  · rw [if_neg h]
    have e : IntOp.cmpi CmpIPredicate.eq (IntOp.addi (BitVec.ofNat 32 (a : ℕ)) 0#32) (BitVec.ofNat 32 (b : ℕ)) = 0#1 := by
      revert h; revert a b; decide
    rw [e]
    show (((0#1 : BitVec 1).toNat : ℝ) : EReal) = 0
    simp

section
variable (V : Valuation τ sig (Elt Ideal))
theorem h_v40 (l : Fin 512) (r : Fin 8) (x : Fin 2048) : (show FVec Ideal S512x1x8x2048 .f32 from after hostOps2 V (Proc.devRef .tc main_v40)) (ix4 l 0 r x) = ((show FVec Ideal S512x8x1x2048 .f32 from V (Proc.devRef .tc main_v31_0)) (ix4 l r 0 x) : EReal) := by
  after_reads_at
theorem h_v41 (l : Fin 512) (r : Fin 8) (x : Fin 2048) : (show FVec Ideal S512x1x8x2048 .f32 from after hostOps2 V (Proc.devRef .tc main_v41)) (ix4 l 0 r x) = ((show FVec Ideal S512x8x1x2048 .f32 from V (Proc.devRef .tc main_v31_1)) (ix4 l r 0 x) : EReal) := by
  after_reads_at
theorem h_v42 (l : Fin 512) (r : Fin 8) (x : Fin 16) : (show FVec Ideal S512x1x8x16 .f32 from after hostOps2 V (Proc.devRef .tc main_v42)) (ix4 l 0 r x) = ((show FVec Ideal S512x8x1x16 .f32 from V (Proc.devRef .tc main_v31_2)) (ix4 l r 0 x) : EReal) := by
  after_reads_at
theorem h_v43 (l : Fin 512) (r : Fin 8) (x : Fin 16) : (show FVec Ideal S512x1x8x16 .f32 from after hostOps2 V (Proc.devRef .tc main_v43)) (ix4 l 0 r x) = ((show FVec Ideal S512x8x1x16 .f32 from V (Proc.devRef .tc main_v31_3)) (ix4 l r 0 x) : EReal) := by
  after_reads_at
theorem h_v45 (l : Fin 512) (r : Fin 8) (x : Fin 2048) : (show FVec Ideal S512x8x1x2048 .f32 from after hostOps3 V (Proc.devRef .tc main_v45)) (ix4 l r 0 x) = ((show FVec Ideal S512x1x8x2048 .f32 from V (Proc.devRef .tc main_v44)) (ix4 l 0 r x) : EReal) := by
  after_reads_at
/-- The matrix that repeats each of sixteen columns over a block of channels. -/
theorem h_v39 (m : Fin 16) (q : Fin 2048) : (show FVec Ideal S16x2048 .f32 from after hostOps2 V (Proc.devRef .tc main_v39)) (ix2 m q) = (if m = (⟨q / 128, by omega⟩ : Fin 16) then 1 else 0 : EReal) := by
  after_reads_at
  exact oneHotBit m ⟨q / 128, by omega⟩
end

end Cert.KernelIdeal.Whole

end
-- ==== Proof.KV.Pay3.lean ====
/- Call 3's value at an element, from its blocks. -/
module

public import proofs.«01_k».proof.Proof.KI.Region3
public import proofs.«01_k».proof.Proof.V.Spec

@[expose] public section

set_option maxRecDepth 16384

noncomputable section

namespace Cert.KernelIdeal.Whole

open Cert.KernelIdeal Cert.KernelIdeal.Gen
open Idealize.ShloMosaic Idealize.ShloMosaic.TcCoe
open Cert.Spec

/-- The product of call 3: each term is the two directions, the second turned round by the reversal matrix, and the
    skip, times the gate, times the weight. -/
theorem p3_pay2 (x0 : Vec Ideal S512x1x1x2048 .f32) (x4 : Vec Ideal S512x512 .f32) (x1 x2 x3 : Vec Ideal S512x1x1x2048 .f32) (x5 : Vec Ideal S1024x2048 .f32)
    (l : Fin 512) (j : Fin 1024) :
    k3_pay2 x0 x4 x1 x2 x3 x5 (ix2 l j)
      = (∑ k : Fin 2048, ((x0 (ix4 l 0 0 k) + ∑ q : Fin 512, x4 (ix2 l q) * x1 (ix4 q 0 0 k)) + x3 (ix4 l 0 0 k)) * gate (x2 (ix4 l 0 0 k)) * x5 (ix2 j k) : EReal) := by
  pointwise [k3_pay2]
  simp only [ne_eq, not_true_eq_false, if_false, zero_sub]
  rfl
/-- The screening of call 3. -/
theorem p3_pay1 (v : FVec Ideal S512x1024 .f32) (l : Fin 512) (j : Fin 1024) :
    k3_pay1 (Scalar.ofBits .f32 0xBF800000#32) (Scalar.ofBits .f32 0x3F800000#32) v (ix3 0 l j) = (ntn (v (ix2 l j)) : EReal) := by
  pointwise [k3_pay1]
  rfl

end Cert.KernelIdeal.Whole

end
-- ==== Proof.KV.Val3.lean ====
/- What call 3 leaves in the result array, at an element, from the inputs at launch and the scan's outputs. -/
module

public import proofs.«01_k».proof.Proof.KV.Val1
public import proofs.«01_k».proof.Proof.KV.Host2
public import proofs.«01_k».proof.Proof.KV.Pay3

@[expose] public section

set_option maxRecDepth 16384

noncomputable section

namespace Cert.KernelIdeal.Whole

open Cert.KernelIdeal Cert.KernelIdeal.Gen
open Idealize.ShloMosaic Idealize.ShloMosaic.TcCoe
open Idealize.SL.Sem
open Idealize.ShloMosaic.Pipeline (Dat)
open Cert.Spec

section
variable (m : (ℓ : Loc nD τ sig) → Buf (Elt Ideal) ℓ) (ρ : Dev nD → PrngReg) (c : Dev nD)

/-- The scan's output of a row. -/
def _root_.Cert.Spec.In.ry (I : In) (r : Fin 8) (l : Fin 512) (ch : Fin 2048) : EReal := ysc (I.rP r) (I.a (rd r)) (I.rs r) l ch

/-- The blocks' places at every grid point. -/
theorem idx3 : ∀ t : Fin cfg3.N, win3_0.index t = ![0, t.val, 0, 0] ∧ win3_1.index t = ![0, 4 + t.val, 0, 0] ∧ win3_2.index t = ![0, t.val, 0, 0]
    ∧ win3_3.index t = ![0, t.val, 0, 0] ∧ win3_4.index t = ![0, 0] ∧ win3_5.index t = ![0, 0] ∧ win3_6.index t = ![t.val, 0, 0] ∧ t.val < 4 :=
  (by decide +kernel : ∀ t : Fin grid3.N, _)

/-- The batch of a grid point. -/
def bt3 (t : Fin cfg3.N) : Fin 4 := ⟨t.val, (idx3 t).2.2.2.2.2.2.2⟩
/-- The forward row of a batch. -/
def rowF (b : Fin 4) : Fin 8 := ⟨b.val, by omega⟩
/-- The backward row of a batch. -/
def rowB (b : Fin 4) : Fin 8 := ⟨4 + b.val, by omega⟩

theorem w6_v29 (a b : Fin 512) : (show FVec Ideal S512x512 .f32 from V6 m ρ c main_v29) (ix2 a b) = (if a.rev = b then 1 else 0 : EReal) :=
  (congrFun ((W6_of m ρ c main_v29 (by decide)).trans ((W5_of m ρ c main_v29 (by decide)).trans ((W4_of m ρ c main_v29 (by decide)).trans (W3_of m ρ c main_v29 (by decide))))) _).trans (w2_v29 m ρ c a b)
theorem w6_v30_1 (b : Fin 4) (l : Fin 512) (ch : Fin 2048) : (show FVec Ideal S512x4x1x2048 .f32 from V6 m ρ c main_v30_1) (ix4 l b 0 ch) = (sz (inp m c).hid (inp m c).w b l ch : EReal) :=
  (congrFun ((W6_of m ρ c main_v30_1 (by decide)).trans ((W5_of m ρ c main_v30_1 (by decide)).trans ((W4_of m ρ c main_v30_1 (by decide)).trans (W3_of m ρ c main_v30_1 (by decide))))) _).trans (w2_v30_1 m ρ c b l ch)
theorem w6_v30_2 (b : Fin 4) (l : Fin 512) (ch : Fin 2048) : (show FVec Ideal S512x4x1x2048 .f32 from V6 m ρ c main_v30_2) (ix4 l b 0 ch) = ((inp m c).du b l ch : EReal) :=
  (congrFun ((W6_of m ρ c main_v30_2 (by decide)).trans ((W5_of m ρ c main_v30_2 (by decide)).trans ((W4_of m ρ c main_v30_2 (by decide)).trans (W3_of m ρ c main_v30_2 (by decide))))) _).trans (w2_v30_2 m ρ c b l ch)

variable (hy : ∀ (r : Fin 8) (l : Fin 512) (ch : Fin 2048), (show FVec Ideal S512x1x8x2048 .f32 from W5 m ρ c (Proc.devRef .tc main_v44)) (ix4 l 0 r ch) = ((inp m c).ry r l ch : EReal))
include hy in
theorem w6_v45 (r : Fin 8) (l : Fin 512) (ch : Fin 2048) : (show FVec Ideal S512x8x1x2048 .f32 from V6 m ρ c main_v45) (ix4 l r 0 ch) = ((inp m c).ry r l ch : EReal) :=
  (h_v45 (W5 m ρ c) l r ch).trans (hy r l ch)

variable (t : Fin cfg3.N)

include hy in
theorem b3_0 (l : Fin 512) (ch : Fin 2048) : (show Vec Ideal S512x1x1x2048 .f32 from iblk3 (V6 m ρ) c 0 t) (ix4 l 0 0 ch) = ((inp m c).ry (rowF (bt3 t)) l ch : EReal) := by
  refine Eq.trans ?_ (w6_v45 m ρ c hy (rowF (bt3 t)) l ch)
  blk_simp [iblk3]
  show V6 m ρ c main_v45 _ = V6 m ρ c main_v45 _
  blk_ext [rowF, bt3, idx3 t]
include hy in
theorem b3_1 (l : Fin 512) (ch : Fin 2048) : (show Vec Ideal S512x1x1x2048 .f32 from iblk3 (V6 m ρ) c 1 t) (ix4 l 0 0 ch) = ((inp m c).ry (rowB (bt3 t)) l ch : EReal) := by
  refine Eq.trans ?_ (w6_v45 m ρ c hy (rowB (bt3 t)) l ch)
  blk_simp [iblk3]
  show V6 m ρ c main_v45 _ = V6 m ρ c main_v45 _
  blk_ext [rowB, bt3, idx3 t]
theorem b3_2 (l : Fin 512) (ch : Fin 2048) : (show Vec Ideal S512x1x1x2048 .f32 from iblk3 (V6 m ρ) c 2 t) (ix4 l 0 0 ch) = (sz (inp m c).hid (inp m c).w (bt3 t) l ch : EReal) := by
  refine Eq.trans ?_ (w6_v30_1 m ρ c (bt3 t) l ch)
  blk_simp [iblk3]
  show V6 m ρ c main_v30_1 _ = V6 m ρ c main_v30_1 _
  blk_ext [bt3, idx3 t]
theorem b3_3 (l : Fin 512) (ch : Fin 2048) : (show Vec Ideal S512x1x1x2048 .f32 from iblk3 (V6 m ρ) c 3 t) (ix4 l 0 0 ch) = ((inp m c).du (bt3 t) l ch : EReal) := by
  refine Eq.trans ?_ (w6_v30_2 m ρ c (bt3 t) l ch)
  blk_simp [iblk3]
  show V6 m ρ c main_v30_2 _ = V6 m ρ c main_v30_2 _
  blk_ext [bt3, idx3 t]
theorem b3_4 (a b : Fin 512) : (show Vec Ideal S512x512 .f32 from iblk3 (V6 m ρ) c 4 t) (ix2 a b) = (if a.rev = b then 1 else 0 : EReal) := by
  refine Eq.trans ?_ (w6_v29 m ρ c a b)
  blk_simp [iblk3]
  show V6 m ρ c main_v29 _ = V6 m ρ c main_v29 _
  blk_ext [idx3 t]
theorem b3_5 (j : Fin 1024) (ch : Fin 2048) : (show Vec Ideal S1024x2048 .f32 from iblk3 (V6 m ρ) c 5 t) (ix2 j ch) = ((inp m c).wo (ix2 j ch) : EReal) := by
  refine Eq.trans ?_ (congrFun (W6_args m ρ c main_arg16 (by decide)) (ix2 j ch))
  blk_simp [iblk3]
  show V6 m ρ c main_arg16 _ = V6 m ρ c main_arg16 _
  blk_ext [idx3 t]

theorem ld3_0 (x : Vec Ideal S512x1x1x2048 .f32) : View.ld x r3_0 = x := View.ld_unit_zero (by funext a; fin_cases a <;> rfl) _ _
theorem ld3_1 (x : Vec Ideal S512x512 .f32) : View.ld x r3_1 = x := View.ld_unit_zero (by funext a; fin_cases a <;> rfl) _ _
theorem ld3_2 (x : Vec Ideal S1024x2048 .f32) : View.ld x r3_2 = x := View.ld_unit_zero (by funext a; fin_cases a <;> rfl) _ _

/-- The two directions and both skips, added in the kernel's order, are the gated sum's two brackets. -/
theorem yy_eq (I : In) (b : Fin 4) (l : Fin 512) (ch : Fin 2048) :
    ((I.ry (rowF b) l ch + I.ry (rowB b) l.rev ch) + I.du b l ch) * gate (sz I.hid I.w b l ch) = I.yy b l ch := by
  have e0 : I.ry (rowF b) l ch = I.y 0 b l ch := by
    have h1 : rd (rowF b) = 0 := Fin.ext (by show b.val / 4 = 0; omega)
    have h2 : rb (rowF b) = b := Fin.ext (by show b.val % 4 = b.val; omega)
    unfold In.ry In.y In.rP In.rs
    rw [h1, h2]
  have e1 : I.ry (rowB b) l.rev ch = I.y 1 b l.rev ch := by
    have h1 : rd (rowB b) = 1 := Fin.ext (by show (4 + b.val) / 4 = 1; omega)
    have h2 : rb (rowB b) = b := Fin.ext (by show (4 + b.val) % 4 = b.val; omega)
    unfold In.ry In.y In.rP In.rs
    rw [h1, h2]
  have e2 : I.du b l ch = I.u 0 b l ch * I.sk 0 (ix1 ch) + I.u 1 b l.rev ch * I.sk 1 (ix1 ch) := by
    unfold In.du In.u uu In.xc
    rw [if_pos rfl, if_neg (by decide), mul_comm (I.sk 0 (ix1 ch)), mul_comm (I.sk 1 (ix1 ch))]
  unfold In.yy
  rw [e0, e1, e2, add_add_add_comm]

include hy in
/-- The second direction turned round. -/
theorem fl3 (l : Fin 512) (ch : Fin 2048) :
    (∑ q : Fin 512, (show Vec Ideal S512x512 .f32 from iblk3 (V6 m ρ) c 4 t) (ix2 l q) * (show Vec Ideal S512x1x1x2048 .f32 from iblk3 (V6 m ρ) c 1 t) (ix4 q 0 0 ch) : EReal)
      = (inp m c).ry (rowB (bt3 t)) l.rev ch :=
  (Finset.sum_congr rfl fun q _ => congrArg₂ (fun a b : EReal => a * b) (b3_4 m ρ c t l q) (b3_1 m ρ c hy t q ch)).trans
    (flipSum (fun q => (inp m c).ry (rowB (bt3 t)) q ch) l)

/-- A term of call 3's product, from equal pieces. -/
theorem term3 {a a' b b' d d' z z' w w' : EReal} (ha : a = a') (hb : b = b') (hd : d = d') (hz : z = z') (hw : w = w') :
    ((a + b) + d) * gate z * w = ((a' + b') + d') * gate z' * w' := by rw [ha, hb, hd, hz, hw]

include hy in
theorem buf3_6 (l : Fin 512) (j : Fin 1024) : out3_6 (iblk3 (V6 m ρ) c 0 t) (iblk3 (V6 m ρ) c 1 t) (iblk3 (V6 m ρ) c 2 t) (iblk3 (V6 m ρ) c 3 t) (iblk3 (V6 m ρ) c 4 t) (iblk3 (V6 m ρ) c 5 t) (ix3 0 l j)
    = ((inp m c).out (bt3 t) l j : EReal) := by
  unfold out3_6
  rw [View.canon_unit_zero (by funext a; fin_cases a <;> rfl)]
  refine (p3_pay1 _ l j).trans ?_
  unfold In.out
  refine congrArg ntn ?_
  refine (p3_pay2 _ _ _ _ _ _ l j).trans ?_
  refine Finset.sum_congr rfl fun k _ => ?_
  refine Eq.trans ?_ (congrArg (fun a : EReal => a * (inp m c).wo (ix2 j k)) (yy_eq (inp m c) (bt3 t) l k))
  refine term3 ?_ ?_ ?_ ?_ ?_
  · exact (congrFun (ld3_0 _) _).trans (b3_0 m ρ c hy t l k)
  · refine Eq.trans ?_ (fl3 m ρ c hy t l k)
    exact Finset.sum_congr rfl fun q _ => congrArg₂ (fun a b : EReal => a * b) (congrFun (ld3_1 _) _) (congrFun (ld3_0 _) _)
  · exact (congrFun (ld3_0 _) _).trans (b3_3 m ρ c t l k)
  · exact (congrFun (ld3_0 _) _).trans (b3_2 m ρ c t l k)
  · exact (congrFun (ld3_2 _) _).trans (b3_5 m ρ c t j k)

include hy in
theorem fin3_6 : (dat3 (V6 m ρ) c).arrAt 6 cfg3.N = (show FVec Ideal S4x512x1024 .f32 from fun i => (inp m c).out (i 0) (i 1) (i 2)) := by
  refine (dat3 (V6 m ρ) c).arrAt_eq_of_covers 6 _ (by decide +kernel) fun t _ y => ?_
  blk_simp
  rw [after3_6]
  idx_vars y
  obtain rfl : y0 = 0 := Subsingleton.elim _ _
  refine (buf3_6 m ρ c hy t y1 y2).trans ?_
  refine eq3 (inp m c).out (a := bt3 t) (b := y1) (x := y2) ?_ ?_ ?_ <;> (refine Fin.ext ?_; blk_simp [idx3 t, bt3]; first | done | omega | rfl)
include hy in
/-- The kernel's result. -/
theorem w7_v46 (b : Fin 4) (l : Fin 512) (j : Fin 1024) : (show FVec Ideal S4x512x1024 .f32 from W7 m ρ c (Proc.devRef .tc main_v46)) (ix3 b l j) = ((inp m c).out b l j : EReal) :=
  congrFun ((W7_arr m ρ c 6).trans (fin3_6 m ρ c hy)) (ix3 b l j)
end

end Cert.KernelIdeal.Whole

end
-- ==== Proof.KV.Pay2.lean ====
/- One step of the scan at an element: a row of the block, and a channel. -/
module

public import proofs.«01_k».proof.Proof.KI.Region2
public import proofs.«01_k».proof.Proof.V.Spec

@[expose] public section

set_option maxRecDepth 16384

noncomputable section

namespace Cert.KernelIdeal.Whole

open Cert.KernelIdeal Cert.KernelIdeal.Gen
open Idealize.ShloMosaic Idealize.ShloMosaic.TcCoe
open Cert.Spec

/-- The sum of sixteen terms, added in pairs. -/
theorem tree16 (f : Fin 16 → EReal) :
    (((f 0 + f 1) + (f 2 + f 3)) + ((f 4 + f 5) + (f 6 + f 7))) + (((f 8 + f 9) + (f 10 + f 11)) + ((f 12 + f 13) + (f 14 + f 15))) = ∑ n : Fin 16, f n := by
  have e : (∑ n : Fin 16, f n) = f 0 + (f 1 + (f 2 + (f 3 + (f 4 + (f 5 + (f 6 + (f 7 + (f 8 + (f 9 + (f 10 + (f 11 + (f 12 + (f 13 + (f 14 + f 15)))))))))))))) := by
    simp only [Fin.sum_univ_succ, Fin.sum_univ_zero, add_zero]
    rfl
  rw [e]
  simp only [add_assoc]

section
variable (vp vd : LdP Ideal) (r : Fin 8) (x : Fin 128)

theorem p2_pay5 : k2_pay5 vd (ix2 r x) = (vd (ix4 0 0 r x) : EReal) := by
  pointwise [k2_pay5]

/-! The decay's powers: each is the product of two lower ones. -/

theorem pw1 : k2_pay4 vp (ix2 r x) = ((vp (ix4 0 0 r x) : EReal) ^ 1) := by
  have h : k2_pay4 vp (ix2 r x) = (vp (ix4 0 0 r x) : EReal) := by pointwise [k2_pay4]
  exact h.trans (pow_one _).symm
theorem pw2 : k2_pay6 vp (ix2 r x) = ((vp (ix4 0 0 r x) : EReal) ^ 2) := by
  have h : k2_pay6 vp (ix2 r x) = (k2_pay4 vp (ix2 r x) * k2_pay4 vp (ix2 r x) : EReal) := by pointwise [k2_pay6]
  exact h.trans ((congrArg₂ (fun a b : EReal => a * b) (pw1 vp r x) (pw1 vp r x)).trans (pow_add _ 1 1).symm)
theorem pw4 : k2_pay7 vp (ix2 r x) = ((vp (ix4 0 0 r x) : EReal) ^ 4) := by
  have h : k2_pay7 vp (ix2 r x) = (k2_pay6 vp (ix2 r x) * k2_pay6 vp (ix2 r x) : EReal) := by pointwise [k2_pay7]
  exact h.trans ((congrArg₂ (fun a b : EReal => a * b) (pw2 vp r x) (pw2 vp r x)).trans (pow_add _ 2 2).symm)
theorem pw8 : k2_pay8 vp (ix2 r x) = ((vp (ix4 0 0 r x) : EReal) ^ 8) := by
  have h : k2_pay8 vp (ix2 r x) = (k2_pay7 vp (ix2 r x) * k2_pay7 vp (ix2 r x) : EReal) := by pointwise [k2_pay8]
  exact h.trans ((congrArg₂ (fun a b : EReal => a * b) (pw4 vp r x) (pw4 vp r x)).trans (pow_add _ 4 4).symm)
theorem pw3 : k2_pay9 vp (ix2 r x) = ((vp (ix4 0 0 r x) : EReal) ^ 3) := by
  have h : k2_pay9 vp (ix2 r x) = (k2_pay4 vp (ix2 r x) * k2_pay6 vp (ix2 r x) : EReal) := by pointwise [k2_pay9]
  exact h.trans ((congrArg₂ (fun a b : EReal => a * b) (pw1 vp r x) (pw2 vp r x)).trans (pow_add _ 1 2).symm)
theorem pw5 : k2_pay10 vp (ix2 r x) = ((vp (ix4 0 0 r x) : EReal) ^ 5) := by
  have h : k2_pay10 vp (ix2 r x) = (k2_pay4 vp (ix2 r x) * k2_pay7 vp (ix2 r x) : EReal) := by pointwise [k2_pay10]
  exact h.trans ((congrArg₂ (fun a b : EReal => a * b) (pw1 vp r x) (pw4 vp r x)).trans (pow_add _ 1 4).symm)
theorem pw6 : k2_pay11 vp (ix2 r x) = ((vp (ix4 0 0 r x) : EReal) ^ 6) := by
  have h : k2_pay11 vp (ix2 r x) = (k2_pay6 vp (ix2 r x) * k2_pay7 vp (ix2 r x) : EReal) := by pointwise [k2_pay11]
  exact h.trans ((congrArg₂ (fun a b : EReal => a * b) (pw2 vp r x) (pw4 vp r x)).trans (pow_add _ 2 4).symm)
theorem pw7 : k2_pay12 vp (ix2 r x) = ((vp (ix4 0 0 r x) : EReal) ^ 7) := by
  have h : k2_pay12 vp (ix2 r x) = (k2_pay9 vp (ix2 r x) * k2_pay7 vp (ix2 r x) : EReal) := by pointwise [k2_pay12]
  exact h.trans ((congrArg₂ (fun a b : EReal => a * b) (pw3 vp r x) (pw4 vp r x)).trans (pow_add _ 3 4).symm)
theorem pw9 : k2_pay13 vp (ix2 r x) = ((vp (ix4 0 0 r x) : EReal) ^ 9) := by
  have h : k2_pay13 vp (ix2 r x) = (k2_pay4 vp (ix2 r x) * k2_pay8 vp (ix2 r x) : EReal) := by pointwise [k2_pay13]
  exact h.trans ((congrArg₂ (fun a b : EReal => a * b) (pw1 vp r x) (pw8 vp r x)).trans (pow_add _ 1 8).symm)
theorem pw10 : k2_pay14 vp (ix2 r x) = ((vp (ix4 0 0 r x) : EReal) ^ 10) := by
  have h : k2_pay14 vp (ix2 r x) = (k2_pay6 vp (ix2 r x) * k2_pay8 vp (ix2 r x) : EReal) := by pointwise [k2_pay14]
  exact h.trans ((congrArg₂ (fun a b : EReal => a * b) (pw2 vp r x) (pw8 vp r x)).trans (pow_add _ 2 8).symm)
theorem pw11 : k2_pay15 vp (ix2 r x) = ((vp (ix4 0 0 r x) : EReal) ^ 11) := by
  have h : k2_pay15 vp (ix2 r x) = (k2_pay9 vp (ix2 r x) * k2_pay8 vp (ix2 r x) : EReal) := by pointwise [k2_pay15]
  exact h.trans ((congrArg₂ (fun a b : EReal => a * b) (pw3 vp r x) (pw8 vp r x)).trans (pow_add _ 3 8).symm)
theorem pw12 : k2_pay16 vp (ix2 r x) = ((vp (ix4 0 0 r x) : EReal) ^ 12) := by
  have h : k2_pay16 vp (ix2 r x) = (k2_pay7 vp (ix2 r x) * k2_pay8 vp (ix2 r x) : EReal) := by pointwise [k2_pay16]
  exact h.trans ((congrArg₂ (fun a b : EReal => a * b) (pw4 vp r x) (pw8 vp r x)).trans (pow_add _ 4 8).symm)
theorem pw13 : k2_pay17 vp (ix2 r x) = ((vp (ix4 0 0 r x) : EReal) ^ 13) := by
  have h : k2_pay17 vp (ix2 r x) = (k2_pay10 vp (ix2 r x) * k2_pay8 vp (ix2 r x) : EReal) := by pointwise [k2_pay17]
  exact h.trans ((congrArg₂ (fun a b : EReal => a * b) (pw5 vp r x) (pw8 vp r x)).trans (pow_add _ 5 8).symm)
theorem pw14 : k2_pay18 vp (ix2 r x) = ((vp (ix4 0 0 r x) : EReal) ^ 14) := by
  have h : k2_pay18 vp (ix2 r x) = (k2_pay11 vp (ix2 r x) * k2_pay8 vp (ix2 r x) : EReal) := by pointwise [k2_pay18]
  exact h.trans ((congrArg₂ (fun a b : EReal => a * b) (pw6 vp r x) (pw8 vp r x)).trans (pow_add _ 6 8).symm)
theorem pw15 : k2_pay19 vp (ix2 r x) = ((vp (ix4 0 0 r x) : EReal) ^ 15) := by
  have h : k2_pay19 vp (ix2 r x) = (k2_pay12 vp (ix2 r x) * k2_pay8 vp (ix2 r x) : EReal) := by pointwise [k2_pay19]
  exact h.trans ((congrArg₂ (fun a b : EReal => a * b) (pw7 vp r x) (pw8 vp r x)).trans (pow_add _ 7 8).symm)
theorem pw16 : k2_pay20 vp (ix2 r x) = ((vp (ix4 0 0 r x) : EReal) ^ 16) := by
  have h : k2_pay20 vp (ix2 r x) = (k2_pay8 vp (ix2 r x) * k2_pay8 vp (ix2 r x) : EReal) := by pointwise [k2_pay20]
  exact h.trans ((congrArg₂ (fun a b : EReal => a * b) (pw8 vp r x) (pw8 vp r x)).trans (pow_add _ 8 8).symm)

/-! One step's states and shares. -/

theorem sH0_at (b : LdB Ideal) (h : Vec Ideal S8x128 .f32) :
    sH0 vp vd b h (ix2 r x) = ((vp (ix4 0 0 r x) : EReal) ^ 1 * h (ix2 r x) + vd (ix4 0 0 r x) * b (ix3 0 r ⟨0 + x, by omega⟩) : EReal) := by
  have e : sH0 vp vd b h (ix2 r x) = (k2_pay4 vp (ix2 r x) * h (ix2 r x) + vd (ix4 0 0 r x) * b (ix3 0 r ⟨0 + x, by omega⟩) : EReal) := by
    pointwise [sH0, k2_pay5, k2_pay21]
  exact e.trans (congrArg (fun a : EReal => a * h (ix2 r x) + vd (ix4 0 0 r x) * b (ix3 0 r ⟨0 + x, by omega⟩)) (pw1 vp r x))
theorem sY0_at (b d : LdB Ideal) (h : Vec Ideal S8x128 .f32) :
    sY0 vp vd b d h (ix2 r x) = (sH0 vp vd b h (ix2 r x) * d (ix3 0 r ⟨0 + x, by omega⟩) : EReal) := by
  pointwise [sY0, k2_pay21]
theorem sH1_at (b : LdB Ideal) (h : Vec Ideal S8x128 .f32) :
    sH1 vp vd b h (ix2 r x) = ((vp (ix4 0 0 r x) : EReal) ^ 2 * h (ix2 r x) + vd (ix4 0 0 r x) * b (ix3 0 r ⟨128 + x, by omega⟩) : EReal) := by
  have e : sH1 vp vd b h (ix2 r x) = (k2_pay6 vp (ix2 r x) * h (ix2 r x) + vd (ix4 0 0 r x) * b (ix3 0 r ⟨128 + x, by omega⟩) : EReal) := by
    pointwise [sH1, k2_pay5, k2_pay21]
  exact e.trans (congrArg (fun a : EReal => a * h (ix2 r x) + vd (ix4 0 0 r x) * b (ix3 0 r ⟨128 + x, by omega⟩)) (pw2 vp r x))
theorem sY1_at (b d : LdB Ideal) (h : Vec Ideal S8x128 .f32) :
    sY1 vp vd b d h (ix2 r x) = (sH1 vp vd b h (ix2 r x) * d (ix3 0 r ⟨128 + x, by omega⟩) : EReal) := by
  pointwise [sY1, k2_pay21]
theorem sH2_at (b : LdB Ideal) (h : Vec Ideal S8x128 .f32) :
    sH2 vp vd b h (ix2 r x) = ((vp (ix4 0 0 r x) : EReal) ^ 3 * h (ix2 r x) + vd (ix4 0 0 r x) * b (ix3 0 r ⟨256 + x, by omega⟩) : EReal) := by
  have e : sH2 vp vd b h (ix2 r x) = (k2_pay9 vp (ix2 r x) * h (ix2 r x) + vd (ix4 0 0 r x) * b (ix3 0 r ⟨256 + x, by omega⟩) : EReal) := by
    pointwise [sH2, k2_pay5, k2_pay21]
  exact e.trans (congrArg (fun a : EReal => a * h (ix2 r x) + vd (ix4 0 0 r x) * b (ix3 0 r ⟨256 + x, by omega⟩)) (pw3 vp r x))
theorem sY2_at (b d : LdB Ideal) (h : Vec Ideal S8x128 .f32) :
    sY2 vp vd b d h (ix2 r x) = (sH2 vp vd b h (ix2 r x) * d (ix3 0 r ⟨256 + x, by omega⟩) : EReal) := by
  pointwise [sY2, k2_pay21]
theorem sH3_at (b : LdB Ideal) (h : Vec Ideal S8x128 .f32) :
    sH3 vp vd b h (ix2 r x) = ((vp (ix4 0 0 r x) : EReal) ^ 4 * h (ix2 r x) + vd (ix4 0 0 r x) * b (ix3 0 r ⟨384 + x, by omega⟩) : EReal) := by
  have e : sH3 vp vd b h (ix2 r x) = (k2_pay7 vp (ix2 r x) * h (ix2 r x) + vd (ix4 0 0 r x) * b (ix3 0 r ⟨384 + x, by omega⟩) : EReal) := by
    pointwise [sH3, k2_pay5, k2_pay21]
  exact e.trans (congrArg (fun a : EReal => a * h (ix2 r x) + vd (ix4 0 0 r x) * b (ix3 0 r ⟨384 + x, by omega⟩)) (pw4 vp r x))
theorem sY3_at (b d : LdB Ideal) (h : Vec Ideal S8x128 .f32) :
    sY3 vp vd b d h (ix2 r x) = (sH3 vp vd b h (ix2 r x) * d (ix3 0 r ⟨384 + x, by omega⟩) : EReal) := by
  pointwise [sY3, k2_pay21]
theorem sH4_at (b : LdB Ideal) (h : Vec Ideal S8x128 .f32) :
    sH4 vp vd b h (ix2 r x) = ((vp (ix4 0 0 r x) : EReal) ^ 5 * h (ix2 r x) + vd (ix4 0 0 r x) * b (ix3 0 r ⟨512 + x, by omega⟩) : EReal) := by
  have e : sH4 vp vd b h (ix2 r x) = (k2_pay10 vp (ix2 r x) * h (ix2 r x) + vd (ix4 0 0 r x) * b (ix3 0 r ⟨512 + x, by omega⟩) : EReal) := by
    pointwise [sH4, k2_pay5, k2_pay21]
  exact e.trans (congrArg (fun a : EReal => a * h (ix2 r x) + vd (ix4 0 0 r x) * b (ix3 0 r ⟨512 + x, by omega⟩)) (pw5 vp r x))
theorem sY4_at (b d : LdB Ideal) (h : Vec Ideal S8x128 .f32) :
    sY4 vp vd b d h (ix2 r x) = (sH4 vp vd b h (ix2 r x) * d (ix3 0 r ⟨512 + x, by omega⟩) : EReal) := by
  pointwise [sY4, k2_pay21]
theorem sH5_at (b : LdB Ideal) (h : Vec Ideal S8x128 .f32) :
    sH5 vp vd b h (ix2 r x) = ((vp (ix4 0 0 r x) : EReal) ^ 6 * h (ix2 r x) + vd (ix4 0 0 r x) * b (ix3 0 r ⟨640 + x, by omega⟩) : EReal) := by
  have e : sH5 vp vd b h (ix2 r x) = (k2_pay11 vp (ix2 r x) * h (ix2 r x) + vd (ix4 0 0 r x) * b (ix3 0 r ⟨640 + x, by omega⟩) : EReal) := by
    pointwise [sH5, k2_pay5, k2_pay21]
  exact e.trans (congrArg (fun a : EReal => a * h (ix2 r x) + vd (ix4 0 0 r x) * b (ix3 0 r ⟨640 + x, by omega⟩)) (pw6 vp r x))
theorem sY5_at (b d : LdB Ideal) (h : Vec Ideal S8x128 .f32) :
    sY5 vp vd b d h (ix2 r x) = (sH5 vp vd b h (ix2 r x) * d (ix3 0 r ⟨640 + x, by omega⟩) : EReal) := by
  pointwise [sY5, k2_pay21]
theorem sH6_at (b : LdB Ideal) (h : Vec Ideal S8x128 .f32) :
    sH6 vp vd b h (ix2 r x) = ((vp (ix4 0 0 r x) : EReal) ^ 7 * h (ix2 r x) + vd (ix4 0 0 r x) * b (ix3 0 r ⟨768 + x, by omega⟩) : EReal) := by
  have e : sH6 vp vd b h (ix2 r x) = (k2_pay12 vp (ix2 r x) * h (ix2 r x) + vd (ix4 0 0 r x) * b (ix3 0 r ⟨768 + x, by omega⟩) : EReal) := by
    pointwise [sH6, k2_pay5, k2_pay21]
  exact e.trans (congrArg (fun a : EReal => a * h (ix2 r x) + vd (ix4 0 0 r x) * b (ix3 0 r ⟨768 + x, by omega⟩)) (pw7 vp r x))
theorem sY6_at (b d : LdB Ideal) (h : Vec Ideal S8x128 .f32) :
    sY6 vp vd b d h (ix2 r x) = (sH6 vp vd b h (ix2 r x) * d (ix3 0 r ⟨768 + x, by omega⟩) : EReal) := by
  pointwise [sY6, k2_pay21]
theorem sH7_at (b : LdB Ideal) (h : Vec Ideal S8x128 .f32) :
    sH7 vp vd b h (ix2 r x) = ((vp (ix4 0 0 r x) : EReal) ^ 8 * h (ix2 r x) + vd (ix4 0 0 r x) * b (ix3 0 r ⟨896 + x, by omega⟩) : EReal) := by
  have e : sH7 vp vd b h (ix2 r x) = (k2_pay8 vp (ix2 r x) * h (ix2 r x) + vd (ix4 0 0 r x) * b (ix3 0 r ⟨896 + x, by omega⟩) : EReal) := by
    pointwise [sH7, k2_pay5, k2_pay21]
  exact e.trans (congrArg (fun a : EReal => a * h (ix2 r x) + vd (ix4 0 0 r x) * b (ix3 0 r ⟨896 + x, by omega⟩)) (pw8 vp r x))
theorem sY7_at (b d : LdB Ideal) (h : Vec Ideal S8x128 .f32) :
    sY7 vp vd b d h (ix2 r x) = (sH7 vp vd b h (ix2 r x) * d (ix3 0 r ⟨896 + x, by omega⟩) : EReal) := by
  pointwise [sY7, k2_pay21]
theorem sH8_at (b : LdB Ideal) (h : Vec Ideal S8x128 .f32) :
    sH8 vp vd b h (ix2 r x) = ((vp (ix4 0 0 r x) : EReal) ^ 9 * h (ix2 r x) + vd (ix4 0 0 r x) * b (ix3 0 r ⟨0 + x, by omega⟩) : EReal) := by
  have e : sH8 vp vd b h (ix2 r x) = (k2_pay13 vp (ix2 r x) * h (ix2 r x) + vd (ix4 0 0 r x) * b (ix3 0 r ⟨0 + x, by omega⟩) : EReal) := by
    pointwise [sH8, k2_pay5, k2_pay21]
  exact e.trans (congrArg (fun a : EReal => a * h (ix2 r x) + vd (ix4 0 0 r x) * b (ix3 0 r ⟨0 + x, by omega⟩)) (pw9 vp r x))
theorem sY8_at (b d : LdB Ideal) (h : Vec Ideal S8x128 .f32) :
    sY8 vp vd b d h (ix2 r x) = (sH8 vp vd b h (ix2 r x) * d (ix3 0 r ⟨0 + x, by omega⟩) : EReal) := by
  pointwise [sY8, k2_pay21]
theorem sH9_at (b : LdB Ideal) (h : Vec Ideal S8x128 .f32) :
    sH9 vp vd b h (ix2 r x) = ((vp (ix4 0 0 r x) : EReal) ^ 10 * h (ix2 r x) + vd (ix4 0 0 r x) * b (ix3 0 r ⟨128 + x, by omega⟩) : EReal) := by
  have e : sH9 vp vd b h (ix2 r x) = (k2_pay14 vp (ix2 r x) * h (ix2 r x) + vd (ix4 0 0 r x) * b (ix3 0 r ⟨128 + x, by omega⟩) : EReal) := by
    pointwise [sH9, k2_pay5, k2_pay21]
  exact e.trans (congrArg (fun a : EReal => a * h (ix2 r x) + vd (ix4 0 0 r x) * b (ix3 0 r ⟨128 + x, by omega⟩)) (pw10 vp r x))
theorem sY9_at (b d : LdB Ideal) (h : Vec Ideal S8x128 .f32) :
    sY9 vp vd b d h (ix2 r x) = (sH9 vp vd b h (ix2 r x) * d (ix3 0 r ⟨128 + x, by omega⟩) : EReal) := by
  pointwise [sY9, k2_pay21]
theorem sH10_at (b : LdB Ideal) (h : Vec Ideal S8x128 .f32) :
    sH10 vp vd b h (ix2 r x) = ((vp (ix4 0 0 r x) : EReal) ^ 11 * h (ix2 r x) + vd (ix4 0 0 r x) * b (ix3 0 r ⟨256 + x, by omega⟩) : EReal) := by
  have e : sH10 vp vd b h (ix2 r x) = (k2_pay15 vp (ix2 r x) * h (ix2 r x) + vd (ix4 0 0 r x) * b (ix3 0 r ⟨256 + x, by omega⟩) : EReal) := by
    pointwise [sH10, k2_pay5, k2_pay21]
  exact e.trans (congrArg (fun a : EReal => a * h (ix2 r x) + vd (ix4 0 0 r x) * b (ix3 0 r ⟨256 + x, by omega⟩)) (pw11 vp r x))
theorem sY10_at (b d : LdB Ideal) (h : Vec Ideal S8x128 .f32) :
    sY10 vp vd b d h (ix2 r x) = (sH10 vp vd b h (ix2 r x) * d (ix3 0 r ⟨256 + x, by omega⟩) : EReal) := by
  pointwise [sY10, k2_pay21]
theorem sH11_at (b : LdB Ideal) (h : Vec Ideal S8x128 .f32) :
    sH11 vp vd b h (ix2 r x) = ((vp (ix4 0 0 r x) : EReal) ^ 12 * h (ix2 r x) + vd (ix4 0 0 r x) * b (ix3 0 r ⟨384 + x, by omega⟩) : EReal) := by
  have e : sH11 vp vd b h (ix2 r x) = (k2_pay16 vp (ix2 r x) * h (ix2 r x) + vd (ix4 0 0 r x) * b (ix3 0 r ⟨384 + x, by omega⟩) : EReal) := by
    pointwise [sH11, k2_pay5, k2_pay21]
  exact e.trans (congrArg (fun a : EReal => a * h (ix2 r x) + vd (ix4 0 0 r x) * b (ix3 0 r ⟨384 + x, by omega⟩)) (pw12 vp r x))
theorem sY11_at (b d : LdB Ideal) (h : Vec Ideal S8x128 .f32) :
    sY11 vp vd b d h (ix2 r x) = (sH11 vp vd b h (ix2 r x) * d (ix3 0 r ⟨384 + x, by omega⟩) : EReal) := by
  pointwise [sY11, k2_pay21]
theorem sH12_at (b : LdB Ideal) (h : Vec Ideal S8x128 .f32) :
    sH12 vp vd b h (ix2 r x) = ((vp (ix4 0 0 r x) : EReal) ^ 13 * h (ix2 r x) + vd (ix4 0 0 r x) * b (ix3 0 r ⟨512 + x, by omega⟩) : EReal) := by
  have e : sH12 vp vd b h (ix2 r x) = (k2_pay17 vp (ix2 r x) * h (ix2 r x) + vd (ix4 0 0 r x) * b (ix3 0 r ⟨512 + x, by omega⟩) : EReal) := by
    pointwise [sH12, k2_pay5, k2_pay21]
  exact e.trans (congrArg (fun a : EReal => a * h (ix2 r x) + vd (ix4 0 0 r x) * b (ix3 0 r ⟨512 + x, by omega⟩)) (pw13 vp r x))
theorem sY12_at (b d : LdB Ideal) (h : Vec Ideal S8x128 .f32) :
    sY12 vp vd b d h (ix2 r x) = (sH12 vp vd b h (ix2 r x) * d (ix3 0 r ⟨512 + x, by omega⟩) : EReal) := by
  pointwise [sY12, k2_pay21]
theorem sH13_at (b : LdB Ideal) (h : Vec Ideal S8x128 .f32) :
    sH13 vp vd b h (ix2 r x) = ((vp (ix4 0 0 r x) : EReal) ^ 14 * h (ix2 r x) + vd (ix4 0 0 r x) * b (ix3 0 r ⟨640 + x, by omega⟩) : EReal) := by
  have e : sH13 vp vd b h (ix2 r x) = (k2_pay18 vp (ix2 r x) * h (ix2 r x) + vd (ix4 0 0 r x) * b (ix3 0 r ⟨640 + x, by omega⟩) : EReal) := by
    pointwise [sH13, k2_pay5, k2_pay21]
  exact e.trans (congrArg (fun a : EReal => a * h (ix2 r x) + vd (ix4 0 0 r x) * b (ix3 0 r ⟨640 + x, by omega⟩)) (pw14 vp r x))
theorem sY13_at (b d : LdB Ideal) (h : Vec Ideal S8x128 .f32) :
    sY13 vp vd b d h (ix2 r x) = (sH13 vp vd b h (ix2 r x) * d (ix3 0 r ⟨640 + x, by omega⟩) : EReal) := by
  pointwise [sY13, k2_pay21]
theorem sH14_at (b : LdB Ideal) (h : Vec Ideal S8x128 .f32) :
    sH14 vp vd b h (ix2 r x) = ((vp (ix4 0 0 r x) : EReal) ^ 15 * h (ix2 r x) + vd (ix4 0 0 r x) * b (ix3 0 r ⟨768 + x, by omega⟩) : EReal) := by
  have e : sH14 vp vd b h (ix2 r x) = (k2_pay19 vp (ix2 r x) * h (ix2 r x) + vd (ix4 0 0 r x) * b (ix3 0 r ⟨768 + x, by omega⟩) : EReal) := by
    pointwise [sH14, k2_pay5, k2_pay21]
  exact e.trans (congrArg (fun a : EReal => a * h (ix2 r x) + vd (ix4 0 0 r x) * b (ix3 0 r ⟨768 + x, by omega⟩)) (pw15 vp r x))
theorem sY14_at (b d : LdB Ideal) (h : Vec Ideal S8x128 .f32) :
    sY14 vp vd b d h (ix2 r x) = (sH14 vp vd b h (ix2 r x) * d (ix3 0 r ⟨768 + x, by omega⟩) : EReal) := by
  pointwise [sY14, k2_pay21]
theorem sH15_at (b : LdB Ideal) (h : Vec Ideal S8x128 .f32) :
    sH15 vp vd b h (ix2 r x) = ((vp (ix4 0 0 r x) : EReal) ^ 16 * h (ix2 r x) + vd (ix4 0 0 r x) * b (ix3 0 r ⟨896 + x, by omega⟩) : EReal) := by
  have e : sH15 vp vd b h (ix2 r x) = (k2_pay20 vp (ix2 r x) * h (ix2 r x) + vd (ix4 0 0 r x) * b (ix3 0 r ⟨896 + x, by omega⟩) : EReal) := by
    pointwise [sH15, k2_pay5, k2_pay21]
  exact e.trans (congrArg (fun a : EReal => a * h (ix2 r x) + vd (ix4 0 0 r x) * b (ix3 0 r ⟨896 + x, by omega⟩)) (pw16 vp r x))
theorem sY15_at (b d : LdB Ideal) (h : Vec Ideal S8x128 .f32) :
    sY15 vp vd b d h (ix2 r x) = (sH15 vp vd b h (ix2 r x) * d (ix3 0 r ⟨896 + x, by omega⟩) : EReal) := by
  pointwise [sY15, k2_pay21]
end

/-- The states of a row and channel, by number. -/
def getSt (st : St Ideal) (r : Fin 8) (x : Fin 128) : Fin 16 → EReal :=
  ![st.1 (ix2 r x), st.2.1 (ix2 r x), st.2.2.1 (ix2 r x), st.2.2.2.1 (ix2 r x), st.2.2.2.2.1 (ix2 r x), st.2.2.2.2.2.1 (ix2 r x), st.2.2.2.2.2.2.1 (ix2 r x), st.2.2.2.2.2.2.2.1 (ix2 r x), st.2.2.2.2.2.2.2.2.1 (ix2 r x), st.2.2.2.2.2.2.2.2.2.1 (ix2 r x), st.2.2.2.2.2.2.2.2.2.2.1 (ix2 r x), st.2.2.2.2.2.2.2.2.2.2.2.1 (ix2 r x), st.2.2.2.2.2.2.2.2.2.2.2.2.1 (ix2 r x), st.2.2.2.2.2.2.2.2.2.2.2.2.2.1 (ix2 r x), st.2.2.2.2.2.2.2.2.2.2.2.2.2.2.1 (ix2 r x), st.2.2.2.2.2.2.2.2.2.2.2.2.2.2.2 (ix2 r x)]
/-- The columns of a row and channel in the two halves of an expanded matrix, by number. -/
def getB (b0 b1 : LdB Ideal) (r : Fin 8) (x : Fin 128) : Fin 16 → EReal :=
  ![b0 (ix3 0 r ⟨0 + x, by omega⟩), b0 (ix3 0 r ⟨128 + x, by omega⟩), b0 (ix3 0 r ⟨256 + x, by omega⟩), b0 (ix3 0 r ⟨384 + x, by omega⟩), b0 (ix3 0 r ⟨512 + x, by omega⟩), b0 (ix3 0 r ⟨640 + x, by omega⟩), b0 (ix3 0 r ⟨768 + x, by omega⟩), b0 (ix3 0 r ⟨896 + x, by omega⟩), b1 (ix3 0 r ⟨0 + x, by omega⟩), b1 (ix3 0 r ⟨128 + x, by omega⟩), b1 (ix3 0 r ⟨256 + x, by omega⟩), b1 (ix3 0 r ⟨384 + x, by omega⟩), b1 (ix3 0 r ⟨512 + x, by omega⟩), b1 (ix3 0 r ⟨640 + x, by omega⟩), b1 (ix3 0 r ⟨768 + x, by omega⟩), b1 (ix3 0 r ⟨896 + x, by omega⟩)]

/-- One step of a state: it decays, and the input comes in. -/
theorem sSt_at (vp vd : LdP Ideal) (b0 b1 : LdB Ideal) (st : St Ideal) (r : Fin 8) (x : Fin 128) (n : Fin 16) :
    getSt (sSt vp vd b0 b1 st) r x n = ((vp (ix4 0 0 r x) : EReal) ^ (n.val + 1) * getSt st r x n + vd (ix4 0 0 r x) * getB b0 b1 r x n : EReal) := by
  fin_cases n
  · exact sH0_at vp vd r x b0 _
  · exact sH1_at vp vd r x b0 _
  · exact sH2_at vp vd r x b0 _
  · exact sH3_at vp vd r x b0 _
  · exact sH4_at vp vd r x b0 _
  · exact sH5_at vp vd r x b0 _
  · exact sH6_at vp vd r x b0 _
  · exact sH7_at vp vd r x b0 _
  · exact sH8_at vp vd r x b1 _
  · exact sH9_at vp vd r x b1 _
  · exact sH10_at vp vd r x b1 _
  · exact sH11_at vp vd r x b1 _
  · exact sH12_at vp vd r x b1 _
  · exact sH13_at vp vd r x b1 _
  · exact sH14_at vp vd r x b1 _
  · exact sH15_at vp vd r x b1 _

/-- One step's output: the new states against the output matrix. -/
theorem sOut_at (vp vd : LdP Ideal) (b0 c0 b1 c1 : LdB Ideal) (st : St Ideal) (r : Fin 8) (x : Fin 128) :
    sOut vp vd b0 c0 b1 c1 st (ix4 0 0 r x) = (∑ n : Fin 16, getSt (sSt vp vd b0 b1 st) r x n * getB c0 c1 r x n : EReal) := by
  rw [← tree16 (fun n => getSt (sSt vp vd b0 b1 st) r x n * getB c0 c1 r x n)]
  have e : sOut vp vd b0 c0 b1 c1 st (ix4 0 0 r x) = (((((sY0 vp vd b0 c0 (st.1) (ix2 r x) + sY1 vp vd b0 c0 (st.2.1) (ix2 r x)) + (sY2 vp vd b0 c0 (st.2.2.1) (ix2 r x) + sY3 vp vd b0 c0 (st.2.2.2.1) (ix2 r x))) + ((sY4 vp vd b0 c0 (st.2.2.2.2.1) (ix2 r x) + sY5 vp vd b0 c0 (st.2.2.2.2.2.1) (ix2 r x)) + (sY6 vp vd b0 c0 (st.2.2.2.2.2.2.1) (ix2 r x) + sY7 vp vd b0 c0 (st.2.2.2.2.2.2.2.1) (ix2 r x)))) + (((sY8 vp vd b1 c1 (st.2.2.2.2.2.2.2.2.1) (ix2 r x) + sY9 vp vd b1 c1 (st.2.2.2.2.2.2.2.2.2.1) (ix2 r x)) + (sY10 vp vd b1 c1 (st.2.2.2.2.2.2.2.2.2.2.1) (ix2 r x) + sY11 vp vd b1 c1 (st.2.2.2.2.2.2.2.2.2.2.2.1) (ix2 r x))) + ((sY12 vp vd b1 c1 (st.2.2.2.2.2.2.2.2.2.2.2.2.1) (ix2 r x) + sY13 vp vd b1 c1 (st.2.2.2.2.2.2.2.2.2.2.2.2.2.1) (ix2 r x)) + (sY14 vp vd b1 c1 (st.2.2.2.2.2.2.2.2.2.2.2.2.2.2.1) (ix2 r x) + sY15 vp vd b1 c1 (st.2.2.2.2.2.2.2.2.2.2.2.2.2.2.2) (ix2 r x))))) : EReal) := by
    pointwise [sOut]
  refine e.trans ?_
  exact (congrArg₂ (fun a b : EReal => a + b) (congrArg₂ (fun a b : EReal => a + b) (congrArg₂ (fun a b : EReal => a + b) (congrArg₂ (fun a b : EReal => a + b) (sY0_at vp vd r x b0 c0 (st.1)) (sY1_at vp vd r x b0 c0 (st.2.1))) (congrArg₂ (fun a b : EReal => a + b) (sY2_at vp vd r x b0 c0 (st.2.2.1)) (sY3_at vp vd r x b0 c0 (st.2.2.2.1)))) (congrArg₂ (fun a b : EReal => a + b) (congrArg₂ (fun a b : EReal => a + b) (sY4_at vp vd r x b0 c0 (st.2.2.2.2.1)) (sY5_at vp vd r x b0 c0 (st.2.2.2.2.2.1))) (congrArg₂ (fun a b : EReal => a + b) (sY6_at vp vd r x b0 c0 (st.2.2.2.2.2.2.1)) (sY7_at vp vd r x b0 c0 (st.2.2.2.2.2.2.2.1))))) (congrArg₂ (fun a b : EReal => a + b) (congrArg₂ (fun a b : EReal => a + b) (congrArg₂ (fun a b : EReal => a + b) (sY8_at vp vd r x b1 c1 (st.2.2.2.2.2.2.2.2.1)) (sY9_at vp vd r x b1 c1 (st.2.2.2.2.2.2.2.2.2.1))) (congrArg₂ (fun a b : EReal => a + b) (sY10_at vp vd r x b1 c1 (st.2.2.2.2.2.2.2.2.2.2.1)) (sY11_at vp vd r x b1 c1 (st.2.2.2.2.2.2.2.2.2.2.2.1)))) (congrArg₂ (fun a b : EReal => a + b) (congrArg₂ (fun a b : EReal => a + b) (sY12_at vp vd r x b1 c1 (st.2.2.2.2.2.2.2.2.2.2.2.2.1)) (sY13_at vp vd r x b1 c1 (st.2.2.2.2.2.2.2.2.2.2.2.2.2.1))) (congrArg₂ (fun a b : EReal => a + b) (sY14_at vp vd r x b1 c1 (st.2.2.2.2.2.2.2.2.2.2.2.2.2.2.1)) (sY15_at vp vd r x b1 c1 (st.2.2.2.2.2.2.2.2.2.2.2.2.2.2.2))))))

/-- B and C are expanded by a product with the matrix that repeats columns. -/
theorem p2_pay222 (m : Vec Ideal S16x2048 .f32) (v : Vec Ideal S128x1x8x16 .f32) (t : Fin 128) (r : Fin 8) (q : Fin 2048) :
    k2_pay222 m v (ix3 t r q) = (∑ k : Fin 16, v (ix4 t 0 r k) * m (ix2 k q) : EReal) := by
  pointwise [k2_pay222, k2_pay221]
theorem p2_pay223 (m : Vec Ideal S16x2048 .f32) (v : Vec Ideal S128x1x8x16 .f32) (t : Fin 128) (r : Fin 8) (q : Fin 2048) :
    k2_pay223 m v (ix3 t r q) = (∑ k : Fin 16, v (ix4 t 0 r k) * m (ix2 k q) : EReal) := by
  pointwise [k2_pay223, k2_pay221]
theorem p2_pay220 (r : Fin 8) (q : Fin 2048) : k2_pay220 (F := Ideal) (ix2 r q) = (0 : EReal) := by
  pointwise [k2_pay220]

end Cert.KernelIdeal.Whole

end
-- ==== Proof.KV.Loop2.lean ====
/- The scan's loop at an element: the states of a row and channel through a block of time, and the block's outputs. -/
module

public import proofs.«01_k».proof.Proof.KV.Pay2
public import Idealize.ShloMosaic.Lib.Pipeline.ValueKit

@[expose] public section

set_option maxRecDepth 16384

noncomputable section

namespace Cert.KernelIdeal.Whole

open Cert.KernelIdeal Cert.KernelIdeal.Gen
open Idealize.ShloMosaic Idealize.ShloMosaic.TcCoe
open Cert.Spec

theorem trips32 : k2_t1_loop.trips = 32 := by decide +kernel

/-- The time of step `i` of trip `k`. -/
def tm (k : Fin k2_t1_loop.trips) (i : Fin 4) : Fin 128 := ⟨4 * k.val + i.val, by have := k.isLt; have := trips32; omega⟩
/-- The column of state `n` and channel `x`. -/
def qn (n : Fin 16) (x : Fin 128) : Fin 2048 := ⟨n.val * 128 + x.val, by omega⟩

/-- The two halves loaded at one step of time hold the sixteen columns of that step. -/
theorem getB_of (v : Vec Ideal S128x8x2048 .f32) (vl vr : LdB Ideal) (t : Fin 128)
    (hl : ∀ (r : Fin 8) (q : Fin 1024), vl (ix3 0 r q) = v (ix3 t r ⟨q.val, by omega⟩))
    (hr : ∀ (r : Fin 8) (q : Fin 1024), vr (ix3 0 r q) = v (ix3 t r ⟨1024 + q.val, by omega⟩))
    (r : Fin 8) (x : Fin 128) (n : Fin 16) : getB vl vr r x n = (v (ix3 t r (qn n x)) : EReal) := by
  have e {q q' : Fin 2048} (h : q.val = q'.val) : v (ix3 t r q) = v (ix3 t r q') := congrArg (fun q => v (ix3 t r q)) (Fin.ext h)
  fin_cases n
  · exact (hl r ⟨0 + x, by omega⟩).trans (e (by simp [qn]; try omega))
  · exact (hl r ⟨128 + x, by omega⟩).trans (e (by simp [qn]; try omega))
  · exact (hl r ⟨256 + x, by omega⟩).trans (e (by simp [qn]; try omega))
  · exact (hl r ⟨384 + x, by omega⟩).trans (e (by simp [qn]; try omega))
  · exact (hl r ⟨512 + x, by omega⟩).trans (e (by simp [qn]; try omega))
  · exact (hl r ⟨640 + x, by omega⟩).trans (e (by simp [qn]; try omega))
  · exact (hl r ⟨768 + x, by omega⟩).trans (e (by simp [qn]; try omega))
  · exact (hl r ⟨896 + x, by omega⟩).trans (e (by simp [qn]; try omega))
  · exact (hr r ⟨0 + x, by omega⟩).trans (e (by simp [qn]; try omega))
  · exact (hr r ⟨128 + x, by omega⟩).trans (e (by simp [qn]; try omega))
  · exact (hr r ⟨256 + x, by omega⟩).trans (e (by simp [qn]; try omega))
  · exact (hr r ⟨384 + x, by omega⟩).trans (e (by simp [qn]; try omega))
  · exact (hr r ⟨512 + x, by omega⟩).trans (e (by simp [qn]; try omega))
  · exact (hr r ⟨640 + x, by omega⟩).trans (e (by simp [qn]; try omega))
  · exact (hr r ⟨768 + x, by omega⟩).trans (e (by simp [qn]; try omega))
  · exact (hr r ⟨896 + x, by omega⟩).trans (e (by simp [qn]; try omega))
theorem offP0 (k : Fin k2_t1_loop.trips) : k2_off1 k = ![4 * k.val, 0, 0, 0] :=
  (by decide +kernel : ∀ k : Fin k2_t1_loop.trips, k2_off1 k = ![4 * k.val, 0, 0, 0]) k
theorem offL0 (k : Fin k2_t1_loop.trips) : k2_off2 k = ![4 * k.val, 0, 0] :=
  (by decide +kernel : ∀ k : Fin k2_t1_loop.trips, k2_off2 k = ![4 * k.val, 0, 0]) k
theorem offR0 (k : Fin k2_t1_loop.trips) : k2_off3 k = ![4 * k.val, 0, 1024] :=
  (by decide +kernel : ∀ k : Fin k2_t1_loop.trips, k2_off3 k = ![4 * k.val, 0, 1024]) k
theorem ldP0 (v : Vec Ideal S128x1x8x128 .f32) (k : Fin k2_t1_loop.trips) (r : Fin 8) (x : Fin 128) : View.ld v (rP0 k) (ix4 0 0 r x) = v (ix4 (tm k 0) 0 r x) := by
  unfold View.ld
  refine congrArg v (funext fun a => Fin.ext ?_)
  fin_cases a <;> simp [offP0 k, tm]
theorem ldL0 (v : Vec Ideal S128x8x2048 .f32) (k : Fin k2_t1_loop.trips) (r : Fin 8) (q : Fin 1024) : View.ld v (rL0 k) (ix3 0 r q) = v (ix3 (tm k 0) r ⟨q.val, by omega⟩) := by
  unfold View.ld
  refine congrArg v (funext fun a => Fin.ext ?_)
  fin_cases a <;> simp [offL0 k, tm]
theorem ldR0 (v : Vec Ideal S128x8x2048 .f32) (k : Fin k2_t1_loop.trips) (r : Fin 8) (q : Fin 1024) : View.ld v (rR0 k) (ix3 0 r q) = v (ix3 (tm k 0) r ⟨1024 + q.val, by omega⟩) := by
  unfold View.ld
  refine congrArg v (funext fun a => Fin.ext ?_)
  fin_cases a <;> simp [offR0 k, tm]
theorem getB0 (v : Vec Ideal S128x8x2048 .f32) (k : Fin k2_t1_loop.trips) (r : Fin 8) (x : Fin 128) (n : Fin 16) :
    getB (View.ld v (rL0 k)) (View.ld v (rR0 k)) r x n = (v (ix3 (tm k 0) r (qn n x)) : EReal) :=
  getB_of v _ _ (tm k 0) (ldL0 v k) (ldR0 v k) r x n
theorem offP1 (k : Fin k2_t1_loop.trips) : k2_off4 k 1#32 = ![4 * k.val + 1, 0, 0, 0] :=
  (by decide +kernel : ∀ k : Fin k2_t1_loop.trips, k2_off4 k 1#32 = ![4 * k.val + 1, 0, 0, 0]) k
theorem offL1 (k : Fin k2_t1_loop.trips) : k2_off5 k 1#32 = ![4 * k.val + 1, 0, 0] :=
  (by decide +kernel : ∀ k : Fin k2_t1_loop.trips, k2_off5 k 1#32 = ![4 * k.val + 1, 0, 0]) k
theorem offR1 (k : Fin k2_t1_loop.trips) : k2_off6 k 1#32 = ![4 * k.val + 1, 0, 1024] :=
  (by decide +kernel : ∀ k : Fin k2_t1_loop.trips, k2_off6 k 1#32 = ![4 * k.val + 1, 0, 1024]) k
theorem ldP1 (v : Vec Ideal S128x1x8x128 .f32) (k : Fin k2_t1_loop.trips) (r : Fin 8) (x : Fin 128) : View.ld v (rP1 k) (ix4 0 0 r x) = v (ix4 (tm k 1) 0 r x) := by
  unfold View.ld
  refine congrArg v (funext fun a => Fin.ext ?_)
  fin_cases a <;> simp [offP1 k, tm]
theorem ldL1 (v : Vec Ideal S128x8x2048 .f32) (k : Fin k2_t1_loop.trips) (r : Fin 8) (q : Fin 1024) : View.ld v (rL1 k) (ix3 0 r q) = v (ix3 (tm k 1) r ⟨q.val, by omega⟩) := by
  unfold View.ld
  refine congrArg v (funext fun a => Fin.ext ?_)
  fin_cases a <;> simp [offL1 k, tm]
theorem ldR1 (v : Vec Ideal S128x8x2048 .f32) (k : Fin k2_t1_loop.trips) (r : Fin 8) (q : Fin 1024) : View.ld v (rR1 k) (ix3 0 r q) = v (ix3 (tm k 1) r ⟨1024 + q.val, by omega⟩) := by
  unfold View.ld
  refine congrArg v (funext fun a => Fin.ext ?_)
  fin_cases a <;> simp [offR1 k, tm]
theorem getB1 (v : Vec Ideal S128x8x2048 .f32) (k : Fin k2_t1_loop.trips) (r : Fin 8) (x : Fin 128) (n : Fin 16) :
    getB (View.ld v (rL1 k)) (View.ld v (rR1 k)) r x n = (v (ix3 (tm k 1) r (qn n x)) : EReal) :=
  getB_of v _ _ (tm k 1) (ldL1 v k) (ldR1 v k) r x n
theorem offP2 (k : Fin k2_t1_loop.trips) : k2_off4 k 2#32 = ![4 * k.val + 2, 0, 0, 0] :=
  (by decide +kernel : ∀ k : Fin k2_t1_loop.trips, k2_off4 k 2#32 = ![4 * k.val + 2, 0, 0, 0]) k
theorem offL2 (k : Fin k2_t1_loop.trips) : k2_off5 k 2#32 = ![4 * k.val + 2, 0, 0] :=
  (by decide +kernel : ∀ k : Fin k2_t1_loop.trips, k2_off5 k 2#32 = ![4 * k.val + 2, 0, 0]) k
theorem offR2 (k : Fin k2_t1_loop.trips) : k2_off6 k 2#32 = ![4 * k.val + 2, 0, 1024] :=
  (by decide +kernel : ∀ k : Fin k2_t1_loop.trips, k2_off6 k 2#32 = ![4 * k.val + 2, 0, 1024]) k
theorem ldP2 (v : Vec Ideal S128x1x8x128 .f32) (k : Fin k2_t1_loop.trips) (r : Fin 8) (x : Fin 128) : View.ld v (rP2 k) (ix4 0 0 r x) = v (ix4 (tm k 2) 0 r x) := by
  unfold View.ld
  refine congrArg v (funext fun a => Fin.ext ?_)
  fin_cases a <;> simp [offP2 k, tm]
theorem ldL2 (v : Vec Ideal S128x8x2048 .f32) (k : Fin k2_t1_loop.trips) (r : Fin 8) (q : Fin 1024) : View.ld v (rL2 k) (ix3 0 r q) = v (ix3 (tm k 2) r ⟨q.val, by omega⟩) := by
  unfold View.ld
  refine congrArg v (funext fun a => Fin.ext ?_)
  fin_cases a <;> simp [offL2 k, tm]
theorem ldR2 (v : Vec Ideal S128x8x2048 .f32) (k : Fin k2_t1_loop.trips) (r : Fin 8) (q : Fin 1024) : View.ld v (rR2 k) (ix3 0 r q) = v (ix3 (tm k 2) r ⟨1024 + q.val, by omega⟩) := by
  unfold View.ld
  refine congrArg v (funext fun a => Fin.ext ?_)
  fin_cases a <;> simp [offR2 k, tm]
theorem getB2 (v : Vec Ideal S128x8x2048 .f32) (k : Fin k2_t1_loop.trips) (r : Fin 8) (x : Fin 128) (n : Fin 16) :
    getB (View.ld v (rL2 k)) (View.ld v (rR2 k)) r x n = (v (ix3 (tm k 2) r (qn n x)) : EReal) :=
  getB_of v _ _ (tm k 2) (ldL2 v k) (ldR2 v k) r x n
theorem offP3 (k : Fin k2_t1_loop.trips) : k2_off4 k 3#32 = ![4 * k.val + 3, 0, 0, 0] :=
  (by decide +kernel : ∀ k : Fin k2_t1_loop.trips, k2_off4 k 3#32 = ![4 * k.val + 3, 0, 0, 0]) k
theorem offL3 (k : Fin k2_t1_loop.trips) : k2_off5 k 3#32 = ![4 * k.val + 3, 0, 0] :=
  (by decide +kernel : ∀ k : Fin k2_t1_loop.trips, k2_off5 k 3#32 = ![4 * k.val + 3, 0, 0]) k
theorem offR3 (k : Fin k2_t1_loop.trips) : k2_off6 k 3#32 = ![4 * k.val + 3, 0, 1024] :=
  (by decide +kernel : ∀ k : Fin k2_t1_loop.trips, k2_off6 k 3#32 = ![4 * k.val + 3, 0, 1024]) k
theorem ldP3 (v : Vec Ideal S128x1x8x128 .f32) (k : Fin k2_t1_loop.trips) (r : Fin 8) (x : Fin 128) : View.ld v (rP3 k) (ix4 0 0 r x) = v (ix4 (tm k 3) 0 r x) := by
  unfold View.ld
  refine congrArg v (funext fun a => Fin.ext ?_)
  fin_cases a <;> simp [offP3 k, tm]
theorem ldL3 (v : Vec Ideal S128x8x2048 .f32) (k : Fin k2_t1_loop.trips) (r : Fin 8) (q : Fin 1024) : View.ld v (rL3 k) (ix3 0 r q) = v (ix3 (tm k 3) r ⟨q.val, by omega⟩) := by
  unfold View.ld
  refine congrArg v (funext fun a => Fin.ext ?_)
  fin_cases a <;> simp [offL3 k, tm]
theorem ldR3 (v : Vec Ideal S128x8x2048 .f32) (k : Fin k2_t1_loop.trips) (r : Fin 8) (q : Fin 1024) : View.ld v (rR3 k) (ix3 0 r q) = v (ix3 (tm k 3) r ⟨1024 + q.val, by omega⟩) := by
  unfold View.ld
  refine congrArg v (funext fun a => Fin.ext ?_)
  fin_cases a <;> simp [offR3 k, tm]
theorem getB3 (v : Vec Ideal S128x8x2048 .f32) (k : Fin k2_t1_loop.trips) (r : Fin 8) (x : Fin 128) (n : Fin 16) :
    getB (View.ld v (rL3 k)) (View.ld v (rR3 k)) r x n = (v (ix3 (tm k 3) r (qn n x)) : EReal) :=
  getB_of v _ _ (tm k 3) (ldL3 v k) (ldR3 v k) r x n

section
variable (p d : Vec Ideal S128x1x8x128 .f32) (be ce : Vec Ideal S128x8x2048 .f32) (g : Fin 8 → Fin 128 → Fin 16 → EReal)

/-- The states of row `r` and channel `x` after `s` steps of the block. -/
def eSt (r : Fin 8) (x : Fin 128) : ℕ → Fin 16 → EReal
  | 0 => g r x
  | s + 1 => fun n => if h : s < 128 then (p (ix4 ⟨s, h⟩ 0 r x) : EReal) ^ (n.val + 1) * eSt r x s n + d (ix4 ⟨s, h⟩ 0 r x) * be (ix3 ⟨s, h⟩ r (qn n x)) else 0
/-- The output of row `r` and channel `x` at step `s`. -/
def yE (r : Fin 8) (x : Fin 128) (s : Fin 128) : EReal := ∑ n : Fin 16, eSt p d be g r x (s.val + 1) n * ce (ix3 s r (qn n x))

theorem eSt_succ (r : Fin 8) (x : Fin 128) (k : Fin k2_t1_loop.trips) (i : Fin 4) (n : Fin 16) :
    eSt p d be g r x (4 * k.val + i.val + 1) n
      = ((p (ix4 (tm k i) 0 r x) : EReal) ^ (n.val + 1) * eSt p d be g r x (4 * k.val + i.val) n + d (ix4 (tm k i) 0 r x) * be (ix3 (tm k i) r (qn n x)) : EReal) :=
  dif_pos (tm k i).isLt

variable (k : Fin k2_t1_loop.trips) (st : St Ideal) (r : Fin 8) (x : Fin 128)
  (h : ∀ n, getSt st r x n = eSt p d be g r x (4 * k.val) n)
include h in
theorem tS0_at (n : Fin 16) : getSt (tS0 p d be k st) r x n = (eSt p d be g r x (4 * k.val + 1) n : EReal) := by
  refine (sSt_at _ _ _ _ st r x n).trans (Eq.trans ?_ (eSt_succ p d be g r x k 0 n).symm)
  exact congrArg₂ (fun a b : EReal => a + b)
    (congrArg₂ (fun a b : EReal => a ^ (n.val + 1) * b) (ldP0 p k r x) (h n))
    (congrArg₂ (fun a b : EReal => a * b) (ldP0 d k r x) (getB0 be k r x n))
include h in
theorem tO0_at : tO0 p d be ce k st (ix4 0 0 r x) = (yE p d be ce g r x (tm k 0) : EReal) := by
  refine (sOut_at _ _ _ _ _ _ st r x).trans ?_
  exact Finset.sum_congr rfl fun n _ => congrArg₂ (fun a b : EReal => a * b) (tS0_at p d be g k st r x h n) (getB0 ce k r x n)
include h in
theorem tS1_at (n : Fin 16) : getSt (tS1 p d be k st) r x n = (eSt p d be g r x (4 * k.val + 2) n : EReal) := by
  refine (sSt_at _ _ _ _ (tS0 p d be k st) r x n).trans (Eq.trans ?_ (eSt_succ p d be g r x k 1 n).symm)
  exact congrArg₂ (fun a b : EReal => a + b)
    (congrArg₂ (fun a b : EReal => a ^ (n.val + 1) * b) (ldP1 p k r x) (tS0_at p d be g k st r x h n))
    (congrArg₂ (fun a b : EReal => a * b) (ldP1 d k r x) (getB1 be k r x n))
include h in
theorem tO1_at : tO1 p d be ce k st (ix4 0 0 r x) = (yE p d be ce g r x (tm k 1) : EReal) := by
  refine (sOut_at _ _ _ _ _ _ (tS0 p d be k st) r x).trans ?_
  exact Finset.sum_congr rfl fun n _ => congrArg₂ (fun a b : EReal => a * b) (tS1_at p d be g k st r x h n) (getB1 ce k r x n)
include h in
theorem tS2_at (n : Fin 16) : getSt (tS2 p d be k st) r x n = (eSt p d be g r x (4 * k.val + 3) n : EReal) := by
  refine (sSt_at _ _ _ _ (tS1 p d be k st) r x n).trans (Eq.trans ?_ (eSt_succ p d be g r x k 2 n).symm)
  exact congrArg₂ (fun a b : EReal => a + b)
    (congrArg₂ (fun a b : EReal => a ^ (n.val + 1) * b) (ldP2 p k r x) (tS1_at p d be g k st r x h n))
    (congrArg₂ (fun a b : EReal => a * b) (ldP2 d k r x) (getB2 be k r x n))
include h in
theorem tO2_at : tO2 p d be ce k st (ix4 0 0 r x) = (yE p d be ce g r x (tm k 2) : EReal) := by
  refine (sOut_at _ _ _ _ _ _ (tS1 p d be k st) r x).trans ?_
  exact Finset.sum_congr rfl fun n _ => congrArg₂ (fun a b : EReal => a * b) (tS2_at p d be g k st r x h n) (getB2 ce k r x n)
include h in
theorem tS3_at (n : Fin 16) : getSt (tS3 p d be k st) r x n = (eSt p d be g r x (4 * k.val + 4) n : EReal) := by
  refine (sSt_at _ _ _ _ (tS2 p d be k st) r x n).trans (Eq.trans ?_ (eSt_succ p d be g r x k 3 n).symm)
  exact congrArg₂ (fun a b : EReal => a + b)
    (congrArg₂ (fun a b : EReal => a ^ (n.val + 1) * b) (ldP3 p k r x) (tS2_at p d be g k st r x h n))
    (congrArg₂ (fun a b : EReal => a * b) (ldP3 d k r x) (getB3 be k r x n))
include h in
theorem tO3_at : tO3 p d be ce k st (ix4 0 0 r x) = (yE p d be ce g r x (tm k 3) : EReal) := by
  refine (sOut_at _ _ _ _ _ _ (tS2 p d be k st) r x).trans ?_
  exact Finset.sum_congr rfl fun n _ => congrArg₂ (fun a b : EReal => a * b) (tS3_at p d be g k st r x h n) (getB3 ce k r x n)
end

section
variable (p d : Vec Ideal S128x1x8x128 .f32) (be ce : Vec Ideal S128x8x2048 .f32) (init : St Ideal)

/-- The block's outputs by index. -/
def yG : S128x1x8x128.Idx → EReal := fun i => yE p d be ce (getSt init) (i 2) (i 3) (i 0)

/-- A function of three arguments at equal arguments. -/
theorem eq3' {A B C : Type} (f : A → B → C → EReal) {a a' : A} {b b' : B} {x x' : C} (h1 : a = a') (h2 : b = b') (h3 : x = x') :
    f a b x = f a' b' x' := by rw [h1, h2, h3]

theorem pc0 (k : Fin k2_t1_loop.trips) (st : St Ideal) (h : ∀ r x n, getSt st r x n = eSt p d be (getSt init) r x (4 * k.val) n) (y : (rP0 k).shape.Idx) :
    tO0 p d be ce k st y = (yG p d be ce init ((rP0 k).emb y) : EReal) := by
  idx_vars y
  obtain rfl : y0 = 0 := Subsingleton.elim _ _
  obtain rfl : y1 = 0 := Subsingleton.elim _ _
  refine (tO0_at p d be ce (getSt init) k st y2 y3 (h y2 y3)).trans ?_
  refine eq3' (yE p d be ce (getSt init)) (a := y2) (b := y3) (x := tm k 0) ?_ ?_ ?_ <;> (refine Fin.ext ?_; simp [offP0 k, tm])
theorem pc1 (k : Fin k2_t1_loop.trips) (st : St Ideal) (h : ∀ r x n, getSt st r x n = eSt p d be (getSt init) r x (4 * k.val) n) (y : (rP1 k).shape.Idx) :
    tO1 p d be ce k st y = (yG p d be ce init ((rP1 k).emb y) : EReal) := by
  idx_vars y
  obtain rfl : y0 = 0 := Subsingleton.elim _ _
  obtain rfl : y1 = 0 := Subsingleton.elim _ _
  refine (tO1_at p d be ce (getSt init) k st y2 y3 (h y2 y3)).trans ?_
  refine eq3' (yE p d be ce (getSt init)) (a := y2) (b := y3) (x := tm k 1) ?_ ?_ ?_ <;> (refine Fin.ext ?_; simp [offP1 k, tm])
theorem pc2 (k : Fin k2_t1_loop.trips) (st : St Ideal) (h : ∀ r x n, getSt st r x n = eSt p d be (getSt init) r x (4 * k.val) n) (y : (rP2 k).shape.Idx) :
    tO2 p d be ce k st y = (yG p d be ce init ((rP2 k).emb y) : EReal) := by
  idx_vars y
  obtain rfl : y0 = 0 := Subsingleton.elim _ _
  obtain rfl : y1 = 0 := Subsingleton.elim _ _
  refine (tO2_at p d be ce (getSt init) k st y2 y3 (h y2 y3)).trans ?_
  refine eq3' (yE p d be ce (getSt init)) (a := y2) (b := y3) (x := tm k 2) ?_ ?_ ?_ <;> (refine Fin.ext ?_; simp [offP2 k, tm])
theorem pc3 (k : Fin k2_t1_loop.trips) (st : St Ideal) (h : ∀ r x n, getSt st r x n = eSt p d be (getSt init) r x (4 * k.val) n) (y : (rP3 k).shape.Idx) :
    tO3 p d be ce k st y = (yG p d be ce init ((rP3 k).emb y) : EReal) := by
  idx_vars y
  obtain rfl : y0 = 0 := Subsingleton.elim _ _
  obtain rfl : y1 = 0 := Subsingleton.elim _ _
  refine (tO3_at p d be ce (getSt init) k st y2 y3 (h y2 y3)).trans ?_
  refine eq3' (yE p d be ce (getSt init)) (a := y2) (b := y3) (x := tm k 3) ?_ ?_ ?_ <;> (refine Fin.ext ?_; simp [offP3 k, tm])

/-- Before every trip the states are those of its first step, and what is stored are the outputs. -/
theorem loopSt_at : ∀ k : ℕ, k ≤ k2_t1_loop.trips →
    (∀ r x n, getSt (loopSt p d be ce init k).1 r x n = eSt p d be (getSt init) r x (4 * k) n)
      ∧ ∀ pc ∈ (loopSt p d be ce init k).2, ∀ y : pc.1.shape.Idx, pc.2 y = yG p d be ce init (pc.1.emb y)
  | 0, _ => ⟨fun r x n => rfl, fun pc h => absurd h List.not_mem_nil⟩
  | k + 1, hk => by
    obtain ⟨ih, ihp⟩ := loopSt_at k (by omega)
    have hlt : k < k2_t1_loop.trips := hk
    rw [loopSt, dif_pos hlt]
    refine ⟨fun r x n => tS3_at p d be (getSt init) ⟨k, hlt⟩ _ r x (ih r x) n, fun pc hpc y => ?_⟩
    rcases List.mem_append.mp hpc with hm | hm
    · rcases List.mem_cons.mp hm with rfl | hm
      · exact pc3 p d be ce init ⟨k, hlt⟩ _ ih y
      rcases List.mem_cons.mp hm with rfl | hm
      · exact pc2 p d be ce init ⟨k, hlt⟩ _ ih y
      rcases List.mem_cons.mp hm with rfl | hm
      · exact pc1 p d be ce init ⟨k, hlt⟩ _ ih y
      rcases List.mem_cons.mp hm with rfl | hm
      · exact pc0 p d be ce init ⟨k, hlt⟩ _ ih y
      exact absurd hm List.not_mem_nil
    · exact ihp pc hm y
end

/-! The scratch of states. -/

theorem hinit_at (hs : Vec Ideal S8x2048 .f32) (r : Fin 8) (x : Fin 128) (n : Fin 16) : getSt (hinit hs) r x n = (hs (ix2 r (qn n x)) : EReal) := by
  have e (i : S8x2048.Idx) (h0 : (i 0).val = r.val) (h1 : (i 1).val = n.val * 128 + x.val) :
      (hs i : EReal) = hs (ix2 r (qn n x)) := congrArg hs (funext fun a => by fin_cases a; exacts [Fin.ext h0, Fin.ext h1])
  fin_cases n <;> exact e _ (by simp) (by simp)

/-- The stored states by index. -/
def hG (st : St Ideal) : S8x2048.Idx → EReal := fun i => getSt st (i 0) ⟨(i 1).val % 128, Nat.mod_lt _ (by decide)⟩ ⟨(i 1).val / 128, Nat.div_lt_of_lt_mul (i 1).isLt⟩

theorem hp0 (st : St Ideal) (y : rH0.shape.Idx) : k2_pay226 (st.1) y = (hG st (rH0.emb y) : EReal) := by
  idx_vars y
  refine (show _ = (st.1 (ix2 y0 y1) : EReal) by pointwise [k2_pay226]).trans ?_
  refine eq3' (getSt st) (a := y0) (b := y1) (x := 0) ?_ ?_ ?_ <;> (refine Fin.ext ?_; simp; try omega)
theorem hp1 (st : St Ideal) (y : rH1.shape.Idx) : k2_pay227 (st.2.1) y = (hG st (rH1.emb y) : EReal) := by
  idx_vars y
  refine (show _ = (st.2.1 (ix2 y0 y1) : EReal) by pointwise [k2_pay227]).trans ?_
  refine eq3' (getSt st) (a := y0) (b := y1) (x := 1) ?_ ?_ ?_ <;> (refine Fin.ext ?_; simp; try omega)
theorem hp2 (st : St Ideal) (y : rH2.shape.Idx) : k2_pay228 (st.2.2.1) y = (hG st (rH2.emb y) : EReal) := by
  idx_vars y
  refine (show _ = (st.2.2.1 (ix2 y0 y1) : EReal) by pointwise [k2_pay228]).trans ?_
  refine eq3' (getSt st) (a := y0) (b := y1) (x := 2) ?_ ?_ ?_ <;> (refine Fin.ext ?_; simp; try omega)
theorem hp3 (st : St Ideal) (y : rH3.shape.Idx) : k2_pay229 (st.2.2.2.1) y = (hG st (rH3.emb y) : EReal) := by
  idx_vars y
  refine (show _ = (st.2.2.2.1 (ix2 y0 y1) : EReal) by pointwise [k2_pay229]).trans ?_
  refine eq3' (getSt st) (a := y0) (b := y1) (x := 3) ?_ ?_ ?_ <;> (refine Fin.ext ?_; simp; try omega)
theorem hp4 (st : St Ideal) (y : rH4.shape.Idx) : k2_pay230 (st.2.2.2.2.1) y = (hG st (rH4.emb y) : EReal) := by
  idx_vars y
  refine (show _ = (st.2.2.2.2.1 (ix2 y0 y1) : EReal) by pointwise [k2_pay230]).trans ?_
  refine eq3' (getSt st) (a := y0) (b := y1) (x := 4) ?_ ?_ ?_ <;> (refine Fin.ext ?_; simp; try omega)
theorem hp5 (st : St Ideal) (y : rH5.shape.Idx) : k2_pay231 (st.2.2.2.2.2.1) y = (hG st (rH5.emb y) : EReal) := by
  idx_vars y
  refine (show _ = (st.2.2.2.2.2.1 (ix2 y0 y1) : EReal) by pointwise [k2_pay231]).trans ?_
  refine eq3' (getSt st) (a := y0) (b := y1) (x := 5) ?_ ?_ ?_ <;> (refine Fin.ext ?_; simp; try omega)
theorem hp6 (st : St Ideal) (y : rH6.shape.Idx) : k2_pay232 (st.2.2.2.2.2.2.1) y = (hG st (rH6.emb y) : EReal) := by
  idx_vars y
  refine (show _ = (st.2.2.2.2.2.2.1 (ix2 y0 y1) : EReal) by pointwise [k2_pay232]).trans ?_
  refine eq3' (getSt st) (a := y0) (b := y1) (x := 6) ?_ ?_ ?_ <;> (refine Fin.ext ?_; simp; try omega)
theorem hp7 (st : St Ideal) (y : rH7.shape.Idx) : k2_pay233 (st.2.2.2.2.2.2.2.1) y = (hG st (rH7.emb y) : EReal) := by
  idx_vars y
  refine (show _ = (st.2.2.2.2.2.2.2.1 (ix2 y0 y1) : EReal) by pointwise [k2_pay233]).trans ?_
  refine eq3' (getSt st) (a := y0) (b := y1) (x := 7) ?_ ?_ ?_ <;> (refine Fin.ext ?_; simp; try omega)
theorem hp8 (st : St Ideal) (y : rH8.shape.Idx) : k2_pay234 (st.2.2.2.2.2.2.2.2.1) y = (hG st (rH8.emb y) : EReal) := by
  idx_vars y
  refine (show _ = (st.2.2.2.2.2.2.2.2.1 (ix2 y0 y1) : EReal) by pointwise [k2_pay234]).trans ?_
  refine eq3' (getSt st) (a := y0) (b := y1) (x := 8) ?_ ?_ ?_ <;> (refine Fin.ext ?_; simp; try omega)
theorem hp9 (st : St Ideal) (y : rH9.shape.Idx) : k2_pay235 (st.2.2.2.2.2.2.2.2.2.1) y = (hG st (rH9.emb y) : EReal) := by
  idx_vars y
  refine (show _ = (st.2.2.2.2.2.2.2.2.2.1 (ix2 y0 y1) : EReal) by pointwise [k2_pay235]).trans ?_
  refine eq3' (getSt st) (a := y0) (b := y1) (x := 9) ?_ ?_ ?_ <;> (refine Fin.ext ?_; simp; try omega)
theorem hp10 (st : St Ideal) (y : rH10.shape.Idx) : k2_pay236 (st.2.2.2.2.2.2.2.2.2.2.1) y = (hG st (rH10.emb y) : EReal) := by
  idx_vars y
  refine (show _ = (st.2.2.2.2.2.2.2.2.2.2.1 (ix2 y0 y1) : EReal) by pointwise [k2_pay236]).trans ?_
  refine eq3' (getSt st) (a := y0) (b := y1) (x := 10) ?_ ?_ ?_ <;> (refine Fin.ext ?_; simp; try omega)
theorem hp11 (st : St Ideal) (y : rH11.shape.Idx) : k2_pay237 (st.2.2.2.2.2.2.2.2.2.2.2.1) y = (hG st (rH11.emb y) : EReal) := by
  idx_vars y
  refine (show _ = (st.2.2.2.2.2.2.2.2.2.2.2.1 (ix2 y0 y1) : EReal) by pointwise [k2_pay237]).trans ?_
  refine eq3' (getSt st) (a := y0) (b := y1) (x := 11) ?_ ?_ ?_ <;> (refine Fin.ext ?_; simp; try omega)
theorem hp12 (st : St Ideal) (y : rH12.shape.Idx) : k2_pay238 (st.2.2.2.2.2.2.2.2.2.2.2.2.1) y = (hG st (rH12.emb y) : EReal) := by
  idx_vars y
  refine (show _ = (st.2.2.2.2.2.2.2.2.2.2.2.2.1 (ix2 y0 y1) : EReal) by pointwise [k2_pay238]).trans ?_
  refine eq3' (getSt st) (a := y0) (b := y1) (x := 12) ?_ ?_ ?_ <;> (refine Fin.ext ?_; simp; try omega)
theorem hp13 (st : St Ideal) (y : rH13.shape.Idx) : k2_pay1 (st.2.2.2.2.2.2.2.2.2.2.2.2.2.1) y = (hG st (rH13.emb y) : EReal) := by
  idx_vars y
  refine (show _ = (st.2.2.2.2.2.2.2.2.2.2.2.2.2.1 (ix2 y0 y1) : EReal) by pointwise [k2_pay1]).trans ?_
  refine eq3' (getSt st) (a := y0) (b := y1) (x := 13) ?_ ?_ ?_ <;> (refine Fin.ext ?_; simp; try omega)
theorem hp14 (st : St Ideal) (y : rH14.shape.Idx) : k2_pay2 (st.2.2.2.2.2.2.2.2.2.2.2.2.2.2.1) y = (hG st (rH14.emb y) : EReal) := by
  idx_vars y
  refine (show _ = (st.2.2.2.2.2.2.2.2.2.2.2.2.2.2.1 (ix2 y0 y1) : EReal) by pointwise [k2_pay2]).trans ?_
  refine eq3' (getSt st) (a := y0) (b := y1) (x := 14) ?_ ?_ ?_ <;> (refine Fin.ext ?_; simp; try omega)
theorem hp15 (st : St Ideal) (y : rH15.shape.Idx) : k2_pay3 (st.2.2.2.2.2.2.2.2.2.2.2.2.2.2.2) y = (hG st (rH15.emb y) : EReal) := by
  idx_vars y
  refine (show _ = (st.2.2.2.2.2.2.2.2.2.2.2.2.2.2.2 (ix2 y0 y1) : EReal) by pointwise [k2_pay3]).trans ?_
  refine eq3' (getSt st) (a := y0) (b := y1) (x := 15) ?_ ?_ ?_ <;> (refine Fin.ext ?_; simp; try omega)

theorem hstore_at (st : St Ideal) (r : Fin 8) (x : Fin 128) (n : Fin 16) : hstore st (ix2 r (qn n x)) = (getSt st r x n : EReal) := by
  have e : hstore st (ix2 r (qn n x)) = hG st (ix2 r (qn n x)) := by
    unfold hstore
    refine View.canon_apply_of_pieces (Val := Elt Ideal) (hG st) _ (fun pc hm y => ?_) _ (coverH _ _ _ _ _ _ _ _ _ _ _ _ _ _ _ _ _)
    rcases List.mem_cons.mp hm with rfl | hm
    · exact hp15 st y
    rcases List.mem_cons.mp hm with rfl | hm
    · exact hp14 st y
    rcases List.mem_cons.mp hm with rfl | hm
    · exact hp13 st y
    rcases List.mem_cons.mp hm with rfl | hm
    · exact hp12 st y
    rcases List.mem_cons.mp hm with rfl | hm
    · exact hp11 st y
    rcases List.mem_cons.mp hm with rfl | hm
    · exact hp10 st y
    rcases List.mem_cons.mp hm with rfl | hm
    · exact hp9 st y
    rcases List.mem_cons.mp hm with rfl | hm
    · exact hp8 st y
    rcases List.mem_cons.mp hm with rfl | hm
    · exact hp7 st y
    rcases List.mem_cons.mp hm with rfl | hm
    · exact hp6 st y
    rcases List.mem_cons.mp hm with rfl | hm
    · exact hp5 st y
    rcases List.mem_cons.mp hm with rfl | hm
    · exact hp4 st y
    rcases List.mem_cons.mp hm with rfl | hm
    · exact hp3 st y
    rcases List.mem_cons.mp hm with rfl | hm
    · exact hp2 st y
    rcases List.mem_cons.mp hm with rfl | hm
    · exact hp1 st y
    rcases List.mem_cons.mp hm with rfl | hm
    · exact hp0 st y
    exact absurd hm List.not_mem_nil
  refine e.trans (eq3' (getSt st) rfl (Fin.ext ?_) (Fin.ext ?_))
  · show (n.val * 128 + x.val) % 128 = x.val
    omega
  · show (n.val * 128 + x.val) / 128 = n.val
    omega

section
variable (x0 x1 : Vec Ideal S128x1x8x128 .f32) (x2 x3 : Vec Ideal S128x1x8x16 .f32) (x4 : Vec Ideal S16x2048 .f32) (hs : Vec Ideal S8x2048 .f32)

theorem bexp_at (t : Fin 128) (r : Fin 8) (q : Fin 2048) : bexp x4 x2 (ix3 t r q) = (∑ k : Fin 16, x2 (ix4 t 0 r k) * x4 (ix2 k q) : EReal) := by
  unfold bexp
  rw [View.canon_unit_zero (by funext a; fin_cases a <;> rfl)]
  refine (p2_pay222 _ _ t r q).trans ?_
  exact Finset.sum_congr rfl fun k _ => congrArg₂ (fun a b : EReal => a * b)
    (congrFun (View.ld_unit_zero (by funext a; fin_cases a <;> rfl) _ x2) _) (congrFun (View.ld_unit_zero (by funext a; fin_cases a <;> rfl) _ x4) _)
theorem cexp_at (t : Fin 128) (r : Fin 8) (q : Fin 2048) : cexp x4 x3 (ix3 t r q) = (∑ k : Fin 16, x3 (ix4 t 0 r k) * x4 (ix2 k q) : EReal) := by
  unfold cexp
  rw [View.canon_unit_zero (by funext a; fin_cases a <;> rfl)]
  refine (p2_pay223 _ _ t r q).trans ?_
  exact Finset.sum_congr rfl fun k _ => congrArg₂ (fun a b : EReal => a * b)
    (congrFun (View.ld_unit_zero (by funext a; fin_cases a <;> rfl) _ x3) _) (congrFun (View.ld_unit_zero (by funext a; fin_cases a <;> rfl) _ x4) _)
theorem hzero_at (r : Fin 8) (q : Fin 2048) : hzero (F := Ideal) (ix2 r q) = (0 : EReal) := by
  unfold hzero
  rw [View.canon_unit_zero (by funext a; fin_cases a <;> rfl)]
  exact p2_pay220 r q

/-- The block's outputs. -/
theorem out2_at (s : Fin 128) (r : Fin 8) (x : Fin 128) :
    out2_5 x0 x1 x2 x3 x4 hs (ix4 s 0 r x) = (yE x0 x1 (bexp x4 x2) (cexp x4 x3) (getSt (hinit hs)) r x s : EReal) := by
  unfold out2_5 run2
  exact View.canon_apply_of_pieces (Val := Elt Ideal) (yG x0 x1 (bexp x4 x2) (cexp x4 x3) (hinit hs)) _
    (loopSt_at x0 x1 (bexp x4 x2) (cexp x4 x3) (hinit hs) k2_t1_loop.trips (Nat.le_refl _)).2 _ (coverY _ _ _ _ _ _)
/-- The states the block leaves. -/
theorem hstep_at (r : Fin 8) (x : Fin 128) (n : Fin 16) :
    hstep x0 x1 x2 x3 x4 hs (ix2 r (qn n x)) = (eSt x0 x1 (bexp x4 x2) (getSt (hinit hs)) r x 128 n : EReal) := by
  unfold hstep run2
  refine (hstore_at _ r x n).trans (((loopSt_at x0 x1 (bexp x4 x2) (cexp x4 x3) (hinit hs) k2_t1_loop.trips (Nat.le_refl _)).1 r x n).trans ?_)
  rw [trips32]
end

end Cert.KernelIdeal.Whole

end
-- ==== Proof.V.Pow.lean ====
/- The decay's powers: `exp (-d)` to the power `n + 1` is `exp` of `d` times minus `n + 1`, where the rates are the
   logarithms of 1 to 16. -/
module

public import proofs.«01_k».proof.Proof.V.Spec

@[expose] public section

noncomputable section

namespace Cert.Spec

open Idealize.ShloMosaic

/-- The exponential of the logarithm of a positive number is the number. -/
theorem exp_log_nat (n : ℕ) : Ideal.exp (Ideal.log (((n : ℝ) + 1 : ℝ) : EReal)) = (((n : ℝ) + 1 : ℝ) : EReal) := by
  have hp : (0 : ℝ) < (n : ℝ) + 1 := by positivity
  rw [Ideal.log_coe, if_neg (not_le.mpr hp), Ideal.exp_coe, Real.exp_log hp]

/-- No exponential is below nought. -/
theorem exp_nonneg (x : EReal) : 0 ≤ Ideal.exp x := by
  induction x with
  | bot => rw [Ideal.exp_bot]
  | top => rw [Ideal.exp_top]; exact le_top
  | coe r => rw [Ideal.exp_coe]; exact_mod_cast (Real.exp_pos r).le

/-- `log (1 + x)` is not minus infinity where `x` is not below nought. -/
theorem log1p_ne_bot (x : EReal) (h : 0 ≤ x) : Ideal.log1p x ≠ ⊥ := by
  unfold Ideal.log1p
  induction x with
  | bot => exact absurd h (by simp)
  | top => rw [EReal.add_top_of_ne_bot (x := 1) (EReal.coe_ne_bot 1), Ideal.log_top]; simp
  | coe r =>
    have hr : (0 : ℝ) ≤ r := by exact_mod_cast h
    rw [← EReal.coe_one, ← EReal.coe_add, Ideal.log_coe, if_neg (by linarith)]
    simp

/-- The softplus is not minus infinity. -/
theorem softplus_ne_bot (v : EReal) : softplus v ≠ ⊥ := by
  unfold softplus
  have h1 : max v 0 ≠ ⊥ := ne_of_gt (lt_of_lt_of_le (by simp) (le_max_right v 0))
  exact (EReal.add_ne_bot_iff).mpr ⟨h1, log1p_ne_bot _ (exp_nonneg _)⟩

/-- The decay's powers. -/
theorem exp_pow (d : EReal) (hd : d ≠ ⊥) (n : ℕ) : Ideal.exp (-d) ^ (n + 1) = Ideal.exp (d * -(((n : ℝ) + 1 : ℝ) : EReal)) := by
  have hp : (0 : ℝ) < (n : ℝ) + 1 := by positivity
  induction d with
  | bot => exact absurd rfl hd
  | top =>
    rw [EReal.neg_top, Ideal.exp_bot, zero_pow (Nat.succ_ne_zero n), ← EReal.coe_neg, EReal.top_mul_coe_of_neg (by linarith), Ideal.exp_bot]
  | coe r =>
    rw [← EReal.coe_neg, ← EReal.coe_neg, ← EReal.coe_mul, Ideal.exp_coe, Ideal.exp_coe, ← EReal.coe_pow, ← Real.exp_nat_mul]
    congr 2
    push_cast
    ring

end Cert.Spec

end
-- ==== Proof.KV.Val2.lean ====
/- What the scan leaves in its output array, at an element, from the inputs at launch. -/
module

public import proofs.«01_k».proof.Proof.KV.Val3
public import proofs.«01_k».proof.Proof.KV.Loop2
public import proofs.«01_k».proof.Proof.V.Pow

@[expose] public section

set_option maxRecDepth 16384

noncomputable section

namespace Cert.KernelIdeal.Whole

open Cert.KernelIdeal Cert.KernelIdeal.Gen
open Idealize.ShloMosaic Idealize.ShloMosaic.TcCoe
open Idealize.SL.Sem
open Idealize.ShloMosaic.Pipeline (Dat)
open Cert.Spec

section
variable (m : (ℓ : Loc nD τ sig) → Buf (Elt Ideal) ℓ) (ρ : Dev nD → PrngReg) (c : Dev nD)

/-- The states of a row after `k` positions. -/
def _root_.Cert.Spec.In.rh (I : In) (r : Fin 8) (ch : Fin 2048) (k : ℕ) (n : Fin 16) : EReal := hs (I.rP r) (I.a (rd r)) (I.rs r) ch k n

/-- The blocks' places at every grid point. -/
theorem idx2 : ∀ t : Fin cfg2.N, win2_0.index t = ![t.val % 4, 0, 0, t.val / 4] ∧ win2_1.index t = ![t.val % 4, 0, 0, t.val / 4]
    ∧ win2_2.index t = ![t.val % 4, 0, 0, 0] ∧ win2_3.index t = ![t.val % 4, 0, 0, 0] ∧ win2_4.index t = ![0, 0]
    ∧ win2_5.index t = ![t.val % 4, 0, 0, t.val / 4] ∧ t.val < 64 :=
  (by decide +kernel : ∀ t : Fin grid2.N, _)

/-- The position of a step of a grid point. -/
def l2 (t : Fin cfg2.N) (s : Fin 128) : Fin 512 := ⟨t.val % 4 * 128 + s.val, by omega⟩
/-- The channel of a column of a grid point. -/
def c2 (t : Fin cfg2.N) (x : Fin 128) : Fin 2048 := ⟨t.val / 4 * 128 + x.val, by have := (idx2 t).2.2.2.2.2.2; omega⟩

theorem w4_v40 (r : Fin 8) (l : Fin 512) (x : Fin 2048) : (show FVec Ideal S512x1x8x2048 .f32 from V4 m ρ c main_v40) (ix4 l 0 r x) = ((inp m c).rp r l x : EReal) :=
  (h_v40 (W3 m ρ c) l r x).trans (w3_v31_0 m ρ c r l x)
theorem w4_v41 (r : Fin 8) (l : Fin 512) (x : Fin 2048) : (show FVec Ideal S512x1x8x2048 .f32 from V4 m ρ c main_v41) (ix4 l 0 r x) = ((inp m c).rdu r l x : EReal) :=
  (h_v41 (W3 m ρ c) l r x).trans (w3_v31_1 m ρ c r l x)
theorem w4_v42 (r : Fin 8) (l : Fin 512) (x : Fin 16) : (show FVec Ideal S512x1x8x16 .f32 from V4 m ρ c main_v42) (ix4 l 0 r x) = ((inp m c).rB r l x : EReal) :=
  (h_v42 (W3 m ρ c) l r x).trans (w3_v31_2 m ρ c r l x)
theorem w4_v43 (r : Fin 8) (l : Fin 512) (x : Fin 16) : (show FVec Ideal S512x1x8x16 .f32 from V4 m ρ c main_v43) (ix4 l 0 r x) = ((inp m c).rC r l x : EReal) :=
  (h_v43 (W3 m ρ c) l r x).trans (w3_v31_3 m ρ c r l x)

variable (t : Fin cfg2.N)

theorem b2_0 (s : Fin 128) (r : Fin 8) (x : Fin 128) : (show Vec Ideal S128x1x8x128 .f32 from iblk2 (V4 m ρ) c 0 t) (ix4 s 0 r x) = ((inp m c).rp r (l2 t s) (c2 t x) : EReal) := by
  refine Eq.trans ?_ (w4_v40 m ρ c r (l2 t s) (c2 t x))
  blk_simp [iblk2]
  show V4 m ρ c main_v40 _ = V4 m ρ c main_v40 _
  blk_ext [l2, c2, idx2 t]
theorem b2_1 (s : Fin 128) (r : Fin 8) (x : Fin 128) : (show Vec Ideal S128x1x8x128 .f32 from iblk2 (V4 m ρ) c 1 t) (ix4 s 0 r x) = ((inp m c).rdu r (l2 t s) (c2 t x) : EReal) := by
  refine Eq.trans ?_ (w4_v41 m ρ c r (l2 t s) (c2 t x))
  blk_simp [iblk2]
  show V4 m ρ c main_v41 _ = V4 m ρ c main_v41 _
  blk_ext [l2, c2, idx2 t]
theorem b2_2 (s : Fin 128) (r : Fin 8) (x : Fin 16) : (show Vec Ideal S128x1x8x16 .f32 from iblk2 (V4 m ρ) c 2 t) (ix4 s 0 r x) = ((inp m c).rB r (l2 t s) x : EReal) := by
  refine Eq.trans ?_ (w4_v42 m ρ c r (l2 t s) x)
  blk_simp [iblk2]
  show V4 m ρ c main_v42 _ = V4 m ρ c main_v42 _
  blk_ext [l2, c2, idx2 t]
theorem b2_3 (s : Fin 128) (r : Fin 8) (x : Fin 16) : (show Vec Ideal S128x1x8x16 .f32 from iblk2 (V4 m ρ) c 3 t) (ix4 s 0 r x) = ((inp m c).rC r (l2 t s) x : EReal) := by
  refine Eq.trans ?_ (w4_v43 m ρ c r (l2 t s) x)
  blk_simp [iblk2]
  show V4 m ρ c main_v43 _ = V4 m ρ c main_v43 _
  blk_ext [l2, c2, idx2 t]
theorem b2_4 (k : Fin 16) (q : Fin 2048) : (show Vec Ideal S16x2048 .f32 from iblk2 (V4 m ρ) c 4 t) (ix2 k q) = (if k = (⟨q / 128, by omega⟩ : Fin 16) then 1 else 0 : EReal) := by
  refine Eq.trans ?_ (h_v39 (W3 m ρ c) k q)
  blk_simp [iblk2]
  show V4 m ρ c main_v39 _ = V4 m ρ c main_v39 _
  blk_ext [idx2 t]

/-- The matrix of ones picks the column's own block. -/
theorem hotSum (f : Fin 16 → EReal) (n : Fin 16) (x : Fin 128) :
    (∑ k : Fin 16, f k * (if k = (⟨(qn n x).val / 128, by have := (qn n x).isLt; omega⟩ : Fin 16) then 1 else 0 : EReal)) = f n := by
  have e : (⟨(qn n x).val / 128, by have := (qn n x).isLt; omega⟩ : Fin 16) = n := Fin.ext (by show (n.val * 128 + x.val) / 128 = n.val; omega)
  rw [e, Finset.sum_eq_single n]
  · rw [if_pos rfl, mul_one]
  · intro k _ hk; rw [if_neg hk, mul_zero]
  · intro h; exact absurd (Finset.mem_univ _) h

theorem be2 (s : Fin 128) (r : Fin 8) (x : Fin 128) (n : Fin 16) : bexp (iblk2 (V4 m ρ) c 4 t) (iblk2 (V4 m ρ) c 2 t) (ix3 s r (qn n x)) = ((inp m c).rB r (l2 t s) n : EReal) :=
  (bexp_at _ _ s r (qn n x)).trans ((Finset.sum_congr rfl fun k _ => congrArg₂ (fun a b : EReal => a * b) (b2_2 m ρ c t s r k) (b2_4 m ρ c t k (qn n x))).trans
    (hotSum (fun k => (inp m c).rB r (l2 t s) k) n x))
theorem ce2 (s : Fin 128) (r : Fin 8) (x : Fin 128) (n : Fin 16) : cexp (iblk2 (V4 m ρ) c 4 t) (iblk2 (V4 m ρ) c 3 t) (ix3 s r (qn n x)) = ((inp m c).rC r (l2 t s) n : EReal) :=
  (cexp_at _ _ s r (qn n x)).trans ((Finset.sum_congr rfl fun k _ => congrArg₂ (fun a b : EReal => a * b) (b2_3 m ρ c t s r k) (b2_4 m ρ c t k (qn n x))).trans
    (hotSum (fun k => (inp m c).rC r (l2 t s) k) n x))

/-- The rates are the logarithms of 1 to 16 in every row. -/
def _root_.Cert.Spec.In.Logs (I : In) : Prop := ∀ (d : Fin 2) (ch : Fin 2048) (n : Fin 16), I.a d (ix2 ch n) = Ideal.log (((n.val : ℝ) + 1 : ℝ) : EReal)

/-- A power of the decay is the decay at the state's own rate. -/
theorem rp_pow (I : In) (hI : I.Logs) (r : Fin 8) (l : Fin 512) (ch : Fin 2048) (n : Fin 16) :
    I.rp r l ch ^ (n.val + 1) = Ideal.exp (delta (I.rP r) (I.rs r) l ch * -Ideal.exp (I.a (rd r) (ix2 ch n))) := by
  rw [hI, exp_log_nat]
  exact exp_pow _ (softplus_ne_bot _) n.val

/-- The state's recurrence along a row. -/
theorem rh_succ (I : In) (hI : I.Logs) (r : Fin 8) (ch : Fin 2048) (l : Fin 512) (n : Fin 16) :
    I.rh r ch (l.val + 1) n = I.rp r l ch ^ (n.val + 1) * I.rh r ch l.val n + I.rdu r l ch * I.rB r l n := by
  rw [rp_pow I hI]
  exact dif_pos l.isLt

variable (hI : (inp m c).Logs)

include hI in
/-- Within a block the states follow the recurrence from what the scratch held. -/
theorem eSt2 (hs : Vec Ideal S8x2048 .f32) (h0 : ∀ r x n, hs (ix2 r (qn n x)) = ((inp m c).rh r (c2 t x) (t.val % 4 * 128) n : EReal)) (r : Fin 8) (x : Fin 128) :
    ∀ s : ℕ, s ≤ 128 → ∀ n, eSt (iblk2 (V4 m ρ) c 0 t) (iblk2 (V4 m ρ) c 1 t) (bexp (iblk2 (V4 m ρ) c 4 t) (iblk2 (V4 m ρ) c 2 t)) (getSt (hinit hs)) r x s n
      = (inp m c).rh r (c2 t x) (t.val % 4 * 128 + s) n
  | 0, _, n => (hinit_at hs r x n).trans (h0 r x n)
  | s + 1, hs', n => by
    have hlt : s < 128 := hs'
    refine (dif_pos hlt).trans (Eq.trans ?_ (rh_succ (inp m c) hI r (c2 t x) (l2 t ⟨s, hlt⟩) n).symm)
    exact congrArg₂ (fun a b : EReal => a + b)
      (congrArg₂ (fun a b : EReal => a ^ (n.val + 1) * b) (b2_0 m ρ c t ⟨s, hlt⟩ r x) (eSt2 hs h0 r x s (by omega) n))
      (congrArg₂ (fun a b : EReal => a * b) (b2_1 m ρ c t ⟨s, hlt⟩ r x) (be2 m ρ c t ⟨s, hlt⟩ r x n))

include hI in
/-- What the scratch holds when a grid point begins: the states after the positions before it. -/
theorem hIn2_at : ∀ (k : ℕ) (hk : k < cfg2.N) (r : Fin 8) (x : Fin 128) (n : Fin 16),
    hIn2 (V4 m ρ) c k hk (ix2 r (qn n x)) = ((inp m c).rh r (c2 ⟨k, hk⟩ x) (k % 4 * 128) n : EReal)
  | 0, hk, r, x, n => hzero_at r (qn n x)
  | k + 1, hk, r, x, n => by
    by_cases h : (k + 1) % 4 = 0
    · have e := congrFun (hIn2_A (V4 m ρ) c ⟨k + 1, hk⟩ h) (ix2 r (qn n x))
      refine e.trans ((hzero_at r (qn n x)).trans ?_)
      rw [h]
      rfl
    · have e : hIn2 (V4 m ρ) c (k + 1) hk = hAt2 (V4 m ρ) c k (Nat.lt_of_succ_lt hk) := if_neg h
      refine (congrFun (e.trans (hAt2_eq (V4 m ρ) c ⟨k, Nat.lt_of_succ_lt hk⟩)) (ix2 r (qn n x))).trans ?_
      refine (hstep_at _ _ _ _ _ _ r x n).trans ((eSt2 m ρ c ⟨k, Nat.lt_of_succ_lt hk⟩ hI _ (hIn2_at k (Nat.lt_of_succ_lt hk)) r x 128 (Nat.le_refl _) n).trans ?_)
      refine eq3' (fun ch k n => (inp m c).rh r ch k n) (Fin.ext ?_) ?_ rfl
      · show k / 4 * 128 + x.val = (k + 1) / 4 * 128 + x.val
        omega
      · show k % 4 * 128 + 128 = (k + 1) % 4 * 128
        omega

include hI in
theorem buf2_5 (s : Fin 128) (r : Fin 8) (x : Fin 128) :
    out2_5 (iblk2 (V4 m ρ) c 0 t) (iblk2 (V4 m ρ) c 1 t) (iblk2 (V4 m ρ) c 2 t) (iblk2 (V4 m ρ) c 3 t) (iblk2 (V4 m ρ) c 4 t) (hIn2 (V4 m ρ) c t.val t.isLt) (ix4 s 0 r x)
      = ((inp m c).ry r (l2 t s) (c2 t x) : EReal) := by
  refine (out2_at _ _ _ _ _ _ s r x).trans ?_
  exact Finset.sum_congr rfl fun n _ => congrArg₂ (fun a b : EReal => a * b)
    (eSt2 m ρ c t hI _ (hIn2_at m ρ c hI t.val t.isLt) r x (s.val + 1) s.isLt n) (ce2 m ρ c t s r x n)

include hI in
theorem fin2_5 : (dat2 (V4 m ρ) c).arrAt 5 cfg2.N = (show FVec Ideal S512x1x8x2048 .f32 from fun i => (inp m c).ry (i 2) (i 0) (i 3)) := by
  refine (dat2 (V4 m ρ) c).arrAt_eq_of_covers 5 _ (by decide +kernel) fun t _ y => ?_
  blk_simp
  rw [after2_5]
  idx_vars y
  obtain rfl : y1 = 0 := Subsingleton.elim _ _
  refine (buf2_5 m ρ c t hI y0 y2 y3).trans ?_
  refine eq3 (inp m c).ry (a := y2) (b := l2 t y0) (x := c2 t y3) ?_ ?_ ?_ <;> (refine Fin.ext ?_; blk_simp [idx2 t, l2, c2]; first | done | omega | rfl)
include hI in
/-- The scan's outputs. -/
theorem w5_v44 (r : Fin 8) (l : Fin 512) (ch : Fin 2048) : (show FVec Ideal S512x1x8x2048 .f32 from W5 m ρ c (Proc.devRef .tc main_v44)) (ix4 l 0 r ch) = ((inp m c).ry r l ch : EReal) :=
  congrFun ((W5_arr m ρ c 5).trans (fin2_5 m ρ c hI)) (ix4 l 0 r ch)
include hI in
/-- The kernel's result. -/
theorem result (b : Fin 4) (l : Fin 512) (j : Fin 1024) : (show FVec Ideal S4x512x1024 .f32 from W7 m ρ c (Proc.devRef .tc main_v46)) (ix3 b l j) = ((inp m c).out b l j : EReal) :=
  w7_v46 m ρ c (w5_v44 m ρ c hI) b l j
end

end Cert.KernelIdeal.Whole

end
-- ==== Proof.KV.Logs.lean ====
/- What the precondition says of the two arrays of rates: the logarithms of 1 to 16 in every row. -/
module

public import proofs.«01_k».proof.Defs
public import proofs.«01_k».proof.Proof.KV.Val2

@[expose] public section

set_option maxRecDepth 16384

noncomputable section

namespace Cert.KernelIdeal.Whole

open Cert.KernelIdeal Cert.KernelIdeal.Gen
open Idealize.ShloMosaic Idealize.ShloMosaic.TcCoe
open Idealize.SL.Sem
open Cert.Spec

/-- An equality test that says one is an equality. -/
theorem eq_of_oeq (a b : EReal) (h : (FloatOps.cmpf .oeq (show Ideal .f32 from a) (show Ideal .f32 from b) : BitVec 1) = 1#1) : a = b := by
  by_contra hne
  have h0 : BitVec.ofBool (decide (a = b)) = 1#1 := h
  rw [decide_eq_false hne] at h0
  exact absurd h0 (by decide)

/-- One more than a state's number, as the exact number the conversion gives. -/
theorem sitofp_succ (n : Fin 16) : (FloatOps.sitofp .f32 (BitVec.ofNat 32 n.val + 1#32) : Ideal .f32) = (((n.val : ℝ) + 1 : ℝ) : EReal) := by
  have e : (BitVec.ofNat 32 n.val + 1#32).toInt = (n.val : ℤ) + 1 := by revert n; decide
  show (((BitVec.ofNat 32 n.val + 1#32).toInt : ℝ) : EReal) = _
  rw [e]
  push_cast
  rfl

/-- An array that the equality test against the logarithms accepts everywhere holds the logarithms. -/
theorem logs_of_test [Cert.Pre_a_logs.Facts] (A : FVec Ideal S2048x16 .f32)
    (h : cmpf .oeq A (Host.log (sitofp .f32 (addi (iotaInDim S2048x16 32 1) (broadcastInDim S2048x16 ![] Cert.Pre_a_logs.Facts.bcast_S_S2048x16 (constantI S_ 32 1#32))))) = fun _ => 1#1)
    (ch : Fin 2048) (n : Fin 16) : A (ix2 ch n) = Ideal.log (((n.val : ℝ) + 1 : ℝ) : EReal) := by
  have h1 := congrFun h (ix2 ch n)
  have h2 := eq_of_oeq _ _ h1
  refine h2.trans ?_
  exact congrArg Ideal.log (sitofp_succ n)

/-- The precondition gives the rates of both directions. -/
theorem logs_of_pre [Cert.Pre_a_logs.Facts] (m : (ℓ : Loc nD τ sig) → Buf (Elt Ideal) ℓ) (h : Cert.Pre_KernelIdeal_a_logs m) (c : Dev nD) : (inp m c).Logs := by
  intro d ch n
  fin_cases d
  · exact logs_of_test _ (h c).1 ch n
  · exact logs_of_test _ (h c).2 ch n

end Cert.KernelIdeal.Whole

end
-- ==== Proof.lean ====
module

public import proofs.«01_k».proof.Proof.Gen.Pre_a_logs
public import proofs.«01_k».proof.Proof.K.Run
public import proofs.«01_k».proof.Proof.KI.Run
public import proofs.«01_k».proof.Proof.RI.Loop
public import proofs.«01_k».proof.Proof.KV.Logs

@[expose] public section

set_option maxRecDepth 16384

noncomputable section

namespace Cert.Proof

open Idealize.ShloMosaic Idealize.SL.Sem Cert.Kernel

/-- The reference ends with its arguments unchanged and its counters at zero. -/
theorem ref_frame : @Cert.quiescent_ReferenceIdeal Cert.ReferenceIdeal.Gen.facts := fun m g _ =>
  (θ_run _ _ _).mono (fun _ h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2.1, (h.1 c).2.2.2.2.2.2.2.2.2.2.2.1, (h.1 c).2.2.2.2.2.2.2.2.2.2.2.2.1, (h.1 c).2.2.2.2.2.2.2.2.2.2.2.2.2.1, (h.1 c).2.2.2.2.2.2.2.2.2.2.2.2.2.2.1, (h.1 c).2.2.2.2.2.2.2.2.2.2.2.2.2.2.2.1, (h.1 c).2.2.2.2.2.2.2.2.2.2.2.2.2.2.2.2.1⟩, h.2⟩) (Cert.ReferenceIdeal.Whole.run m g)

/-- Equal arguments are equal inputs. -/
theorem inp_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.Whole.inp m' c = Cert.KernelIdeal.Whole.inp m c := by
  obtain ⟨h0, h1, h2, h3, h4, h5, h6, h7, h8, h9, h10, h11, h12, h13, h14, h15, h16⟩ := h
  unfold Cert.ReferenceIdeal.Whole.inp Cert.KernelIdeal.Whole.inp
  rw [h0, h1, h2, h3, h4, h5, h6, h7, h8, h9, h10, h11, h12, h13, h14, h15, h16]

/-- The result of both programs, from the inputs. -/
def res (m : (ℓ : Loc Cert.KernelIdeal.nD Cert.KernelIdeal.τ Cert.KernelIdeal.sig) → Buf (Elt Ideal) ℓ) (c : Dev Cert.KernelIdeal.nD) : FVec Ideal Cert.KernelIdeal.S4x512x1024 .f32 :=
  fun i => (Cert.KernelIdeal.Whole.inp m c).out (i 0) (i 1) (i 2)

/-- An array that holds the result at every element is the result. -/
theorem eq_res (m : (ℓ : Loc Cert.KernelIdeal.nD Cert.KernelIdeal.τ Cert.KernelIdeal.sig) → Buf (Elt Ideal) ℓ) (c : Dev Cert.KernelIdeal.nD) (X : FVec Ideal Cert.KernelIdeal.S4x512x1024 .f32)
    (h : ∀ (b : Fin 4) (l : Fin 512) (j : Fin 1024), X (ix3 b l j) = ((Cert.KernelIdeal.Whole.inp m c).out b l j : EReal)) : X = res m c := by
  funext i
  idx_vars i
  exact h i0 i1 i2

/-- At exact values, and when the rates are the logarithms of 1 to 16, the kernel's result is the reference's. -/
theorem value : @Cert.algebraic_KernelIdeal_ReferenceIdeal_pre_a_logs Cert.KernelIdeal.Gen.facts Cert.ReferenceIdeal.Gen.facts Cert.Pre_a_logs.Gen.facts := by
  intro m g m' g' hpre hargs
  refine ⟨fun c => res m c, ?_, ?_⟩
  · refine (θ_run _ _ _).mono (fun r h c => ?_) (Cert.KernelIdeal.Whole.run m g)
    obtain ⟨h0, h1, h2, h3, h4, h5, h6, h7, h8, h9, h10, h11, h12, h13, h14, h15, h16, hv⟩ := h.1 c
    exact ⟨hv.trans (eq_res m c _ (Cert.KernelIdeal.Whole.result m g c (Cert.KernelIdeal.Whole.logs_of_pre m hpre c))), h0, h1, h2, h3, h4, h5, h6, h7, h8, h9, h10, h11, h12, h13, h14, h15, h16⟩
  · refine (θ_run _ _ _).mono (fun r h c => ?_) (Cert.ReferenceIdeal.Whole.run m' g')
    obtain ⟨h0, h1, h2, h3, h4, h5, h6, h7, h8, h9, h10, h11, h12, h13, h14, h15, h16, hv⟩ := h.1 c
    refine ⟨hv.trans (eq_res m c _ fun b l j => (Cert.ReferenceIdeal.Whole.result m' c b l j).trans ?_), h0, h1, h2, h3, h4, h5, h6, h7, h8, h9, h10, h11, h12, h13, h14, h15, h16⟩
    rw [inp_eq m m' c (hargs c)]

/-- Every claim. -/
theorem claim : Cert.Claim := ⟨Cert.Kernel.Gen.facts, Cert.KernelIdeal.Gen.facts, Cert.ReferenceIdeal.Gen.facts, Cert.Pre_a_logs.Gen.facts,
  fun m g _ => Cert.Kernel.Whole.frame m g,
  fun m g _ => Cert.KernelIdeal.Whole.frame m g,
  fun m g _ => Cert.KernelIdeal.Whole.frame m g,
  ref_frame,
  fun m g _ => ref_frame m g trivial,
  trivial, value⟩

end Cert.Proof

end
